-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_attention [hPre_finite_attention : Cert.Pre_finite_attention.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_attention.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite_attention.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite_attention.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite_attention.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_attention [hPre_finite_attention : Cert.Pre_finite_attention.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_attention.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite_attention.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite_attention.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite_attention.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_attention [hKernel5Ideal : Cert.Kernel5Ideal.Facts] [hPre_finite_attention : Cert.Pre_finite_attention.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_attention m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_attention [hReference5Ideal : Cert.Reference5Ideal.Facts] [hPre_finite_attention : Cert.Pre_finite_attention.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_attention m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)) (v3 : (c : Dev Cert.Kernel4Ideal.nD) → Buf (Elt Ideal) ((c.tc : Thread Cert.Kernel4Ideal.nD Cert.Kernel4Ideal.τ).loc Cert.Kernel4Ideal.main_v20_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_v20_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v119) = v0 c
          ∧ r.2.mem ((c.tc : Thread Cert.Reference4Ideal.nD Cert.Reference4Ideal.τ).loc Cert.Reference4Ideal.main_v125) = v1 c
          ∧ r.2.mem ((c.tc : Thread Cert.Reference4Ideal.nD Cert.Reference4Ideal.τ).loc Cert.Reference4Ideal.main_v126) = v2 c
          ∧ r.2.mem ((c.tc : Thread Cert.Reference4Ideal.nD Cert.Reference4Ideal.τ).loc Cert.Reference4Ideal.main_v128) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "q_scale" .f32 0x3E38AA3B#32 (((Real.log 256)⁻¹ : ℝ) : EReal)

def algebraic_Kernel5Ideal_Reference5Ideal_pre_finite_attention [hKernel5Ideal : Cert.Kernel5Ideal.Facts] [hReference5Ideal : Cert.Reference5Ideal.Facts] [hPre_finite_attention : Cert.Pre_finite_attention.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_attention m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_router : Cert.Pre_finite_router.Facts) (hPre_finite_attention : Cert.Pre_finite_attention.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_attention (hKernel5Ideal := hKernel5Ideal) (hPre_finite_attention := hPre_finite_attention)
    ∧ quiescent_Reference5Ideal (hReference5Ideal := hReference5Ideal)
    ∧ quiescent_Reference5Ideal_pre_finite_attention (hReference5Ideal := hReference5Ideal) (hPre_finite_attention := hPre_finite_attention)
    ∧ preserves_Kernel_KernelIdeal
    ∧ algebraic_KernelIdeal_ReferenceIdeal_pre_finite_router (hKernelIdeal := hKernelIdeal) (hReferenceIdeal := hReferenceIdeal) (hPre_finite_router := hPre_finite_router)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_attention (hKernel5Ideal := hKernel5Ideal) (hReference5Ideal := hReference5Ideal) (hPre_finite_attention := hPre_finite_attention)
-- ==== Pre_finite_attention.lean ====
abbrev S4x4096x4x2x64 : Shape := ⟨5, ![4, 4096, 4, 2, 64]⟩
abbrev S4x4096x4x128 : Shape := ⟨4, ![4, 4096, 4, 128]⟩
abbrev S1x4x64 : Shape := ⟨3, ![1, 4, 64]⟩
abbrev S1x128 : Shape := ⟨2, ![1, 128]⟩
abbrev S_ : Shape := ⟨0, ![]⟩

class Facts : Prop where
  bcast_S_S4x4096x4x2x64 : S_.BroadcastsInDim S4x4096x4x2x64 (![] : Fin 0 → Fin S4x4096x4x2x64.rank)
  bcast_S_S4x4096x4x128 : S_.BroadcastsInDim S4x4096x4x128 (![] : Fin 0 → Fin S4x4096x4x128.rank)
  bcast_S_S1x4x64 : S_.BroadcastsInDim S1x4x64 (![] : Fin 0 → Fin S1x4x64.rank)

variable [Facts]

def fn {F : FTy → Type} [FloatOps F] (main_arg0 : FVec F S4x4096x4x2x64 .f32) (main_arg1 : FVec F S4x4096x4x2x64 .f32) (main_arg2 : FVec F S4x4096x4x128 .f32) (main_arg3 : FVec F S1x4x64 .f32) (main_arg4 : FVec F S1x128 .f32) : IVec S4x4096x4x2x64 1 × IVec S4x4096x4x2x64 1 × IVec S4x4096x4x128 1 × IVec S1x4x64 1 :=
  let main_v0 : FVec F S4x4096x4x2x64 .f32 := Host.absf main_arg0
  let main_cst : FVec F S_ .f32 := constant S_ .f32 0x7F800000#32
  let main_v1 : FVec F S4x4096x4x2x64 .f32 := broadcastInDim S4x4096x4x2x64 ![] bcast_S_S4x4096x4x2x64 main_cst
  let main_v2 : IVec S4x4096x4x2x64 1 := cmpf .olt main_v0 main_v1
  let main_v3 : FVec F S4x4096x4x2x64 .f32 := Host.absf main_arg1
  let main_cst_0 : FVec F S_ .f32 := constant S_ .f32 0x7F800000#32
  let main_v4 : FVec F S4x4096x4x2x64 .f32 := broadcastInDim S4x4096x4x2x64 ![] bcast_S_S4x4096x4x2x64 main_cst_0
  let main_v5 : IVec S4x4096x4x2x64 1 := cmpf .olt main_v3 main_v4
  let main_v6 : FVec F S4x4096x4x128 .f32 := Host.absf main_arg2
  let main_cst_1 : FVec F S_ .f32 := constant S_ .f32 0x7F800000#32
  let main_v7 : FVec F S4x4096x4x128 .f32 := broadcastInDim S4x4096x4x128 ![] bcast_S_S4x4096x4x128 main_cst_1
  let main_v8 : IVec S4x4096x4x128 1 := cmpf .olt main_v6 main_v7
  let main_v9 : FVec F S1x4x64 .f32 := Host.absf main_arg3
  let main_cst_2 : FVec F S_ .f32 := constant S_ .f32 0x7F800000#32
  let main_v10 : FVec F S1x4x64 .f32 := broadcastInDim S1x4x64 ![] bcast_S_S1x4x64 main_cst_2
  let main_v11 : IVec S1x4x64 1 := cmpf .olt main_v9 main_v10
  (main_v2, main_v5, main_v8, main_v11)
-- ==== Pre_finite_router.lean ====
abbrev S4x4096x1024 : Shape := ⟨3, ![4, 4096, 1024]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x1024x8 : Shape := ⟨3, ![1, 1024, 8]⟩
abbrev S1024 : Shape := ⟨1, ![1024]⟩
abbrev S_ : Shape := ⟨0, ![]⟩

class Facts : Prop where
  slices_S2x1024_S1x1024_1_0 : S2x1024.Slices ![1, 0] S1x1024
  shapeCasts_S1x1024_S1024 : S1x1024.ShapeCasts S1024
  bcast_S_S1024 : S_.BroadcastsInDim S1024 (![] : Fin 0 → Fin S1024.rank)
  bcast_S_S1x1024x8 : S_.BroadcastsInDim S1x1024x8 (![] : Fin 0 → Fin S1x1024x8.rank)

variable [Facts]

def fn {F : FTy → Type} [FloatOps F] (main_arg0 : FVec F S4x4096x1024 .f32) (main_arg1 : FVec F S2x1024 .f32) (main_arg2 : FVec F S1x1024x2048 .f32) (main_arg3 : FVec F S1x1024 .f32) (main_arg4 : FVec F S1x1024 .f32) (main_arg5 : FVec F S1x8x128x128 .f32) (main_arg6 : FVec F S1x8x128 .f32) (main_arg7 : FVec F S1x1024x1024 .f32) (main_arg8 : FVec F S2x1024 .f32) (main_arg9 : FVec F S1x1024x8 .f32) : IVec S1024 1 × IVec S1x1024x8 1 :=
  let main_v0 : FVec F S1x1024 .f32 := (extractStridedSlice S1x1024 ![1, 0] · slices_S2x1024_S1x1024_1_0) main_arg8
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_v5 : FVec F S1x1024x8 .f32 := Host.absf main_arg9
  let main_cst_0 : FVec F S_ .f32 := constant S_ .f32 0x7F800000#32
  let main_v6 : FVec F S1x1024x8 .f32 := broadcastInDim S1x1024x8 ![] bcast_S_S1x1024x8 main_cst_0
  let main_v7 : IVec S1x1024x8 1 := cmpf .olt main_v5 main_v6
  (main_v4, main_v7)
-- ==== Kernel.lean ====
abbrev S4x4096x1024 : Shape := ⟨3, ![4, 4096, 1024]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x1024x8 : Shape := ⟨3, ![1, 1024, 8]⟩
abbrev S1024x8 : Shape := ⟨2, ![1024, 8]⟩
abbrev S1024x16 : Shape := ⟨2, ![1024, 16]⟩
abbrev S_ : Shape := ⟨0, ![]⟩
abbrev S1024x128 : Shape := ⟨2, ![1024, 128]⟩
abbrev S16384x1024 : Shape := ⟨2, ![16384, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S128x8 : Shape := ⟨2, ![128, 8]⟩
abbrev S1024x1024 : Shape := ⟨2, ![1024, 1024]⟩
abbrev S8x16384 : Shape := ⟨2, ![8, 16384]⟩
abbrev S512x1024 : Shape := ⟨2, ![512, 1024]⟩
abbrev S8x512 : Shape := ⟨2, ![8, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S128x128 : Shape := ⟨2, ![128, 128]⟩
abbrev S1x128x128 : Shape := ⟨3, ![1, 128, 128]⟩
abbrev S128x512 : Shape := ⟨2, ![128, 512]⟩
abbrev S128x1 : Shape := ⟨2, ![128, 1]⟩
abbrev S512x128 : Shape := ⟨2, ![512, 128]⟩
abbrev S1x512 : Shape := ⟨2, ![1, 512]⟩

abbrev nBuf : Space → Nat
  | .hbm => 41
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S1x1024x2048, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x1024x1024, .f32⟩
  | .hbm, ⟨8, _⟩ => ⟨S2x1024, .f32⟩
  | .hbm, ⟨9, _⟩ => ⟨S1x1024x8, .f32⟩
  | .hbm, ⟨10, _⟩ => ⟨S1024x8, .f32⟩
  | .hbm, ⟨11, _⟩ => ⟨S1024x8, .bf16⟩
  | .hbm, ⟨12, _⟩ => ⟨S1024x8, .f32⟩
  | .hbm, ⟨13, _⟩ => ⟨S1024x8, .f32⟩
  | .hbm, ⟨14, _⟩ => ⟨S1024x8, .bf16⟩
  | .hbm, ⟨15, _⟩ => ⟨S1024x16, .bf16⟩
  | .hbm, ⟨16, _⟩ => ⟨S_, .i32⟩
  | .hbm, ⟨17, _⟩ => ⟨S_, .bf16⟩
  | .hbm, ⟨18, _⟩ => ⟨S1024x128, .bf16⟩
  | .hbm, ⟨19, _⟩ => ⟨S16384x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024x2048, .f32⟩
  | .hbm, ⟨24, _⟩ => ⟨S1024x2048, .bf16⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S8x128x128, .f32⟩
  | .hbm, ⟨30, _⟩ => ⟨S8x128, .f32⟩
  | .hbm, ⟨31, _⟩ => ⟨S128x8, .f32⟩
  | .hbm, ⟨32, _⟩ => ⟨S1024x1024, .f32⟩
  | .hbm, ⟨33, _⟩ => ⟨S1024x1024, .bf16⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S8x16384, .i32⟩
  | .hbm, ⟨40, _⟩ => ⟨S8x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S1024x1024, .bf16⟩
  | .local _ .vmem, ⟨9, _⟩ => ⟨S1x1024, .f32⟩
  | .local _ .vmem, ⟨10, _⟩ => ⟨S1024x128, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S8x512, .i32⟩
  | .local _ .vmem, ⟨16, _⟩ => ⟨S8x512, .i32⟩
  | .local _ .vmem, ⟨17, _⟩ => ⟨S8x512, .f32⟩
  | .local _ .vmem, ⟨18, _⟩ => ⟨S8x512, .f32⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4x4096x1024 : Shape := ⟨3, ![4, 4096, 1024]⟩
abbrev S2x1024 : Shape := ⟨2, ![2, 1024]⟩
abbrev S1x1024x2048 : Shape := ⟨3, ![1, 1024, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1x1024x8 : Shape := ⟨3, ![1, 1024, 8]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x2048 : Shape := ⟨2, ![1024, 2048]⟩
abbrev S4x4096x2048 : Shape := ⟨3, ![4, 4096, 2048]⟩
abbrev S8x128x128 : Shape := ⟨3, ![8, 128, 128]⟩
abbrev S8x128 : Shape := ⟨2, ![8, 128]⟩
abbrev S4x32x128x8x128 : Shape := ⟨5, ![4, 32, 128, 8, 128]⟩
abbrev S128x128 : Shape := ⟨2, ![128, 128]⟩
abbrev S1x128x128 : Shape := ⟨3, ![1, 128, 128]⟩
abbrev S8x4x32x128x128 : Shape := ⟨5, ![8, 4, 32, 128, 128]⟩
abbrev S128x8 : Shape := ⟨2, ![128, 8]⟩
abbrev S1x1x128x8x1 : Shape := ⟨5, ![1, 1, 128, 8, 1]⟩
abbrev S1024x1024 : Shape := ⟨2, ![1024, 1024]⟩
abbrev S16384x1024 : Shape := ⟨2, ![16384, 1024]⟩
abbrev S1024x8 : Shape := ⟨2, ![1024, 8]⟩
abbrev S16384x8 : Shape := ⟨2, ![16384, 8]⟩
abbrev S16384x2 : Shape := ⟨2, ![16384, 2]⟩
abbrev S16384 : Shape := ⟨1, ![16384]⟩
abbrev S16384x1 : Shape := ⟨2, ![16384, 1]⟩
abbrev S2x16384 : Shape := ⟨2, ![2, 16384]⟩
abbrev S8x16384 : Shape := ⟨2, ![8, 16384]⟩

abbrev nBuf : Space → Nat
  | .hbm => 146
  | .vmem => 0
  | .smem => 0
  | _ => 0

abbrev hbmTy0_0 (i : Nat) : BufTy := match i % 128 with
  | 0 => ⟨S4x4096x1024, .f32⟩
  | 1 => ⟨S2x1024, .f32⟩
  | 2 => ⟨S1x1024x2048, .f32⟩
  | 3 => ⟨S1x1024, .f32⟩
  | 4 => ⟨S1x1024, .f32⟩
  | 5 => ⟨S1x8x128x128, .f32⟩
  | 6 => ⟨S1x8x128, .f32⟩
  | 7 => ⟨S1x1024x1024, .f32⟩
  | 8 => ⟨S2x1024, .f32⟩
  | 9 => ⟨S1x1024x8, .f32⟩
  | 10 => ⟨S1x1024, .f32⟩
  | 11 => ⟨S1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S1024x2048, .f32⟩
  | 29 => ⟨S4x4096x2048, .f32⟩
  | 30 => ⟨S_, .f32⟩
  | 31 => ⟨S4x4096x2048, .f32⟩
  | 32 => ⟨S4x4096x2048, .f32⟩
  | 33 => ⟨S4x4096x2048, .f32⟩
  | 34 => ⟨S_, .f32⟩
  | 35 => ⟨S4x4096x2048, .f32⟩
  | 36 => ⟨S4x4096x2048, .f32⟩
  | 37 => ⟨S4x4096x2048, .f32⟩
  | 38 => ⟨S4x4096x2048, .f32⟩
  | 39 => ⟨S4x4096x1024, .f32⟩
  | 40 => ⟨S4x4096x1024, .f32⟩
  | 41 => ⟨S1024, .f32⟩
  | 42 => ⟨S1024, .f32⟩
  | 43 => ⟨S_, .f32⟩
  | 44 => ⟨S4x4096, .f32⟩
  | 45 => ⟨S4x4096x1, .f32⟩
  | 46 => ⟨S_, .f32⟩
  | 47 => ⟨S4x4096x1, .f32⟩
  | 48 => ⟨S4x4096x1, .f32⟩
  | 49 => ⟨S4x4096x1024, .f32⟩
  | 50 => ⟨S4x4096x1024, .f32⟩
  | 51 => ⟨S4x4096x1024, .f32⟩
  | 52 => ⟨S_, .f32⟩
  | 53 => ⟨S4x4096, .f32⟩
  | 54 => ⟨S4x4096x1, .f32⟩
  | 55 => ⟨S_, .f32⟩
  | 56 => ⟨S4x4096x1, .f32⟩
  | 57 => ⟨S4x4096x1, .f32⟩
  | 58 => ⟨S4x4096x1024, .f32⟩
  | 59 => ⟨S4x4096x1024, .f32⟩
  | 60 => ⟨S_, .f32⟩
  | 61 => ⟨S4x4096x1, .f32⟩
  | 62 => ⟨S4x4096x1, .f32⟩
  | 63 => ⟨S4x4096x1, .f32⟩
  | 64 => ⟨S4x4096x1024, .f32⟩
  | 65 => ⟨S4x4096x1024, .f32⟩
  | 66 => ⟨S1x1x1024, .f32⟩
  | 67 => ⟨S4x4096x1024, .f32⟩
  | 68 => ⟨S4x4096x1024, .f32⟩
  | 69 => ⟨S1x1x1024, .f32⟩
  | 70 => ⟨S4x4096x1024, .f32⟩
  | 71 => ⟨S4x4096x1024, .f32⟩
  | 72 => ⟨S8x128x128, .f32⟩
  | 73 => ⟨S8x128, .f32⟩
  | 74 => ⟨S4x32x128x8x128, .f32⟩
  | 75 => ⟨S_, .f32⟩
  | 76 => ⟨S128x128, .f32⟩
  | 77 => ⟨S128x128, .i32⟩
  | 78 => ⟨S_, .i32⟩
  | 79 => ⟨S128x128, .i32⟩
  | 80 => ⟨S128x128, .i32⟩
  | 81 => ⟨S128x128, .i32⟩
  | 82 => ⟨S128x128, .i1⟩
  | 83 => ⟨S_, .f32⟩
  | 84 => ⟨S128x128, .f32⟩
  | 85 => ⟨S128x128, .f32⟩
  | 86 => ⟨S1x128x128, .f32⟩
  | 87 => ⟨S8x128x128, .f32⟩
  | 88 => ⟨S8x128x128, .f32⟩
  | 89 => ⟨S8x4x32x128x128, .f32⟩
  | 90 => ⟨S4x32x128x8x128, .f32⟩
  | 91 => ⟨S128x8, .f32⟩
  | 92 => ⟨S1x1x128x8x1, .f32⟩
  | 93 => ⟨S4x32x128x8x128, .f32⟩
  | 94 => ⟨S4x32x128x8x128, .f32⟩
  | 95 => ⟨S4x4096x1024, .f32⟩
  | 96 => ⟨S4x4096x1024, .f32⟩
  | 97 => ⟨S1024x1024, .f32⟩
  | 98 => ⟨S4x4096x1024, .f32⟩
  | 99 => ⟨S4x4096x1024, .f32⟩
  | 100 => ⟨S1x1024, .f32⟩
  | 101 => ⟨S1024, .f32⟩
  | 102 => ⟨S4x4096x1024, .f32⟩
  | 103 => ⟨S_, .f32⟩
  | 104 => ⟨S4x4096, .f32⟩
  | 105 => ⟨S4x4096x1, .f32⟩
  | 106 => ⟨S_, .f32⟩
  | 107 => ⟨S4x4096x1, .f32⟩
  | 108 => ⟨S4x4096x1, .f32⟩
  | 109 => ⟨S_, .f32⟩
  | 110 => ⟨S4x4096x1, .f32⟩
  | 111 => ⟨S4x4096x1, .f32⟩
  | 112 => ⟨S4x4096x1, .f32⟩
  | 113 => ⟨S4x4096x1024, .f32⟩
  | 114 => ⟨S4x4096x1024, .f32⟩
  | 115 => ⟨S1x1x1024, .f32⟩
  | 116 => ⟨S4x4096x1024, .f32⟩
  | 117 => ⟨S4x4096x1024, .f32⟩
  | 118 => ⟨S16384x1024, .f32⟩
  | 119 => ⟨S1024x8, .f32⟩
  | 120 => ⟨S16384x8, .f32⟩
  | 121 => ⟨S16384x2, .f32⟩
  | 122 => ⟨S16384x2, .i32⟩
  | 123 => ⟨S_, .f32⟩
  | 124 => ⟨S16384, .f32⟩
  | 125 => ⟨S_, .f32⟩
  | 126 => ⟨S16384, .f32⟩
  | 127 => ⟨S16384, .f32⟩
  | _ => ⟨S4x4096x1024, .f32⟩

abbrev hbmTy0_1 (i : Nat) : BufTy := match i % 128 with
  | 0 => ⟨S16384x1, .f32⟩
  | 1 => ⟨S16384x2, .f32⟩
  | 2 => ⟨S16384x2, .f32⟩
  | 3 => ⟨S16384x2, .f32⟩
  | 4 => ⟨S_, .f32⟩
  | 5 => ⟨S16384, .f32⟩
  | 6 => ⟨S16384x1, .f32⟩
  | 7 => ⟨S16384x2, .f32⟩
  | 8 => ⟨S16384x2, .f32⟩
  | 9 => ⟨S16384x1024, .f32⟩
  | 10 => ⟨S2x16384, .i32⟩
  | 11 => ⟨S_, .i32⟩
  | 12 => ⟨S_, .i32⟩
  | 13 => ⟨S8x16384, .i32⟩
  | 14 => ⟨S2x16384, .f32⟩
  | 15 => ⟨S_, .i32⟩
  | 16 => ⟨S_, .f32⟩
  | 17 => ⟨S8x16384, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_cst : Ref sig .tc := ⟨.hbm, 83, rfl⟩
abbrev main_call0_v5 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_10 : Ref sig .tc := ⟨.hbm, 103, rfl⟩
abbrev main_v74 : Ref sig .tc := ⟨.hbm, 104, rfl⟩
abbrev main_v75 : Ref sig .tc := ⟨.hbm, 105, rfl⟩
abbrev main_cst_11 : Ref sig .tc := ⟨.hbm, 106, rfl⟩
abbrev main_v76 : Ref sig .tc := ⟨.hbm, 107, rfl⟩
abbrev main_v77 : Ref sig .tc := ⟨.hbm, 108, rfl⟩
abbrev main_cst_12 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_values : Ref sig .tc := ⟨.hbm, 121, rfl⟩
abbrev main_indices : Ref sig .tc := ⟨.hbm, 122, rfl⟩
abbrev main_cst_13 : Ref sig .tc := ⟨.hbm, 123, rfl⟩
abbrev main_v89 : Ref sig .tc := ⟨.hbm, 124, rfl⟩
abbrev main_cst_14 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_15 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c : Ref sig .tc := ⟨.hbm, 139, rfl⟩
abbrev main_call1_v0 : Ref sig .tc := ⟨.hbm, 140, rfl⟩
abbrev main_v102 : Ref sig .tc := ⟨.hbm, 141, rfl⟩
abbrev main_v103 : Ref sig .tc := ⟨.hbm, 142, rfl⟩
abbrev main_c_16 : Ref sig .tc := ⟨.hbm, 143, rfl⟩
abbrev main_call2_v0 : Ref sig .tc := ⟨.hbm, 144, rfl⟩
abbrev main_v104 : Ref sig .tc := ⟨.hbm, 145, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S2x4x4096x256 : Shape := ⟨4, ![2, 4, 4096, 256]⟩
abbrev S1x1024x1024 : Shape := ⟨3, ![1, 1024, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S2x1024x1024 : Shape := ⟨3, ![2, 1024, 1024]⟩
abbrev S2x256x1024 : Shape := ⟨3, ![2, 256, 1024]⟩
abbrev S16384x1024 : Shape := ⟨2, ![16384, 1024]⟩
abbrev S16384x512 : Shape := ⟨2, ![16384, 512]⟩
abbrev S32768x256 : Shape := ⟨2, ![32768, 256]⟩
abbrev S1024x1024 : Shape := ⟨2, ![1024, 1024]⟩
abbrev S1x1024 : Shape := ⟨2, ![1, 1024]⟩
abbrev S1024 : Shape := ⟨1, ![1024]⟩
abbrev S1024x2816 : Shape := ⟨2, ![1024, 2816]⟩
abbrev S2816x1024 : Shape := ⟨2, ![2816, 1024]⟩
abbrev S1x256x1024 : Shape := ⟨3, ![1, 256, 1024]⟩
abbrev S256x1024 : Shape := ⟨2, ![256, 1024]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1024x256 : Shape := ⟨2, ![1024, 256]⟩

abbrev nBuf : Space → Nat
  | .hbm => 37
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S2x4x4096x256, .f32⟩
  | .hbm, ⟨4, _⟩ => ⟨S1x1024x1024, .f32⟩
  | .hbm, ⟨5, _⟩ => ⟨S2x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S2x1024, .f32⟩
  | .hbm, ⟨10, _⟩ => ⟨S2x1024x1024, .f32⟩
  | .hbm, ⟨11, _⟩ => ⟨S2x256x1024, .f32⟩
  | .hbm, ⟨12, _⟩ => ⟨S16384x1024, .f32⟩
  | .hbm, ⟨13, _⟩ => ⟨S16384x512, .bf16⟩
  | .hbm, ⟨14, _⟩ => ⟨S16384x512, .bf16⟩
  | .hbm, ⟨15, _⟩ => ⟨S32768x256, .f32⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024x2816, .f32⟩
  | .hbm, ⟨22, _⟩ => ⟨S1024x2816, .bf16⟩
  | .hbm, ⟨23, _⟩ => ⟨S1024x2816, .f32⟩
  | .hbm, ⟨24, _⟩ => ⟨S1024x2816, .bf16⟩
  | .hbm, ⟨25, _⟩ => ⟨S2816x1024, .f32⟩
  | .hbm, ⟨26, _⟩ => ⟨S2816x1024, .bf16⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x1024x1024, .f32⟩
  | .hbm, ⟨31, _⟩ => ⟨S1024x1024, .f32⟩
  | .hbm, ⟨32, _⟩ => ⟨S1024x1024, .bf16⟩
  | .hbm, ⟨33, _⟩ => ⟨S1x256x1024, .f32⟩
  | .hbm, ⟨34, _⟩ => ⟨S256x1024, .f32⟩
  | .hbm, ⟨35, _⟩ => ⟨S256x1024, .bf16⟩
  | .hbm, ⟨36, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S1024x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1024x1024, .bf16⟩
  | .local _ .vmem, ⟨15, _⟩ => ⟨S256x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S4x4096x1024 : Shape := ⟨3, ![4, 4096, 1024]⟩
abbrev S4x4096x512 : Shape := ⟨3, ![4, 4096, 512]⟩
abbrev S2x4x4096x256 : Shape := ⟨4, ![2, 4, 4096, 256]⟩
abbrev S1x1024x1024 : Shape := ⟨3, ![1, 1024, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S2x1024x1024 : Shape := ⟨3, ![2, 1024, 1024]⟩
abbrev S2x256x1024 : Shape := ⟨3, ![2, 256, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S4x4096x2816 : Shape := ⟨3, ![4, 4096, 2816]⟩
abbrev S1x4x4096x256 : Shape := ⟨4, ![1, 4, 4096, 256]⟩
abbrev S4x4096x256 : Shape := ⟨3, ![4, 4096, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S2x4x4096x256, .f32⟩
  | .hbm, ⟨4, _⟩ => ⟨S1x1024x1024, .f32⟩
  | .hbm, ⟨5, _⟩ => ⟨S2x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S2x1024, .f32⟩
  | .hbm, ⟨10, _⟩ => ⟨S2x1024x1024, .f32⟩
  | .hbm, ⟨11, _⟩ => ⟨S2x256x1024, .f32⟩
  | .hbm, ⟨12, _⟩ => ⟨S4x4096x1024, .bf16⟩
  | .hbm, ⟨13, _⟩ => ⟨S4x4096x1024, .f32⟩
  | .hbm, ⟨14, _⟩ => ⟨S1024x1024, .f32⟩
  | .hbm, ⟨15, _⟩ => ⟨S4x4096x1024, .f32⟩
  | .hbm, ⟨16, _⟩ => ⟨S4x4096x1024, .f32⟩
  | .hbm, ⟨17, _⟩ => ⟨S1x1024, .f32⟩
  | .hbm, ⟨18, _⟩ => ⟨S1024, .f32⟩
  | .hbm, ⟨19, _⟩ => ⟨S4x4096x1024, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1, .f32⟩
  | .hbm, ⟨30, _⟩ => ⟨S4x4096x1024, .f32⟩
  | .hbm, ⟨31, _⟩ => ⟨S4x4096x1024, .f32⟩
  | .hbm, ⟨32, _⟩ => ⟨S1x1x1024, .f32⟩
  | .hbm, ⟨33, _⟩ => ⟨S4x4096x1024, .f32⟩
  | .hbm, ⟨34, _⟩ => ⟨S4x4096x1024, .f32⟩
  | .hbm, ⟨35, _⟩ => ⟨S1024x2816, .f32⟩
  | .hbm, ⟨36, _⟩ => ⟨S1024x2816, .f32⟩
  | .hbm, ⟨37, _⟩ => ⟨S2816x1024, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S_, .f32⟩
  | .hbm, ⟨42, _⟩ => ⟨S4x4096x2816, .f32⟩
  | .hbm, ⟨43, _⟩ => ⟨S4x4096x2816, .f32⟩
  | .hbm, ⟨44, _⟩ => ⟨S_, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S4x4096x2816, .f32⟩
  | .hbm, ⟨50, _⟩ => ⟨S4x4096x1024, .f32⟩
  | .hbm, ⟨51, _⟩ => ⟨S4x4096x1024, .f32⟩
  | .hbm, ⟨52, _⟩ => ⟨S1x1024, .f32⟩
  | .hbm, ⟨53, _⟩ => ⟨S1024, .f32⟩
  | .hbm, ⟨54, _⟩ => ⟨S4x4096x1024, .f32⟩
  | .hbm, ⟨55, _⟩ => ⟨S_, .f32⟩
  | .hbm, ⟨56, _⟩ => ⟨S4x4096, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S4x4096x1, .f32⟩
  | .hbm, ⟨65, _⟩ => ⟨S4x4096x1024, .f32⟩
  | .hbm, ⟨66, _⟩ => ⟨S4x4096x1024, .f32⟩
  | .hbm, ⟨67, _⟩ => ⟨S1x1x1024, .f32⟩
  | .hbm, ⟨68, _⟩ => ⟨S4x4096x1024, .f32⟩
  | .hbm, ⟨69, _⟩ => ⟨S4x4096x1024, .f32⟩
  | .hbm, ⟨70, _⟩ => ⟨S1x1024x1024, .f32⟩
  | .hbm, ⟨71, _⟩ => ⟨S1024x1024, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S_, .f32⟩
  | .hbm, ⟨76, _⟩ => ⟨S4x4096x1024, .f32⟩
  | .hbm, ⟨77, _⟩ => ⟨S4x4096x1024, .f32⟩
  | .hbm, ⟨78, _⟩ => ⟨S_, .f32⟩
  | .hbm, ⟨79, _⟩ => ⟨S4x4096x1024, .f32⟩
  | .hbm, ⟨80, _⟩ => ⟨S4x4096x1024, .f32⟩
  | .hbm, ⟨81, _⟩ => ⟨S1x4x4096x256, .f32⟩
  | .hbm, ⟨82, _⟩ => ⟨S4x4096x256, .f32⟩
  | .hbm, ⟨83, _⟩ => ⟨S1x256x1024, .f32⟩
  | .hbm, ⟨84, _⟩ => ⟨S256x1024, .f32⟩
  | .hbm, ⟨85, _⟩ => ⟨S4x4096x1024, .f32⟩
  | .hbm, ⟨86, _⟩ => ⟨S4x4096x1024, .f32⟩
  | .hbm, ⟨87, _⟩ => ⟨S4x4096x1024, .f32⟩
  | .hbm, ⟨88, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]
-- ==== Kernel3.lean ====
abbrev S4x4096x1024 : Shape := ⟨3, ![4, 4096, 1024]⟩
abbrev S33792x1024 : Shape := ⟨2, ![33792, 1024]⟩
abbrev S8x16384 : Shape := ⟨2, ![8, 16384]⟩
abbrev S2x4x4096x256 : Shape := ⟨4, ![2, 4, 4096, 256]⟩
abbrev S2x1024 : Shape := ⟨2, ![2, 1024]⟩
abbrev S2x1024x1024 : Shape := ⟨3, ![2, 1024, 1024]⟩
abbrev S2x256x1024 : Shape := ⟨3, ![2, 256, 1024]⟩
abbrev S1024 : Shape := ⟨1, ![1024]⟩
abbrev S16384x1024 : Shape := ⟨2, ![16384, 1024]⟩
abbrev S32768x256 : Shape := ⟨2, ![32768, 256]⟩
abbrev S1x1024 : Shape := ⟨2, ![1, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S512x1024 : Shape := ⟨2, ![512, 1024]⟩
abbrev S8x512 : Shape := ⟨2, ![8, 512]⟩
abbrev S512x256 : Shape := ⟨2, ![512, 256]⟩
abbrev S120x512 : Shape := ⟨2, ![120, 512]⟩
abbrev S128x512 : Shape := ⟨2, ![128, 512]⟩
abbrev S512x128 : Shape := ⟨2, ![512, 128]⟩
abbrev S512x1 : Shape := ⟨2, ![512, 1]⟩
abbrev S512 : Shape := ⟨1, ![512]⟩

abbrev nBuf : Space → Nat
  | .hbm => 21
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S33792x1024, .f32⟩
  | .hbm, ⟨2, _⟩ => ⟨S8x16384, .f32⟩
  | .hbm, ⟨3, _⟩ => ⟨S2x4x4096x256, .f32⟩
  | .hbm, ⟨4, _⟩ => ⟨S2x1024, .f32⟩
  | .hbm, ⟨5, _⟩ => ⟨S2x1024x1024, .f32⟩
  | .hbm, ⟨6, _⟩ => ⟨S2x256x1024, .f32⟩
  | .hbm, ⟨7, _⟩ => ⟨S1024, .f32⟩
  | .hbm, ⟨8, _⟩ => ⟨S16384x1024, .f32⟩
  | .hbm, ⟨9, _⟩ => ⟨S32768x256, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024x1024, .f32⟩
  | .hbm, ⟨14, _⟩ => ⟨S1024x1024, .f32⟩
  | .hbm, ⟨15, _⟩ => ⟨S1024x1024, .bf16⟩
  | .hbm, ⟨16, _⟩ => ⟨S1x256x1024, .f32⟩
  | .hbm, ⟨17, _⟩ => ⟨S256x1024, .f32⟩
  | .hbm, ⟨18, _⟩ => ⟨S256x1024, .bf16⟩
  | .hbm, ⟨19, _⟩ => ⟨S1x1024, .f32⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x512, .f32⟩
  | .local _ .vmem, ⟨7, _⟩ => ⟨S8x512, .f32⟩
  | .local _ .vmem, ⟨8, _⟩ => ⟨S512x256, .f32⟩
  | .local _ .vmem, ⟨9, _⟩ => ⟨S512x256, .f32⟩
  | .local _ .vmem, ⟨10, _⟩ => ⟨S1x1024, .f32⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c33_i32 : BitVec 32 := 33#32
  let v0 : BitVec 32 := Scalar.addi c33_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S4x4096x1024 : Shape := ⟨3, ![4, 4096, 1024]⟩
abbrev S33792x1024 : Shape := ⟨2, ![33792, 1024]⟩
abbrev S8x16384 : Shape := ⟨2, ![8, 16384]⟩
abbrev S2x4x4096x256 : Shape := ⟨4, ![2, 4, 4096, 256]⟩
abbrev S2x1024 : Shape := ⟨2, ![2, 1024]⟩
abbrev S2x1024x1024 : Shape := ⟨3, ![2, 1024, 1024]⟩
abbrev S2x256x1024 : Shape := ⟨3, ![2, 256, 1024]⟩
abbrev S1024 : Shape := ⟨1, ![1024]⟩
abbrev S2x16896x1024 : Shape := ⟨3, ![2, 16896, 1024]⟩
abbrev S2x16384x1024 : Shape := ⟨3, ![2, 16384, 1024]⟩
abbrev S1x16384x1024 : Shape := ⟨3, ![1, 16384, 1024]⟩
abbrev S16384x1024 : Shape := ⟨2, ![16384, 1024]⟩
abbrev S1x16384 : Shape := ⟨2, ![1, 16384]⟩
abbrev S16384 : Shape := ⟨1, ![16384]⟩
abbrev S16384x1 : Shape := ⟨2, ![16384, 1]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x4x4096x256 : Shape := ⟨4, ![1, 4, 4096, 256]⟩
abbrev S4x4096x256 : Shape := ⟨3, ![4, 4096, 256]⟩
abbrev S1x256x1024 : Shape := ⟨3, ![1, 256, 1024]⟩
abbrev S256x1024 : Shape := ⟨2, ![256, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S33792x1024, .f32⟩
  | .hbm, ⟨2, _⟩ => ⟨S8x16384, .f32⟩
  | .hbm, ⟨3, _⟩ => ⟨S2x4x4096x256, .f32⟩
  | .hbm, ⟨4, _⟩ => ⟨S2x1024, .f32⟩
  | .hbm, ⟨5, _⟩ => ⟨S2x1024x1024, .f32⟩
  | .hbm, ⟨6, _⟩ => ⟨S2x256x1024, .f32⟩
  | .hbm, ⟨7, _⟩ => ⟨S1024, .f32⟩
  | .hbm, ⟨8, _⟩ => ⟨S2x16896x1024, .f32⟩
  | .hbm, ⟨9, _⟩ => ⟨S2x16384x1024, .f32⟩
  | .hbm, ⟨10, _⟩ => ⟨S1x16384x1024, .f32⟩
  | .hbm, ⟨11, _⟩ => ⟨S16384x1024, .f32⟩
  | .hbm, ⟨12, _⟩ => ⟨S1x16384, .f32⟩
  | .hbm, ⟨13, _⟩ => ⟨S16384, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x16384x1024, .f32⟩
  | .hbm, ⟨18, _⟩ => ⟨S16384x1024, .f32⟩
  | .hbm, ⟨19, _⟩ => ⟨S1x16384, .f32⟩
  | .hbm, ⟨20, _⟩ => ⟨S16384, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S4x4096x1024, .f32⟩
  | .hbm, ⟨26, _⟩ => ⟨S4x4096x1024, .f32⟩
  | .hbm, ⟨27, _⟩ => ⟨S1x1024, .f32⟩
  | .hbm, ⟨28, _⟩ => ⟨S1024, .f32⟩
  | .hbm, ⟨29, _⟩ => ⟨S4x4096x1024, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x1024, .f32⟩
  | .hbm, ⟨41, _⟩ => ⟨S4x4096x1024, .f32⟩
  | .hbm, ⟨42, _⟩ => ⟨S1x1x1024, .f32⟩
  | .hbm, ⟨43, _⟩ => ⟨S4x4096x1024, .f32⟩
  | .hbm, ⟨44, _⟩ => ⟨S4x4096x1024, .f32⟩
  | .hbm, ⟨45, _⟩ => ⟨S1x1024x1024, .f32⟩
  | .hbm, ⟨46, _⟩ => ⟨S1024x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096x1024, .f32⟩
  | .hbm, ⟨55, _⟩ => ⟨S4x4096x1024, .f32⟩
  | .hbm, ⟨56, _⟩ => ⟨S1x4x4096x256, .f32⟩
  | .hbm, ⟨57, _⟩ => ⟨S4x4096x256, .f32⟩
  | .hbm, ⟨58, _⟩ => ⟨S1x256x1024, .f32⟩
  | .hbm, ⟨59, _⟩ => ⟨S256x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S4x4096x1, .f32⟩
  | .hbm, ⟨74, _⟩ => ⟨S4x4096x1024, .f32⟩
  | .hbm, ⟨75, _⟩ => ⟨S4x4096x1024, .f32⟩
  | .hbm, ⟨76, _⟩ => ⟨S1x1x1024, .f32⟩
  | .hbm, ⟨77, _⟩ => ⟨S4x4096x1024, .f32⟩
  | .hbm, ⟨78, _⟩ => ⟨S4x4096x1024, .f32⟩
  | .hbm, ⟨79, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_4 : Ref sig .tc := ⟨.hbm, 64, rfl⟩
abbrev main_v51 : Ref sig .tc := ⟨.hbm, 65, rfl⟩
abbrev main_v52 : Ref sig .tc := ⟨.hbm, 66, rfl⟩
abbrev main_cst_5 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x4096 : Shape := ⟨2, ![4, 4096]⟩
abbrev S2x1024 : Shape := ⟨2, ![2, 1024]⟩
abbrev S1x512x3 : Shape := ⟨3, ![1, 512, 3]⟩
abbrev S1x1024x3072 : Shape := ⟨3, ![1, 1024, 3072]⟩
abbrev S16384x1024 : Shape := ⟨2, ![16384, 1024]⟩
abbrev S32x1x512 : Shape := ⟨3, ![32, 1, 512]⟩
abbrev S8 : Shape := ⟨1, ![8]⟩
abbrev S_ : Shape := ⟨0, ![]⟩
abbrev S8x1 : Shape := ⟨2, ![8, 1]⟩
abbrev S1x1024 : Shape := ⟨2, ![1, 1024]⟩
abbrev S1024 : Shape := ⟨1, ![1024]⟩
abbrev S512x3 : Shape := ⟨2, ![512, 3]⟩
abbrev S3x512 : Shape := ⟨2, ![3, 512]⟩
abbrev S1024x3072 : Shape := ⟨2, ![1024, 3072]⟩
abbrev S512x16384 : Shape := ⟨2, ![512, 16384]⟩
abbrev S16384x512 : Shape := ⟨2, ![16384, 512]⟩
abbrev S4x64x144x256 : Shape := ⟨4, ![4, 64, 144, 256]⟩
abbrev S512x1024 : Shape := ⟨2, ![512, 1024]⟩
abbrev S1x1x512 : Shape := ⟨3, ![1, 1, 512]⟩
abbrev S512x512 : Shape := ⟨2, ![512, 512]⟩
abbrev S4x2x144x256 : Shape := ⟨4, ![4, 2, 144, 256]⟩
abbrev S520x512 : Shape := ⟨2, ![520, 512]⟩
abbrev S512 : Shape := ⟨1, ![512]⟩
abbrev S512x1 : Shape := ⟨2, ![512, 1]⟩
abbrev S1x512 : Shape := ⟨2, ![1, 512]⟩
abbrev S8x512 : Shape := ⟨2, ![8, 512]⟩
abbrev S48x512 : Shape := ⟨2, ![48, 512]⟩
abbrev S128x512 : Shape := ⟨2, ![128, 512]⟩
abbrev S512x128 : Shape := ⟨2, ![512, 128]⟩
abbrev S1024x512 : Shape := ⟨2, ![1024, 512]⟩
abbrev S16x256 : Shape := ⟨2, ![16, 256]⟩
abbrev S256x128 : Shape := ⟨2, ![256, 128]⟩
abbrev S128x256 : Shape := ⟨2, ![128, 256]⟩
abbrev S1x1x128x256 : Shape := ⟨4, ![1, 1, 128, 256]⟩
abbrev S1x1x16x256 : Shape := ⟨4, ![1, 1, 16, 256]⟩

abbrev nBuf : Space → Nat
  | .hbm => 33
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S2x1024, .f32⟩
  | .hbm, ⟨3, _⟩ => ⟨S1x512x3, .f32⟩
  | .hbm, ⟨4, _⟩ => ⟨S1x1024x3072, .f32⟩
  | .hbm, ⟨5, _⟩ => ⟨S16384x1024, .f32⟩
  | .hbm, ⟨6, _⟩ => ⟨S32x1x512, .i32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S8x1, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S512x3, .f32⟩
  | .hbm, ⟨26, _⟩ => ⟨S3x512, .f32⟩
  | .hbm, ⟨27, _⟩ => ⟨S1024x3072, .f32⟩
  | .hbm, ⟨28, _⟩ => ⟨S1024x3072, .bf16⟩
  | .hbm, ⟨29, _⟩ => ⟨S512x16384, .bf16⟩
  | .hbm, ⟨30, _⟩ => ⟨S16384x512, .bf16⟩
  | .hbm, ⟨31, _⟩ => ⟨S4x64x144x256, .bf16⟩
  | .hbm, ⟨32, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1x512, .i32⟩
  | .local _ .vmem, ⟨3, _⟩ => ⟨S1x1x512, .i32⟩
  | .local _ .vmem, ⟨4, _⟩ => ⟨S1x1024, .f32⟩
  | .local _ .vmem, ⟨5, _⟩ => ⟨S8x1, .f32⟩
  | .local _ .vmem, ⟨6, _⟩ => ⟨S3x512, .f32⟩
  | .local _ .vmem, ⟨7, _⟩ => ⟨S1024x3072, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S4x2x144x256, .bf16⟩
  | .local _ .vmem, ⟨13, _⟩ => ⟨S4x2x144x256, .bf16⟩
  | .local _ .vmem, ⟨14, _⟩ => ⟨S512x512, .bf16⟩
  | .local _ .vmem, ⟨15, _⟩ => ⟨S512x512, .bf16⟩
  | .local _ .vmem, ⟨16, _⟩ => ⟨S520x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x2x144x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4x4096x1024 : Shape := ⟨3, ![4, 4096, 1024]⟩
abbrev S4x4096 : Shape := ⟨2, ![4, 4096]⟩
abbrev S2x1024 : Shape := ⟨2, ![2, 1024]⟩
abbrev S1x512x3 : Shape := ⟨3, ![1, 512, 3]⟩
abbrev S1x1024x3072 : Shape := ⟨3, ![1, 1024, 3072]⟩
abbrev S1x1024 : Shape := ⟨2, ![1, 1024]⟩
abbrev S1024 : Shape := ⟨1, ![1024]⟩
abbrev S_ : Shape := ⟨0, ![]⟩
abbrev S4x4096x1 : Shape := ⟨3, ![4, 4096, 1]⟩
abbrev S1x1x1024 : Shape := ⟨3, ![1, 1, 1024]⟩
abbrev S1024x3072 : Shape := ⟨2, ![1024, 3072]⟩
abbrev S4x4096x3072 : Shape := ⟨3, ![4, 4096, 3072]⟩
abbrev S4x4096x512 : Shape := ⟨3, ![4, 4096, 512]⟩
abbrev S4x4096x4x2x64 : Shape := ⟨5, ![4, 4096, 4, 2, 64]⟩
abbrev S8 : Shape := ⟨1, ![8]⟩
abbrev S1x1x8 : Shape := ⟨3, ![1, 1, 8]⟩
abbrev S4x4096x8 : Shape := ⟨3, ![4, 4096, 8]⟩
abbrev S4x4096x1x1x8 : Shape := ⟨5, ![4, 4096, 1, 1, 8]⟩
abbrev S4x4096x4x2x8 : Shape := ⟨5, ![4, 4096, 4, 2, 8]⟩
abbrev S4x4096x4x2x48 : Shape := ⟨5, ![4, 4096, 4, 2, 48]⟩
abbrev S512x3 : Shape := ⟨2, ![512, 3]⟩
abbrev S4x4098x512 : Shape := ⟨3, ![4, 4098, 512]⟩
abbrev S512x1 : Shape := ⟨2, ![512, 1]⟩
abbrev S512 : Shape := ⟨1, ![512]⟩
abbrev S1x1x512 : Shape := ⟨3, ![1, 1, 512]⟩
abbrev S16384x512 : Shape := ⟨2, ![16384, 512]⟩
abbrev S512x16384 : Shape := ⟨2, ![512, 16384]⟩
abbrev S64x256x4x128 : Shape := ⟨4, ![64, 256, 4, 128]⟩
abbrev S4x64x128x256 : Shape := ⟨4, ![4, 64, 128, 256]⟩
abbrev S4x64x16x256 : Shape := ⟨4, ![4, 64, 16, 256]⟩
abbrev S4x64x144x256 : Shape := ⟨4, ![4, 64, 144, 256]⟩

abbrev nBuf : Space → Nat
  | .hbm => 148
  | .vmem => 0
  | .smem => 0
  | _ => 0

abbrev hbmTy0_0 (i : Nat) : BufTy := match i % 128 with
  | 0 => ⟨S4x4096x1024, .f32⟩
  | 1 => ⟨S4x4096, .i32⟩
  | 2 => ⟨S2x1024, .f32⟩
  | 3 => ⟨S1x512x3, .f32⟩
  | 4 => ⟨S1x1024x3072, .f32⟩
  | 5 => ⟨S1x1024, .f32⟩
  | 6 => ⟨S1024, .f32⟩
  | 7 => ⟨S4x4096x1024, .f32⟩
  | 8 => ⟨S_, .f32⟩
  | 9 => ⟨S4x4096, .f32⟩
  | 10 => ⟨S4x4096x1, .f32⟩
  | 11 => ⟨S_, .f32⟩
  | 12 => ⟨S4x4096x1, .f32⟩
  | 13 => ⟨S4x4096x1, .f32⟩
  | 14 => ⟨S_, .f32⟩
  | 15 => ⟨S4x4096x1, .f32⟩
  | 16 => ⟨S4x4096x1, .f32⟩
  | 17 => ⟨S4x4096x1, .f32⟩
  | 18 => ⟨S4x4096x1024, .f32⟩
  | 19 => ⟨S4x4096x1024, .f32⟩
  | 20 => ⟨S1x1x1024, .f32⟩
  | 21 => ⟨S4x4096x1024, .f32⟩
  | 22 => ⟨S4x4096x1024, .f32⟩
  | 23 => ⟨S1024x3072, .f32⟩
  | 24 => ⟨S4x4096x3072, .f32⟩
  | 25 => ⟨S4x4096x512, .f32⟩
  | 26 => ⟨S4x4096x512, .f32⟩
  | 27 => ⟨S4x4096x512, .f32⟩
  | 28 => ⟨S4x4096x512, .f32⟩
  | 29 => ⟨S4x4096x512, .f32⟩
  | 30 => ⟨S4x4096x512, .f32⟩
  | 31 => ⟨S4x4096x4x2x64, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S8, .f32⟩
  | 40 => ⟨S_, .f32⟩
  | 41 => ⟨S8, .f32⟩
  | 42 => ⟨S8, .f32⟩
  | 43 => ⟨S_, .f32⟩
  | 44 => ⟨S8, .f32⟩
  | 45 => ⟨S8, .f32⟩
  | 46 => ⟨S4x4096, .f32⟩
  | 47 => ⟨S4x4096x1, .f32⟩
  | 48 => ⟨S1x1x8, .f32⟩
  | 49 => ⟨S4x4096x8, .f32⟩
  | 50 => ⟨S4x4096x8, .f32⟩
  | 51 => ⟨S4x4096x8, .f32⟩
  | 52 => ⟨S4x4096x8, .f32⟩
  | 53 => ⟨S4x4096x1x1x8, .f32⟩
  | 54 => ⟨S4x4096x8, .f32⟩
  | 55 => ⟨S4x4096x1x1x8, .f32⟩
  | 56 => ⟨S4x4096x4x2x8, .f32⟩
  | 57 => ⟨S4x4096x4x2x8, .f32⟩
  | 58 => ⟨S4x4096x4x2x8, .f32⟩
  | 59 => ⟨S4x4096x4x2x8, .f32⟩
  | 60 => ⟨S4x4096x4x2x8, .f32⟩
  | 61 => ⟨S4x4096x4x2x8, .f32⟩
  | 62 => ⟨S4x4096x4x2x8, .f32⟩
  | 63 => ⟨S4x4096x4x2x8, .f32⟩
  | 64 => ⟨S4x4096x4x2x8, .f32⟩
  | 65 => ⟨S4x4096x4x2x8, .f32⟩
  | 66 => ⟨S4x4096x4x2x8, .f32⟩
  | 67 => ⟨S4x4096x4x2x8, .f32⟩
  | 68 => ⟨S4x4096x4x2x48, .f32⟩
  | 69 => ⟨S4x4096x4x2x64, .f32⟩
  | 70 => ⟨S4x4096x4x2x64, .f32⟩
  | 71 => ⟨S8, .f32⟩
  | 72 => ⟨S_, .f32⟩
  | 73 => ⟨S8, .f32⟩
  | 74 => ⟨S8, .f32⟩
  | 75 => ⟨S_, .f32⟩
  | 76 => ⟨S8, .f32⟩
  | 77 => ⟨S8, .f32⟩
  | 78 => ⟨S8, .f32⟩
  | 79 => ⟨S_, .f32⟩
  | 80 => ⟨S8, .f32⟩
  | 81 => ⟨S8, .f32⟩
  | 82 => ⟨S_, .f32⟩
  | 83 => ⟨S8, .f32⟩
  | 84 => ⟨S8, .f32⟩
  | 85 => ⟨S4x4096, .f32⟩
  | 86 => ⟨S4x4096x1, .f32⟩
  | 87 => ⟨S1x1x8, .f32⟩
  | 88 => ⟨S4x4096x8, .f32⟩
  | 89 => ⟨S4x4096x8, .f32⟩
  | 90 => ⟨S4x4096x8, .f32⟩
  | 91 => ⟨S4x4096x8, .f32⟩
  | 92 => ⟨S4x4096x1x1x8, .f32⟩
  | 93 => ⟨S4x4096x8, .f32⟩
  | 94 => ⟨S4x4096x1x1x8, .f32⟩
  | 95 => ⟨S4x4096x4x2x8, .f32⟩
  | 96 => ⟨S4x4096x4x2x8, .f32⟩
  | 97 => ⟨S4x4096x4x2x8, .f32⟩
  | 98 => ⟨S4x4096x4x2x8, .f32⟩
  | 99 => ⟨S4x4096x4x2x8, .f32⟩
  | 100 => ⟨S4x4096x4x2x8, .f32⟩
  | 101 => ⟨S4x4096x4x2x8, .f32⟩
  | 102 => ⟨S4x4096x4x2x8, .f32⟩
  | 103 => ⟨S4x4096x4x2x8, .f32⟩
  | 104 => ⟨S4x4096x4x2x8, .f32⟩
  | 105 => ⟨S4x4096x4x2x8, .f32⟩
  | 106 => ⟨S4x4096x4x2x8, .f32⟩
  | 107 => ⟨S4x4096x4x2x48, .f32⟩
  | 108 => ⟨S4x4096x4x2x64, .f32⟩
  | 109 => ⟨S4x4096x512, .f32⟩
  | 110 => ⟨S512x3, .f32⟩
  | 111 => ⟨S_, .i32⟩
  | 112 => ⟨S_, .f32⟩
  | 113 => ⟨S4x4098x512, .f32⟩
  | 114 => ⟨S4x4096x512, .f32⟩
  | 115 => ⟨S512x1, .f32⟩
  | 116 => ⟨S512, .f32⟩
  | 117 => ⟨S1x1x512, .f32⟩
  | 118 => ⟨S4x4096x512, .f32⟩
  | 119 => ⟨S4x4096x512, .f32⟩
  | 120 => ⟨S4x4096x512, .f32⟩
  | 121 => ⟨S512x1, .f32⟩
  | 122 => ⟨S512, .f32⟩
  | 123 => ⟨S1x1x512, .f32⟩
  | 124 => ⟨S4x4096x512, .f32⟩
  | 125 => ⟨S4x4096x512, .f32⟩
  | 126 => ⟨S4x4096x512, .f32⟩
  | 127 => ⟨S4x4096x512, .f32⟩
  | _ => ⟨S4x4096x1024, .f32⟩

abbrev hbmTy0_1 (i : Nat) : BufTy := match i % 128 with
  | 0 => ⟨S512x1, .f32⟩
  | 1 => ⟨S512, .f32⟩
  | 2 => ⟨S1x1x512, .f32⟩
  | 3 => ⟨S4x4096x512, .f32⟩
  | 4 => ⟨S4x4096x512, .f32⟩
  | 5 => ⟨S4x4096x512, .f32⟩
  | 6 => ⟨S4x4096x512, .f32⟩
  | 7 => ⟨S16384x512, .f32⟩
  | 8 => ⟨S512x16384, .f32⟩
  | 9 => ⟨S512x16384, .bf16⟩
  | 10 => ⟨S64x256x4x128, .f32⟩
  | 11 => ⟨S4x64x128x256, .f32⟩
  | 12 => ⟨S_, .f32⟩
  | 13 => ⟨S4x64x16x256, .f32⟩
  | 14 => ⟨S4x64x144x256, .f32⟩
  | 15 => ⟨S16384x512, .f32⟩
  | 16 => ⟨S16384x512, .bf16⟩
  | 17 => ⟨S4x64x144x256, .bf16⟩
  | 18 => ⟨S16384x512, .f32⟩
  | 19 => ⟨S16384x512, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_6 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_8 : Ref sig .tc := ⟨.hbm, 79, rfl⟩
abbrev main_v65 : Ref sig .tc := ⟨.hbm, 80, rfl⟩
abbrev main_v66 : Ref sig .tc := ⟨.hbm, 81, rfl⟩
abbrev main_cst_9 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_c : Ref sig .tc := ⟨.hbm, 111, rfl⟩
abbrev main_call0_v0 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_cst_10 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩

abbrev nD : Nat := 1
abbrev τ : Topo := Topo.v7x

variable {F : FTy → Type} [FloatOps F]
-- ==== Kernel5.lean ====
abbrev S4x4096x4x2x64 : Shape := ⟨5, ![4, 4096, 4, 2, 64]⟩
abbrev S4x4096x4x128 : Shape := ⟨4, ![4, 4096, 4, 128]⟩
abbrev S1x4x64 : Shape := ⟨3, ![1, 4, 64]⟩
abbrev S1x128 : Shape := ⟨2, ![1, 128]⟩
abbrev S16384x512 : Shape := ⟨2, ![16384, 512]⟩
abbrev S512x16384 : Shape := ⟨2, ![512, 16384]⟩
abbrev S64x256x4x128 : Shape := ⟨4, ![64, 256, 4, 128]⟩
abbrev S4x64x128x256 : Shape := ⟨4, ![4, 64, 128, 256]⟩
abbrev S_ : Shape := ⟨0, ![]⟩
abbrev S4x64x16x256 : Shape := ⟨4, ![4, 64, 16, 256]⟩
abbrev S4x64x144x256 : Shape := ⟨4, ![4, 64, 144, 256]⟩
abbrev S4x64 : Shape := ⟨2, ![4, 64]⟩
abbrev S128 : Shape := ⟨1, ![128]⟩
abbrev S128x1 : Shape := ⟨2, ![128, 1]⟩
abbrev S128x512 : Shape := ⟨2, ![128, 512]⟩
abbrev S4096x128 : Shape := ⟨2, ![4096, 128]⟩
abbrev S1x16x144x256 : Shape := ⟨4, ![1, 16, 144, 256]⟩
abbrev S512x128 : Shape := ⟨2, ![512, 128]⟩
abbrev S2x128x512 : Shape := ⟨3, ![2, 128, 512]⟩
abbrev S2x1x512 : Shape := ⟨3, ![2, 1, 512]⟩
abbrev S2x144x512 : Shape := ⟨3, ![2, 144, 512]⟩
abbrev S2x512x512 : Shape := ⟨3, ![2, 512, 512]⟩
abbrev S1x128x512 : Shape := ⟨3, ![1, 128, 512]⟩
abbrev S256x128 : Shape := ⟨2, ![256, 128]⟩
abbrev S256x512 : Shape := ⟨2, ![256, 512]⟩
abbrev S1x256x512 : Shape := ⟨3, ![1, 256, 512]⟩
abbrev S1x512x512 : Shape := ⟨3, ![1, 512, 512]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S1x1x144x256 : Shape := ⟨4, ![1, 1, 144, 256]⟩
abbrev S144x256 : Shape := ⟨2, ![144, 256]⟩
abbrev S144x512 : Shape := ⟨2, ![144, 512]⟩
abbrev S1x144x512 : Shape := ⟨3, ![1, 144, 512]⟩
abbrev S1x64 : Shape := ⟨2, ![1, 64]⟩
abbrev S1 : Shape := ⟨1, ![1]⟩
abbrev S1x1 : Shape := ⟨2, ![1, 1]⟩

abbrev nBuf : Space → Nat
  | .hbm => 20
  | .vmem => 16
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x4x2x64, .f32⟩
  | .hbm, ⟨2, _⟩ => ⟨S4x4096x4x128, .f32⟩
  | .hbm, ⟨3, _⟩ => ⟨S1x4x64, .f32⟩
  | .hbm, ⟨4, _⟩ => ⟨S1x128, .f32⟩
  | .hbm, ⟨5, _⟩ => ⟨S16384x512, .f32⟩
  | .hbm, ⟨6, _⟩ => ⟨S512x16384, .f32⟩
  | .hbm, ⟨7, _⟩ => ⟨S512x16384, .bf16⟩
  | .hbm, ⟨8, _⟩ => ⟨S4x4096x4x128, .bf16⟩
  | .hbm, ⟨9, _⟩ => ⟨S64x256x4x128, .bf16⟩
  | .hbm, ⟨10, _⟩ => ⟨S4x64x128x256, .bf16⟩
  | .hbm, ⟨11, _⟩ => ⟨S_, .bf16⟩
  | .hbm, ⟨12, _⟩ => ⟨S4x64x16x256, .bf16⟩
  | .hbm, ⟨13, _⟩ => ⟨S4x64x144x256, .bf16⟩
  | .hbm, ⟨14, _⟩ => ⟨S16384x512, .f32⟩
  | .hbm, ⟨15, _⟩ => ⟨S16384x512, .bf16⟩
  | .hbm, ⟨16, _⟩ => ⟨S4x64, .f32⟩
  | .hbm, ⟨17, _⟩ => ⟨S128, .f32⟩
  | .hbm, ⟨18, _⟩ => ⟨S128x1, .f32⟩
  | .hbm, ⟨19, _⟩ => ⟨S16384x512, .bf16⟩
  | .local _ .vmem, ⟨0, _⟩ => ⟨S4x64, .f32⟩
  | .local _ .vmem, ⟨1, _⟩ => ⟨S128x1, .f32⟩
  | .local _ .vmem, ⟨2, _⟩ => ⟨S128x512, .bf16⟩
  | .local _ .vmem, ⟨3, _⟩ => ⟨S128x512, .bf16⟩
  | .local _ .vmem, ⟨4, _⟩ => ⟨S4096x128, .bf16⟩
  | .local _ .vmem, ⟨5, _⟩ => ⟨S4096x128, .bf16⟩
  | .local _ .vmem, ⟨6, _⟩ => ⟨S1x16x144x256, .bf16⟩
  | .local _ .vmem, ⟨7, _⟩ => ⟨S1x16x144x256, .bf16⟩
  | .local _ .vmem, ⟨8, _⟩ => ⟨S512x128, .bf16⟩
  | .local _ .vmem, ⟨9, _⟩ => ⟨S512x128, .bf16⟩
  | .local _ .vmem, ⟨10, _⟩ => ⟨S2x128x512, .bf16⟩
  | .local _ .vmem, ⟨11, _⟩ => ⟨S2x1x512, .f32⟩
  | .local _ .vmem, ⟨12, _⟩ => ⟨S2x1x512, .f32⟩
  | .local _ .vmem, ⟨13, _⟩ => ⟨S2x144x512, .f32⟩
  | .local _ .vmem, ⟨14, _⟩ => ⟨S2x512x512, .f32⟩
  | .local _ .vmem, ⟨15, _⟩ => ⟨S2x512x512, .bf16⟩
  | _, _ => ⟨S4x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16x144x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel5Ideal.lean ====
variable {F : FTy → Type} [FloatOps F] [Named F]
def κ : String → Option EReal := fun
  | "q_scale" => some (((Real.log 256)⁻¹ : ℝ) : EReal)
  | _ => none
-- ==== Reference5Ideal.lean ====
abbrev S4x4096x4x2x64 : Shape := ⟨5, ![4, 4096, 4, 2, 64]⟩
abbrev S4x4096x4x128 : Shape := ⟨4, ![4, 4096, 4, 128]⟩
abbrev S1x4x64 : Shape := ⟨3, ![1, 4, 64]⟩
abbrev S1x128 : Shape := ⟨2, ![1, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S4x4x2x4096x4096 : Shape := ⟨5, ![4, 4, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S128 : Shape := ⟨1, ![128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S16384x512 : Shape := ⟨2, ![16384, 512]⟩

abbrev nBuf : Space → Nat
  | .hbm => 85
  | .vmem => 0
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x4x2x64, .f32⟩
  | .hbm, ⟨2, _⟩ => ⟨S4x4096x4x128, .f32⟩
  | .hbm, ⟨3, _⟩ => ⟨S1x4x64, .f32⟩
  | .hbm, ⟨4, _⟩ => ⟨S1x128, .f32⟩
  | .hbm, ⟨5, _⟩ => ⟨S4x64, .f32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x4096x4x2x64, .f32⟩
  | .hbm, ⟨27, _⟩ => ⟨S4x4096x4x2x64, .f32⟩
  | .hbm, ⟨28, _⟩ => ⟨S4x4x2x4096x4096, .f32⟩
  | .hbm, ⟨29, _⟩ => ⟨S4096, .i32⟩
  | .hbm, ⟨30, _⟩ => ⟨S1x4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S4x4x2x4096x4096, .i1⟩
  | .hbm, ⟨38, _⟩ => ⟨S4x4x2x4096x4096, .f32⟩
  | .hbm, ⟨39, _⟩ => ⟨S4x4x2x4096x4096, .f32⟩
  | .hbm, ⟨40, _⟩ => ⟨S_, .f32⟩
  | .hbm, ⟨41, _⟩ => ⟨S4x4x2x4096, .f32⟩
  | .hbm, ⟨42, _⟩ => ⟨S_, .f32⟩
  | .hbm, ⟨43, _⟩ => ⟨S4x4x2x4096, .f32⟩
  | .hbm, ⟨44, _⟩ => ⟨S4x4x2x4096, .f32⟩
  | .hbm, ⟨45, _⟩ => ⟨S4x4x2x4096x1, .f32⟩
  | .hbm, ⟨46, _⟩ => ⟨S4x4x2x4096x4096, .f32⟩
  | .hbm, ⟨47, _⟩ => ⟨S4x4x2x4096x4096, .f32⟩
  | .hbm, ⟨48, _⟩ => ⟨S4x4x2x4096x4096, .f32⟩
  | .hbm, ⟨49, _⟩ => ⟨S_, .f32⟩
  | .hbm, ⟨50, _⟩ => ⟨S4x4x2x4096, .f32⟩
  | .hbm, ⟨51, _⟩ => ⟨S4x4x2x4096x1, .f32⟩
  | .hbm, ⟨52, _⟩ => ⟨S4x4x2x4096x4096, .f32⟩
  | .hbm, ⟨53, _⟩ => ⟨S4x4x2x4096x4096, .f32⟩
  | .hbm, ⟨54, _⟩ => ⟨S4x4x1x4096x4096, .f32⟩
  | .hbm, ⟨55, _⟩ => ⟨S4x4x4096x4096, .f32⟩
  | .hbm, ⟨56, _⟩ => ⟨S4x4x1x4096x4096, .f32⟩
  | .hbm, ⟨57, _⟩ => ⟨S4x4x4096x4096, .f32⟩
  | .hbm, ⟨58, _⟩ => ⟨S4x4x4096x4096, .f32⟩
  | .hbm, ⟨59, _⟩ => ⟨S4x4x4096x4096, .f32⟩
  | .hbm, ⟨60, _⟩ => ⟨S4x4x4096x4096, .f32⟩
  | .hbm, ⟨61, _⟩ => ⟨S4x4x128x4096, .f32⟩
  | .hbm, ⟨62, _⟩ => ⟨S4x4096x4x128, .f32⟩
  | .hbm, ⟨63, _⟩ => ⟨S128, .f32⟩
  | .hbm, ⟨64, _⟩ => ⟨S4x4096x4x128, .f32⟩
  | .hbm, ⟨65, _⟩ => ⟨S_, .f32⟩
  | .hbm, ⟨66, _⟩ => ⟨S4x4096x4, .f32⟩
  | .hbm, ⟨67, _⟩ => ⟨S4x4096x4x1, .f32⟩
  | .hbm, ⟨68, _⟩ => ⟨S_, .f32⟩
  | .hbm, ⟨69, _⟩ => ⟨S4x4096x4x1, .f32⟩
  | .hbm, ⟨70, _⟩ => ⟨S4x4096x4x1, .f32⟩
  | .hbm, ⟨71, _⟩ => ⟨S_, .f32⟩
  | .hbm, ⟨72, _⟩ => ⟨S4x4096x4x1, .f32⟩
  | .hbm, ⟨73, _⟩ => ⟨S4x4096x4x1, .f32⟩
  | .hbm, ⟨74, _⟩ => ⟨S4x4096x4x1, .f32⟩
  | .hbm, ⟨75, _⟩ => ⟨S4x4096x4x128, .f32⟩
  | .hbm, ⟨76, _⟩ => ⟨S4x4096x4x128, .f32⟩
  | .hbm, ⟨77, _⟩ => ⟨S1x1x1x128, .f32⟩
  | .hbm, ⟨78, _⟩ => ⟨S4x4096x4x128, .f32⟩
  | .hbm, ⟨79, _⟩ => ⟨S4x4096x4x128, .f32⟩
  | .hbm, ⟨80, _⟩ => ⟨S_, .f32⟩
  | .hbm, ⟨81, _⟩ => ⟨S4x4096x4x128, .f32⟩
  | .hbm, ⟨82, _⟩ => ⟨S4x4096x4x128, .f32⟩
  | .hbm, ⟨83, _⟩ => ⟨S16384x512, .f32⟩
  | .hbm, ⟨84, _⟩ => ⟨S16384x512, .bf16⟩
  | _, _ => ⟨S4x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Proof.AttnMath.lean ====
/- The arithmetic of one attention row: a softmax-weighted mean taken tile by tile, with a running maximum, is the mean taken at once. -/
module

public import Idealize.ShloMosaic.PureOps.Ideal
public import Idealize.ShloMosaic.PureOps.Ideal.Laws
public import Mathlib.Analysis.SpecialFunctions.Pow.Real
public import Mathlib.Algebra.BigOperators.Fin

@[expose] public section

set_option maxRecDepth 16384

noncomputable section

namespace Cert.Attn

open Idealize.ShloMosaic

/-- The weighted sum of `v` over the first `n` keys that are not after `r`, key `k` weighing `w k`. -/
def mass (w v : ℕ → ℝ) (r n : ℕ) : ℝ := ∑ k ∈ Finset.range n, if k ≤ r then w k * v k else 0

/-- The mean of `v` under the weights `w`, over the keys not after `r`. -/
def mean (w v : ℕ → ℝ) (r : ℕ) : ℝ := mass w v r 4096 / mass w (fun _ => 1) r 4096

theorem mass_zero (w v : ℕ → ℝ) (r : ℕ) : mass w v r 0 = 0 := by simp [mass]

theorem mass_add (w v : ℕ → ℝ) (r n m : ℕ) :
    mass w v r (n + m) = mass w v r n + ∑ j ∈ Finset.range m, if n + j ≤ r then w (n + j) * v (n + j) else 0 := by
  unfold mass; rw [Finset.sum_range_add]

theorem mass_one_pos (w : ℕ → ℝ) (hw : ∀ k, 0 < w k) (r n : ℕ) (hn : 0 < n) : 0 < mass w (fun _ => 1) r n := by
  unfold mass
  refine Finset.sum_pos' (fun k _ => ?_) ⟨0, Finset.mem_range.2 hn, ?_⟩
  · split_ifs <;> simp [(hw k).le]
  · simpa using hw 0

/-- Keys after `r` add nothing. -/
theorem mass_of_lt (w v : ℕ → ℝ) (r n m : ℕ) (h : r < n) : mass w v r (n + m) = mass w v r n := by
  rw [mass_add, add_eq_left]
  refine Finset.sum_eq_zero fun j _ => ?_
  rw [if_neg (by omega)]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many scores, each a real or −∞, is a real or −∞, and a real once one of them is. -/
theorem fold_real {ι : Type} (s : Finset ι) (b : EReal) (hb : b = ⊥ ∨ ∃ M : ℝ, b = M) (f : ι → EReal)
    (hf : ∀ i, f i = ⊥ ∨ ∃ x : ℝ, f i = x) : s.fold max b f = ⊥ ∨ ∃ M : ℝ, s.fold max b f = M := by
  classical
  induction s using Finset.induction_on with
  | empty => simpa using hb
  | insert a s ha ih =>
    rw [Finset.fold_insert ha]
    rcases hf a with h | ⟨x, h⟩ <;> rcases ih with h' | ⟨y, h'⟩ <;> rw [h, h']
    · exact Or.inl (by simp)
    · exact Or.inr ⟨y, by simp⟩
    · exact Or.inr ⟨x, by simp⟩
    · exact Or.inr ⟨max x y, (EReal.coe_strictMono.monotone.map_max).symm⟩

theorem le_fold {ι : Type} (s : Finset ι) (b : EReal) (f : ι → EReal) (i : ι) (hi : i ∈ s) : f i ≤ s.fold max b f := by
  rw [Finset.le_fold_max]; exact Or.inr ⟨i, hi, le_rfl⟩

/-- A maximum over real or −∞ scores, one of them real, is real. -/
theorem max_real {ι : Type} (s : Finset ι) (b : EReal) (hb : b = ⊥ ∨ ∃ M : ℝ, b = M) (f : ι → EReal)
    (hf : ∀ i, f i = ⊥ ∨ ∃ x : ℝ, f i = x) (mp : EReal) (hm : mp = ⊥ ∨ ∃ M : ℝ, mp = M)
    (h : mp ≠ ⊥ ∨ ∃ i ∈ s, f i ≠ ⊥) : ∃ M : ℝ, max mp (s.fold max b f) = M := by
  rcases hm with rfl | ⟨M, rfl⟩ <;> rcases fold_real s b hb f hf with h' | ⟨y, h'⟩
  · rcases h with h | ⟨i, hi, hne⟩
    · exact absurd rfl h
    · exact absurd (le_bot_iff.1 (h' ▸ le_fold s b f i hi)) hne
  · exact ⟨y, by rw [h']; simp⟩
  · exact ⟨M, by rw [h']; simp⟩
  · exact ⟨max M y, by rw [h']; exact (EReal.coe_strictMono.monotone.map_max).symm⟩

/-- The running maximum `m` and a running sum `a` over the keys before `n`: nothing seen yet, or a real maximum
    and the sum with every weight divided by two to the maximum. -/
def Holds (m a : EReal) (S : ℝ) : Prop :=
  (m = ⊥ ∧ a = 0 ∧ S = 0) ∨ ∃ M : ℝ, m = M ∧ a = (((2 : ℝ) ^ (-M) * S : ℝ) : EReal)

/-- Two to a score. -/
def two (σ : ℕ → ℝ) (k : ℕ) : ℝ := (2 : ℝ) ^ (σ k)

theorem two_pos' (σ : ℕ → ℝ) (k : ℕ) : 0 < two σ k := Real.rpow_pos_of_pos (by norm_num) _

theorem two_eq_exp (σ : ℕ → ℝ) (k : ℕ) : two σ k = Real.exp (σ k * Real.log 2) := by
  rw [two, Real.rpow_def_of_pos (by norm_num), mul_comm]

/-- Scores of one tile of 512 keys from key `n` on: in base two, −∞ after `r`. -/
def tileScore (σ : ℕ → ℝ) (r n : ℕ) (j : ℕ) : EReal := if n + j ≤ r then ((σ (n + j) : ℝ) : EReal) else ⊥

theorem tileScore_cases (σ : ℕ → ℝ) (r n j : ℕ) : tileScore σ r n j = ⊥ ∨ ∃ x : ℝ, tileScore σ r n j = x := by
  unfold tileScore; split_ifs
  · exact Or.inr ⟨_, rfl⟩
  · exact Or.inl rfl

/-- A key's weight under the new maximum. -/
theorem exp2_score (σ : ℕ → ℝ) (r n j : ℕ) (M : ℝ) :
    Ideal.exp2 (tileScore σ r n j - (M : EReal)) = (((2 : ℝ) ^ (-M) * (if n + j ≤ r then two σ (n + j) else 0) : ℝ) : EReal) := by
  unfold tileScore
  split_ifs
  · rw [← EReal.coe_sub, Ideal.exp2_coe, Real.rpow_eq_pow, sub_eq_add_neg, Real.rpow_add (by norm_num),
      mul_comm, two]
  · simp

/-- A tile's share of a running sum. -/
theorem tile_sum (σ v : ℕ → ℝ) (r n b : ℕ) (M : ℝ) :
    (∑ j : Fin 256, ((v (n + (b + j)) : ℝ) : EReal) * Ideal.exp2 (tileScore σ r n (b + j) - (M : EReal)))
      = (((2 : ℝ) ^ (-M) * ∑ j ∈ Finset.range 256, (if n + (b + j) ≤ r then two σ (n + (b + j)) * v (n + (b + j)) else 0) : ℝ) : EReal) := by
  rw [Finset.mul_sum, coe_sum, ← Fin.sum_univ_eq_sum_range (fun j => (((2 : ℝ) ^ (-M) * (if n + (b + j) ≤ r then two σ (n + (b + j)) * v (n + (b + j)) else 0) : ℝ) : EReal))]
  refine Finset.sum_congr rfl fun j _ => ?_
  rw [exp2_score σ, ← EReal.coe_mul]
  congr 1; split_ifs <;> ring

/-- The running maximum after the tile from key `n` on, `b` the accumulator's start. -/
def newMax (σ : ℕ → ℝ) (r n : ℕ) (b m : EReal) : EReal :=
  max m ((Finset.univ : Finset (Fin 512)).fold max b fun j : Fin 512 => tileScore σ r n j)

/-- ONE TILE: the running maximum and sum over the keys before `n` go on to those before `n + 512`. -/
theorem holds_step (σ v : ℕ → ℝ) (r n : ℕ) (hr : n ≤ r) (m a : EReal) (h : Holds m a (mass (two σ) v r n))
    (b : EReal) (hb : b = ⊥) :
    Holds (newMax σ r n b m)
      (Ideal.exp2 (m - newMax σ r n b m) * a
        + ((∑ j : Fin 256, ((v (n + (0 + j)) : ℝ) : EReal) * Ideal.exp2 (tileScore σ r n (0 + j)
              - newMax σ r n b m))
          + ∑ j : Fin 256, ((v (n + (256 + j)) : ℝ) : EReal) * Ideal.exp2 (tileScore σ r n (256 + j)
              - newMax σ r n b m)))
      (mass (two σ) v r (n + 512)) := by
  obtain ⟨M', hM'⟩ : ∃ M : ℝ, newMax σ r n b m = M := by
    unfold newMax; refine max_real (Finset.univ : Finset (Fin 512)) b (Or.inl hb) (fun j : Fin 512 => tileScore σ r n j) (fun i => tileScore_cases σ r n i) m ?_ (Or.inr ⟨0, Finset.mem_univ _, ?_⟩)
    · rcases h with ⟨h, _, _⟩ | ⟨M, h, _⟩
      · exact Or.inl h
      · exact Or.inr ⟨M, h⟩
    · simp [tileScore, hr]
  rw [hM', tile_sum σ v, tile_sum σ v]
  refine Or.inr ⟨M', rfl, ?_⟩
  have hsum : mass (two σ) v r (n + 512) = mass (two σ) v r n
      + ((∑ j ∈ Finset.range 256, (if n + (0 + j) ≤ r then two σ (n + (0 + j)) * v (n + (0 + j)) else 0))
        + ∑ j ∈ Finset.range 256, (if n + (256 + j) ≤ r then two σ (n + (256 + j)) * v (n + (256 + j)) else 0)) := by
    rw [mass_add, show (512 : ℕ) = 256 + 256 from rfl, Finset.sum_range_add]; simp only [zero_add]
  rw [hsum]
  rcases h with ⟨rfl, rfl, hS⟩ | ⟨M, rfl, rfl⟩
  · rw [hS]; simp only [mul_zero, zero_add]
    rw [← EReal.coe_add]; congr 1; ring
  · rw [← EReal.coe_sub, Ideal.exp2_coe, Real.rpow_eq_pow, ← EReal.coe_mul, ← EReal.coe_add, ← EReal.coe_add]
    congr 1
    have e : (2 : ℝ) ^ (M - M') * ((2 : ℝ) ^ (-M) * mass (two σ) v r n) = (2 : ℝ) ^ (-M') * mass (two σ) v r n := by
      rw [← mul_assoc, ← Real.rpow_add (by norm_num)]; congr 2; ring
    rw [e]; ring

/-- The ratio of two running sums is the mean, whatever the maximum was. -/
theorem holds_ratio (σ v : ℕ → ℝ) (r n : ℕ) (hn : 0 < n) (m a l : EReal)
    (ha : Holds m a (mass (two σ) v r n)) (hl : Holds m l (mass (two σ) (fun _ => 1) r n)) :
    Ideal.div a l = ((mass (two σ) v r n / mass (two σ) (fun _ => 1) r n : ℝ) : EReal) := by
  have hp := mass_one_pos (two σ) (two_pos' σ) r n hn
  rcases hl with ⟨_, _, h0⟩ | ⟨M, rfl, rfl⟩
  · exact absurd h0 hp.ne'
  rcases ha with ⟨h, _⟩ | ⟨M', h, rfl⟩
  · exact absurd h (EReal.coe_ne_bot M)
  obtain rfl : M = M' := EReal.coe_injective h
  have h2 : (0 : ℝ) < (2 : ℝ) ^ (-M) := Real.rpow_pos_of_pos (by norm_num) _
  rw [Ideal.div, if_neg (by simpa using (mul_pos h2 hp).ne'), ← EReal.coe_inv, ← EReal.coe_mul]
  congr 1; field_simp

/-- The softmax of one row, each score a real or −∞, weighs key `k` by its exponential over the sum of them. -/
theorem softmax_row {N : ℕ} (hN : 0 < N) (σ : ℕ → ℝ) (r : ℕ) (s : Fin N → EReal)
    (hs : ∀ k : Fin N, s k = if (k : ℕ) ≤ r then ((σ k * Real.log 2 : ℝ) : EReal) else ⊥) (b : EReal) (hb : b = ⊥) (k : Fin N) :
    Ideal.div (Ideal.exp (s k - (Finset.univ : Finset (Fin N)).fold max b s))
        (∑ k' : Fin N, Ideal.exp (s k' - (Finset.univ : Finset (Fin N)).fold max b s))
      = (((if (k : ℕ) ≤ r then two σ k else 0) / mass (two σ) (fun _ => 1) r N : ℝ) : EReal) := by
  have hc : ∀ i, s i = ⊥ ∨ ∃ x : ℝ, s i = x := fun i => by
    rw [hs]; split_ifs
    · exact Or.inr ⟨_, rfl⟩
    · exact Or.inl rfl
  obtain ⟨M, hM⟩ : ∃ M : ℝ, (Finset.univ : Finset (Fin N)).fold max b s = M := by
    obtain ⟨M, h⟩ := max_real Finset.univ b (Or.inl hb) s hc ⊥ (Or.inl rfl) (Or.inr ⟨⟨0, hN⟩, Finset.mem_univ _, by rw [hs]; simp only [Nat.zero_le, if_true]; exact EReal.coe_ne_bot _⟩)
    exact ⟨M, by simpa using h⟩
  have he : ∀ i : Fin N, Ideal.exp (s i - (M : EReal)) = ((Real.exp (-M) * (if (i : ℕ) ≤ r then two σ i else 0) : ℝ) : EReal) := fun i => by
    rw [hs]; split_ifs
    · rw [← EReal.coe_sub, Ideal.exp_coe, sub_eq_add_neg, Real.exp_add, ← two_eq_exp, mul_comm]
    · simp
  have hsum : (∑ k' : Fin N, ((Real.exp (-M) * (if (k' : ℕ) ≤ r then two σ k' else 0) : ℝ) : EReal))
      = ((Real.exp (-M) * mass (two σ) (fun _ => 1) r N : ℝ) : EReal) := by
    rw [← coe_sum, ← Finset.mul_sum]; congr 2
    rw [Fin.sum_univ_eq_sum_range (fun k => if k ≤ r then two σ k else 0)]; unfold mass; simp only [mul_one]
  simp only [hM, he, hsum]
  have hp := mass_one_pos (two σ) (two_pos' σ) r N hN
  have h2 := Real.exp_pos (-M)
  rw [Ideal.div, if_neg (by simpa using (mul_pos h2 hp).ne'), ← EReal.coe_inv, ← EReal.coe_mul]
  congr 1; field_simp

/-- The two softmaxes' difference against `v`, at once, is the difference of the two means. -/
theorem diff_row {N : ℕ} (w₀ w₁ v : ℕ → ℝ) (r : ℕ) (lam : ℝ) (p₀ p₁ : Fin N → EReal)
    (h₀ : ∀ k : Fin N, p₀ k = (((if (k : ℕ) ≤ r then w₀ k else 0) / mass w₀ (fun _ => 1) r N : ℝ) : EReal))
    (h₁ : ∀ k : Fin N, p₁ k = (((if (k : ℕ) ≤ r then w₁ k else 0) / mass w₁ (fun _ => 1) r N : ℝ) : EReal)) :
    (∑ k : Fin N, (p₀ k - (lam : EReal) * p₁ k) * ((v k : ℝ) : EReal)) = ((mass w₀ v r N / mass w₀ (fun _ => 1) r N - lam * (mass w₁ v r N / mass w₁ (fun _ => 1) r N) : ℝ) : EReal) := by
  have e : ∀ k : Fin N, (p₀ k - (lam : EReal) * p₁ k) * ((v k : ℝ) : EReal)
      = (((if (k : ℕ) ≤ r then w₀ k * v k else 0) / mass w₀ (fun _ => 1) r N
          - lam * ((if (k : ℕ) ≤ r then w₁ k * v k else 0) / mass w₁ (fun _ => 1) r N) : ℝ) : EReal) := fun k => by
    rw [h₀, h₁, ← EReal.coe_mul, ← EReal.coe_sub, ← EReal.coe_mul]
    congr 1; split_ifs <;> ring
  simp only [e]
  rw [← coe_sum, Finset.sum_sub_distrib, ← Finset.mul_sum, ← Finset.sum_div, ← Finset.sum_div,
    Fin.sum_univ_eq_sum_range (fun k => if k ≤ r then w₀ k * v k else 0), Fin.sum_univ_eq_sum_range (fun k => if k ≤ r then w₁ k * v k else 0)]
  rfl

end Cert.Attn
end
-- ==== Proof.AttnSpec.lean ====
/- What the differential attention call computes: per query and head, two softmax means of the values, one less `λ` times the
   other, then a root-mean-square norm over the head's features. -/
module

public import proofs.«01_k».proof.Proof.AttnMath
public import Idealize.ShloMosaic.Lib.Pointwise

@[expose] public section

set_option maxRecDepth 16384

noncomputable section

namespace Cert.Attn

open Idealize.ShloMosaic

variable (q k : FVec Ideal ⟨5, ![4, 4096, 4, 2, 64]⟩ .f32) (v : FVec Ideal ⟨4, ![4, 4096, 4, 128]⟩ .f32)
  (lam : FVec Ideal ⟨3, ![1, 4, 64]⟩ .f32) (g : FVec Ideal ⟨2, ![1, 128]⟩ .f32)

/-- Key number `j` of a sequence. -/
def key (j : ℕ) : Fin 4096 := ⟨j % 4096, Nat.mod_lt _ (by norm_num)⟩

/-- The score of query `r` against key `j`, in base two: half `c` of head `h` of sequence `b`. -/
def score (b h : Fin 4) (c : Fin 2) (r : Fin 4096) (j : ℕ) : ℝ :=
  (∑ d : Fin 64, (q (ix5 b r h c d)).toReal * (k (ix5 b (key j) h c d)).toReal) * (Real.log 256)⁻¹

/-- In base `e` the score is an eighth of the product. -/
theorem score_log (b h : Fin 4) (c : Fin 2) (r : Fin 4096) (j : ℕ) :
    score q k b h c r j * Real.log 2 = (∑ d : Fin 64, (q (ix5 b r h c d)).toReal * (k (ix5 b (key j) h c d)).toReal) * (1 / 8) := by
  have h2 : Real.log 2 ≠ 0 := (Real.log_pos (by norm_num)).ne'
  rw [score, show (256 : ℝ) = 2 ^ 8 by norm_num, Real.log_pow]
  push_cast; field_simp

/-- Feature `e` of the value at key `j`. -/
def value (b h : Fin 4) (e : Fin 128) (j : ℕ) : ℝ := (v (ix4 b (key j) h e)).toReal

/-- The factor `λ`. -/
def factor : EReal :=
  Ideal.exp (∑ d : Fin 64, lam (ix3 0 0 d) * lam (ix3 0 1 d)) - Ideal.exp (∑ d : Fin 64, lam (ix3 0 2 d) * lam (ix3 0 3 d))
    + Ideal.ofBits .f32 0x3E4CCCCD#32

/-- The softmax mean of half `c`. -/
def half (b h : Fin 4) (c : Fin 2) (r : Fin 4096) (e : Fin 128) : ℝ := mean (two (score q k b h c r)) (value v b h e) r

/-- One half's mean less `λ` times the other's. -/
def headRow (b h : Fin 4) (r : Fin 4096) (e : Fin 128) : EReal :=
  (half q k v b h 0 r e : EReal) - factor lam * (half q k v b h 1 r e : EReal)

/-- The norm of a head's row, gained and scaled. -/
def scaled (x : Fin 128 → EReal) (gain : Fin 128 → EReal) (e : Fin 128) : EReal :=
  x e * Ideal.rsqrt (Ideal.div (∑ d, x d * x d) (Ideal.ofBits .f32 0x43000000#32) + Ideal.ofBits .f32 0x358637BD#32) * gain e
    * Ideal.ofBits .f32 0x3F4CCCCD#32

/-- The result at query `r` of sequence `b`, feature `e` of head `h`. -/
def resultAt (b h : Fin 4) (r : Fin 4096) (e : Fin 128) : EReal :=
  scaled (headRow q k v lam b h r) (fun e => g (ix2 0 e)) e

/-- Every entry of the queries, the keys, the values and `λ`'s vectors is a real number. -/
structure Finite : Prop where
  q : ∀ i, q i = ((q i).toReal : EReal)
  k : ∀ i, k i = ((k i).toReal : EReal)
  v : ∀ i, v i = ((v i).toReal : EReal)
  lam : ∀ i, lam i = ((lam i).toReal : EReal)

/-- A number below `+∞` in absolute value is real. -/
theorem real_of_abs (x : EReal) (h : Ideal.cmp .olt (max x (-x)) ⊤ = 1#1) : x = (x.toReal : EReal) := by
  induction x with
  | bot => simp [Ideal.cmp] at h
  | top => simp [Ideal.cmp] at h
  | coe x => simp

/-- `λ` is real when its vectors are. -/
theorem factor_real (hl : ∀ i, lam i = ((lam i).toReal : EReal)) : factor lam = ((factor lam).toReal : EReal) := by
  obtain ⟨x, hx⟩ : ∃ x : ℝ, factor lam = x := by
    have h : ∀ a b : Fin 4, (∑ d : Fin 64, lam (ix3 0 a d) * lam (ix3 0 b d))
        = ((∑ d : Fin 64, (lam (ix3 0 a d)).toReal * (lam (ix3 0 b d)).toReal : ℝ) : EReal) := fun a b => by
      rw [coe_sum]; refine Finset.sum_congr rfl fun d _ => ?_
      rw [EReal.coe_mul, ← hl, ← hl]
    obtain ⟨c, hc⟩ : ∃ c : ℝ, Ideal.ofBits .f32 0x3E4CCCCD#32 = c := ⟨_, rfl⟩
    unfold factor
    rw [h, h, Ideal.exp_coe, Ideal.exp_coe, hc, ← EReal.coe_sub, ← EReal.coe_add]
    exact ⟨_, rfl⟩
  rw [hx, EReal.toReal_coe]

end Cert.Attn
end
-- ==== Proof.RowFunctions.lean ====
/- The functions of a row that both the kernels and their references are shown to compute, on the extended reals. -/
module

public import Idealize.ShloMosaic.PureOps.Ideal.Laws

@[expose] public section

noncomputable section

namespace Cert.Rows

open Idealize.ShloMosaic

/-- The root-mean-square norm of a row `x` of 1024 elements with gain `g`, element `d`. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- A row `x` times a matrix `w`, element `j` of the product. -/
def rowMul {a b : ℕ} (x : Fin a → EReal) (w : Fin a → Fin b → EReal) (j : Fin b) : EReal := ∑ k, x k * w k j

/-- A row `x` with the embedding `p` of this layer added, gated by the logistic function of the normed row. -/
def embedded (x gain : Fin 1024 → EReal) (wg : Fin 1024 → Fin 1024 → EReal) (p : Fin 256 → EReal)
    (wp : Fin 256 → Fin 1024 → EReal) (d : Fin 1024) : EReal :=
  x d + Ideal.logistic (rowMul (rms x gain) wg d) * rowMul p wp d

/-- The hidden row of the gated feed-forward net: the activated gate times the linear part. -/
def hidden {n : ℕ} (x : Fin 1024 → EReal) (w1 w3 : Fin 1024 → Fin n → EReal) (j : Fin n) : EReal :=
  rowMul x w1 j * Ideal.logistic (rowMul x w1 j) * rowMul x w3 j

/-- A row `x` with the feed-forward net of its norm added. -/
def fed (x gain : Fin 1024 → EReal) (w1 w3 : Fin 1024 → Fin 2816 → EReal) (w2 : Fin 2816 → Fin 1024 → EReal)
    (d : Fin 1024) : EReal :=
  x d + rowMul (hidden (rms x gain) w1 w3) w2 d

end Cert.Rows

end
-- ==== Proof.MixTop.lean ====
/- The two largest of a token's eight router scores and the experts that hold them, on the extended reals: as a stable descending
   sort finds them, and as two rounds of "largest, then lowest position" find them. -/
module

public import Idealize.ShloMosaic.Lib.SortPrefix
public import Idealize.ShloMosaic.PureOps.Ideal.Laws
public import Idealize.ShloMosaic.Lib.Pointwise

@[expose] public section

set_option maxRecDepth 16384

noncomputable section

namespace Cert.Top

open Idealize.ShloMosaic

/-- A sort of positions given in order may break ties by the position: it is stable. -/
theorem sort_ties {n : ℕ} (B C : Fin n → Fin n → Bool) (h : ∀ a b, a < b → C b a = B b a) :
    ∀ l : List (Fin n), l.Pairwise (· < ·) → stableSort B l = stableSort C l
  | [], _ => rfl
  | a :: l, hl => by
    have hl' := List.pairwise_cons.mp hl
    unfold stableSort
    rw [sort_ties B C h l hl'.2]
    exact insertBefore_congr B C a _ fun b hb => (h a b (hl'.1 b ((perm_stableSort C l).mem_iff.mp hb))).symm

/-- Position `i` holds a largest element of `x`, and no earlier position does. -/
def IsFirst (x : Fin 8 → EReal) (i : Fin 8) : Prop := (∀ j, x j ≤ x i) ∧ ∀ j, j < i → x j < x i

theorem isFirst_unique {x : Fin 8 → EReal} {i j : Fin 8} (hi : IsFirst x i) (hj : IsFirst x j) : i = j := by
  rcases lt_trichotomy i j with h | h | h
  · exact absurd (hj.2 i h) (not_lt.mpr (hi.1 j))
  · exact h
  · exact absurd (hi.2 j h) (not_lt.mpr (hj.1 i))

theorem exists_first (x : Fin 8 → EReal) : ∃ i, IsFirst x i := by
  obtain ⟨m, -, hm⟩ := Finset.exists_max_image Finset.univ x ⟨0, Finset.mem_univ 0⟩
  have hne : (Finset.univ.filter fun i => x m ≤ x i).Nonempty := ⟨m, by simp⟩
  refine ⟨(Finset.univ.filter fun i => x m ≤ x i).min' hne, fun j => ?_, fun j hj => ?_⟩
  · exact (hm j (Finset.mem_univ j)).trans (Finset.mem_filter.mp (Finset.min'_mem _ hne)).2
  · refine lt_of_lt_of_le (not_le.mp fun h => ?_) (Finset.mem_filter.mp (Finset.min'_mem _ hne)).2
    exact absurd (Finset.min'_le _ j (Finset.mem_filter.mpr ⟨Finset.mem_univ j, h⟩)) (not_le.mpr hj)

/-- The first position of a largest element. -/
def first (x : Fin 8 → EReal) : Fin 8 := (exists_first x).choose
theorem first_spec (x : Fin 8 → EReal) : IsFirst x (first x) := (exists_first x).choose_spec

/-- The scores with the first largest one struck out. -/
def struck (x : Fin 8 → EReal) : Fin 8 → EReal := fun j => if j = first x then ⊥ else x j

/-- The first position of a largest one of the rest. -/
def second (x : Fin 8 → EReal) : Fin 8 := first (struck x)

theorem second_ne (x : Fin 8 → EReal) (hx : ∀ j, x j ≠ ⊥) : second x ≠ first x := by
  intro h
  obtain ⟨j, hj⟩ : ∃ j : Fin 8, j ≠ first x := exists_ne _
  have := (first_spec (struck x)).1 j
  change struck x j ≤ struck x (second x) at this
  rw [h] at this
  simp only [struck, if_neg hj, if_true] at this
  exact hx j (le_bot_iff.mp this)

theorem struck_second (x : Fin 8 → EReal) (hx : ∀ j, x j ≠ ⊥) : struck x (second x) = x (second x) := if_neg (second_ne x hx)

/-- The stable descending sort's first two positions. -/
theorem sorted_two (x : Fin 8 → EReal) (hx : ∀ j, x j ≠ ⊥) (i : Fin 2) :
    sortedFrom (fun k k' => FloatOps.cmpfTotal (F := Ideal) (φ := .f32) .gt (x k) (x k') == 1#1) (i.castLE (by decide))
      = (![first x, second x] : Fin 2 → Fin 8) i := by
  have hB : ∀ a b : EReal, (FloatOps.cmpfTotal (F := Ideal) (φ := .f32) .gt a b == 1#1) = decide (b < a) := by
    intro a b
    change (BitVec.ofBool (decide (a > b)) == 1#1) = _
    by_cases h : b < a <;> simp [h]
  simp only [hB]
  have e : sortedFrom (fun k k' : Fin 8 => decide (x k' < x k)) = sortedFrom fun k k' : Fin 8 =>
      decide (x k' < x k) || (decide (x k = x k') && decide (k < k')) := by
    funext k
    unfold sortedFrom sortPositions
    refine List.get_of_eq (sort_ties _ _ (fun a b hab => ?_) _ (List.pairwise_lt_finRange 8)) _
    simp [not_lt.mpr hab.le]
  rw [e]
  have hT := StrictTotalBefore.of_key_then_position (fun a b : EReal => decide (b < a)) x (fun a => by simp)
    (fun a b c h1 h2 => by simp only [decide_eq_true_eq] at *; exact h2.trans h1)
    (fun a b => by simp only [decide_eq_true_eq]; rcases lt_trichotomy a b with h | h | h <;> simp [h])
  have h1 := first_spec x
  have h2 : IsFirst (struck x) (second x) := first_spec _
  have hne := second_ne x hx
  have hs := struck_second x hx
  have hrest : ∀ p, p ≠ first x → x p ≤ x (second x) := fun p hp => by
    have := h2.1 p; rwa [hs, struck, if_neg hp] at this
  have hrest' : ∀ p, p ≠ first x → p < second x → x p < x (second x) := fun p hp hlt => by
    have := h2.2 p hlt; rwa [hs, struck, if_neg hp] at this
  have key : ∀ p q : Fin 8, x p ≤ x q → (p < q → x p < x q) →
      (decide (x q < x p) || (decide (x p = x q) && decide (p < q))) = false := fun p q h h' => by
    simp only [Bool.or_eq_false_iff, Bool.and_eq_false_iff, decide_eq_false_iff_not, not_lt]
    refine ⟨h, ?_⟩
    by_cases hpq : p < q
    · exact Or.inl (h' hpq).ne
    · exact Or.inr (not_lt.mp hpq)
  refine hT.sortedFrom_eq_of_prefix (k := 2) (by decide) ![first x, second x] ?_ ?_ ?_ i
  · intro a b hab
    fin_cases a <;> fin_cases b <;> first | rfl | exact absurd hab hne.symm | exact absurd hab hne
  · intro a b hab
    fin_cases a <;> fin_cases b <;> first | exact absurd hab (by decide) | exact key _ _ (h1.1 _) (h1.2 _)
  · intro a p hp
    fin_cases a
    · exact key _ _ (h1.1 _) (h1.2 _)
    · have hp0 : p ≠ first x := fun h => hp 0 h.symm
      exact key _ _ (hrest p hp0) (hrest' p hp0)

end Cert.Top

end
-- ==== Proof.MixSpec.lean ====
/- What layer 1's mixer computes for each token: its gated row, mixed within its run of 128 tokens, joined to the residual and
   normed; and the two experts its router picks, with their gates. -/
module

public import proofs.«01_k».proof.Proof.RowFunctions
public import proofs.«01_k».proof.Proof.MixTop
public import Idealize.ShloMosaic.Lib.Pointwise

@[expose] public section

set_option maxRecDepth 16384

noncomputable section

namespace Cert.Mix

open Idealize.ShloMosaic Cert.Rows Cert.Top

/-- The Gaussian error unit. -/
def gelu (z : EReal) : EReal := Ideal.ofBits .f32 0x3F000000#32 * z * (1 + Ideal.erf (z * Ideal.ofBits .f32 0x3F3504F3#32))

/-- The mean of a row. -/
def mean (x : Fin 1024 → EReal) : EReal := Ideal.div (∑ k, x k) (Ideal.ofBits .f32 0x44800000#32)

/-- The layer norm of a row `x` with gain `g` and offset `b`, element `d`. -/
def layerNorm (x g b : Fin 1024 → EReal) (d : Fin 1024) : EReal :=
  (x d - mean x) * Ideal.rsqrt (mean (fun k => (x k - mean x) * (x k - mean x)) + Ideal.ofBits .f32 0x3727C5AC#32) * g d + b d

/-- The gate of the scores' largest two, by row of the table: the first, the second, nothing in the six rows that pad it. -/
def gate (x : Fin 8 → EReal) (e : Fin 8) : EReal :=
  if e.val = 0 then Ideal.div 1 (1 + Ideal.exp (x (second x) - x (first x)))
  else if e.val = 1 then Ideal.div (Ideal.exp (x (second x) - x (first x))) (1 + Ideal.exp (x (second x) - x (first x)))
  else 0

/-- The expert that goes with it. -/
def expert (x : Fin 8 → EReal) (e : Fin 8) : BitVec 32 :=
  if e.val = 0 then BitVec.ofNat 32 (first x).val else if e.val = 1 then BitVec.ofNat 32 (second x).val else 0#32

variable (x : FVec Ideal ⟨3, ![4, 4096, 1024]⟩ .f32) (lm : FVec Ideal ⟨2, ![2, 1024]⟩ .f32)
  (wi : FVec Ideal ⟨3, ![1, 1024, 2048]⟩ .f32) (lg lb : FVec Ideal ⟨2, ![1, 1024]⟩ .f32)
  (ws : FVec Ideal ⟨4, ![1, 8, 128, 128]⟩ .f32) (bs : FVec Ideal ⟨3, ![1, 8, 128]⟩ .f32)
  (wo : FVec Ideal ⟨3, ![1, 1024, 1024]⟩ .f32) (lf : FVec Ideal ⟨2, ![2, 1024]⟩ .f32)
  (wr : FVec Ideal ⟨3, ![1, 1024, 8]⟩ .f32)

/-- The activated projection of token `n`, counted through the four sequences. -/
def active (n : Fin 16384) (j : Fin 2048) : EReal :=
  gelu (rowMul (rms (fun d => x (ix3 ⟨n / 4096, by omega⟩ ⟨n % 4096, by omega⟩ d)) (fun d => lm (ix2 1 d))) (fun k j => wi (ix3 0 k j)) j)

/-- Its second half, normed. -/
def inner (n : Fin 16384) : Fin 1024 → EReal :=
  layerNorm (fun c => active x lm wi n ⟨1024 + c, by omega⟩) (fun d => lg (ix2 0 d)) (fun d => lb (ix2 0 d))

/-- The normed halves of the run `b` of 128 tokens up to its token `i`, mixed by the weights of the element's group. -/
def within (b i : Fin 128) (c : Fin 1024) : EReal :=
  ∑ j : Fin 128, (if j.val ≤ i.val then ws (ix4 0 ⟨c / 128, by omega⟩ i j) * inner x lm wi lg lb ⟨b * 128 + j, by omega⟩ c else 0)
    + bs (ix3 0 ⟨c / 128, by omega⟩ i)

/-- What that is at a token. -/
def spatial (n : Fin 16384) (c : Fin 1024) : EReal := within x lm wi lg lb ws bs ⟨n / 128, by omega⟩ ⟨n % 128, by omega⟩ c

/-- The first half gated by that. -/
def gated (n : Fin 16384) (c : Fin 1024) : EReal := active x lm wi n ⟨c, by omega⟩ * spatial x lm wi lg lb ws bs n c

/-- The token's row after the mixer. -/
def mixed (n : Fin 16384) (d : Fin 1024) : EReal :=
  x (ix3 ⟨n / 4096, by omega⟩ ⟨n % 4096, by omega⟩ d) + rowMul (gated x lm wi lg lb ws bs n) (fun k d => wo (ix3 0 k d)) d

/-- Its norm. -/
def normed (n : Fin 16384) : Fin 1024 → EReal := rms (mixed x lm wi lg lb ws bs wo n) (fun d => lf (ix2 1 d))

/-- Its scores. -/
def scores (n : Fin 16384) : Fin 8 → EReal := rowMul (normed x lm wi lg lb ws bs wo lf n) (fun k e => wr (ix3 0 k e))

end Cert.Mix

end
-- ==== Proof.MixBlock.lean ====
/- Layer 1's mixer, one block of 512 tokens: what its steps compute, at a row and an element. -/
module

public import proofs.«01_k».proof.Proof.Gen.KernelIdeal.Frame
public import proofs.«01_k».proof.Proof.MixSpec

@[expose] public section

set_option maxRecDepth 16384

noncomputable section

namespace Cert.KernelIdeal.Block

open Cert.KernelIdeal Cert.KernelIdeal.Gen Idealize.ShloMosaic Idealize.ShloMosaic.TcCoe Idealize.SL.Sem
open Cert.Rows Cert.Mix Cert.Top

/-- The norm of the block's rows. -/
theorem normed_at (x : FVec Ideal S512x1024 .f32) (g : FVec Ideal S1x1024 .f32) (r : Fin 512) (d : Fin 1024) :
    k0_pay3 (F := Ideal) x g (ix2 r d) = rms (fun d => x (ix2 r d)) (fun d => g (ix2 0 d)) d := by
  pointwise [k0_pay3, rms]

section Active

variable (h : FVec Ideal S512x1024 .bf16) (w : FVec Ideal S1024x256 .bf16) (r : Fin 512) (j : Fin 256)

/-- 256 columns of the activated projection, as the body's eight steps compute them. -/
theorem active_at : k0_pay4 (F := Ideal) h w (ix2 r j) = gelu (rowMul (fun k => h (ix2 r k)) (fun k j => w (ix2 k j)) j)
    ∧ k0_pay5 (F := Ideal) h w (ix2 r j) = gelu (rowMul (fun k => h (ix2 r k)) (fun k j => w (ix2 k j)) j)
    ∧ k0_pay6 (F := Ideal) h w (ix2 r j) = gelu (rowMul (fun k => h (ix2 r k)) (fun k j => w (ix2 k j)) j)
    ∧ k0_pay9 (F := Ideal) (k0_pay7 h w) k0_pay8 (ix2 r j) = gelu (rowMul (fun k => h (ix2 r k)) (fun k j => w (ix2 k j)) j)
    ∧ k0_pay10 (F := Ideal) h w (ix2 r j) = gelu (rowMul (fun k => h (ix2 r k)) (fun k j => w (ix2 k j)) j)
    ∧ k0_pay14 (F := Ideal) (k0_pay12 h w) (k0_pay13 h w) (ix2 r j) = gelu (rowMul (fun k => h (ix2 r k)) (fun k j => w (ix2 k j)) j)
    ∧ k0_pay15 (F := Ideal) h w (ix2 r j) = gelu (rowMul (fun k => h (ix2 r k)) (fun k j => w (ix2 k j)) j)
    ∧ k0_pay16 (F := Ideal) h w (ix2 r j) = gelu (rowMul (fun k => h (ix2 r k)) (fun k j => w (ix2 k j)) j) := by
  refine ⟨?_, ?_, ?_, ?_, ?_, ?_, ?_, ?_⟩ <;>
    pointwise [k0_pay4, k0_pay5, k0_pay6, k0_pay7, k0_pay8, k0_pay9, k0_pay10, k0_pay11, k0_pay12, k0_pay13, k0_pay14, k0_pay15,
      k0_pay16, gelu, rowMul] <;>
    rfl

end Active

/-- The layer norm of the block's rows. -/
theorem inner_at (v : FVec Ideal S512x1024 .f32) (g b : FVec Ideal S1x1024 .f32) (r : Fin 512) (d : Fin 1024) :
    k0_pay17 (F := Ideal) v g b (ix2 r d) = layerNorm (fun d => v (ix2 r d)) (fun d => g (ix2 0 d)) (fun d => b (ix2 0 d)) d := by
  pointwise [k0_pay17, layerNorm, mean]

/-- The mask of the mixing weights: those of later tokens are 0. -/
theorem mask_at (x r : Fin 128) (a : EReal) :
    Scalar.select (IntOp.cmpi .sle (BitVec.ofNat 32 x.val) (BitVec.ofNat 32 r.val)) a 0 = if x.val ≤ r.val then a else 0 := by
  have key : ∀ x r : Fin 128, IntOp.cmpi .sle (BitVec.ofNat 32 x.val) (BitVec.ofNat 32 r.val) = BitVec.ofBool (decide (x.val ≤ r.val)) := by
    decide +kernel
  rw [key]
  by_cases h : x.val ≤ r.val
  · simp [h, Scalar.select]
  · simp [h, Scalar.select]

/-- An element of a run of 128 tokens, gated. -/
def part (w : FVec Ideal S1x128x128 .f32) (y : FVec Ideal S128x128 .bf16) (b : FVec Ideal S128x1 .f32)
    (u : FVec Ideal S128x128 .f32) (r c : Fin 128) : EReal :=
  u (ix2 r c) * (∑ j : Fin 128, (if j.val ≤ r.val then w (ix3 0 r j) * y (ix2 j c) else 0) + b (ix2 r 0))

/-- The rows after the mixer. -/
theorem mixed_at (x : FVec Ideal S512x1024 .f32) (y : FVec Ideal S512x1024 .bf16) (w : FVec Ideal S1024x1024 .bf16)
    (r : Fin 512) (d : Fin 1024) :
    k0_pay67 (F := Ideal) x y w (ix2 r d) = x (ix2 r d) + rowMul (fun k => y (ix2 r k)) (fun k d => w (ix2 k d)) d := by
  pointwise [k0_pay67, rowMul]

/-- Their norm. -/
theorem kept_at (x : FVec Ideal S512x1024 .f32) (y : FVec Ideal S512x1024 .bf16) (w : FVec Ideal S1024x1024 .bf16)
    (g : FVec Ideal S1x1024 .f32) (r : Fin 512) (d : Fin 1024) :
    k0_pay68 (F := Ideal) x y w g (ix2 r d) = rms (fun d => k0_pay67 (F := Ideal) x y w (ix2 r d)) (fun d => g (ix2 0 d)) d := by
  pointwise [k0_pay68, rms]

/-- The scores, over the norm's two parts and the router's columns: the high parts in columns 0 to 7, the low parts in 8 to 15. -/
theorem scores_at (a : FVec Ideal S512x1024 .bf16) (l : FVec Ideal S512x1024 .f32) (w : FVec Ideal S1024x128 .bf16)
    (e : Fin 8) (r : Fin 512) :
    k0_pay71 (F := Ideal) a l w w (ix2 e r) = rowMul (fun k => a (ix2 r k)) (fun k j => w (ix2 k j)) ⟨e, by omega⟩
        + rowMul (fun k => a (ix2 r k)) (fun k j => w (ix2 k j)) ⟨8 + e, by omega⟩
        + rowMul (fun k => l (ix2 r k)) (fun k j => w (ix2 k j)) ⟨e, by omega⟩ := by
  pointwise [k0_pay71, rowMul]
  have h : (⟨(e.val + 128 - 120) % 128, by omega⟩ : Fin 128) = ⟨8 + e, by omega⟩ := Fin.ext (by
    change (e.val + 128 - 120) % 128 = 8 + e.val
    omega)
  exact congrArg (fun i : Fin 128 => ∑ x, a (ix2 r x) * w (ix2 x ⟨e, by omega⟩) + ∑ x, a (ix2 r x) * w (ix2 x i)
    + ∑ x, l (ix2 r x) * w (ix2 x ⟨e, by omega⟩)) h

theorem bits_bot : Ideal.ofBits .f32 4286578688#32 = ⊥ := by first | rfl | (simp [Ideal.ofBits]; done) | exact Ideal.ofBits_neg_inf

/-- The largest of eight scores. -/
theorem fold_max (x : Fin 8 → EReal) : Finset.univ.fold max (Ideal.ofBits .f32 4286578688#32) x = x (first x) := by
  rw [bits_bot]
  exact le_antisymm (Finset.fold_max_le _ |>.2 ⟨bot_le, fun i _ => (first_spec x).1 i⟩)
    (Finset.le_fold_max _ |>.2 (Or.inr ⟨first x, Finset.mem_univ _, le_rfl⟩))

/-- The least index that a condition holds at. -/
theorem fold_least : ∀ (p : Fin 8 → Bool) (i : Fin 8), p i = true → (∀ j, j < i → p j = false) →
    Finset.univ.fold IntOp.minsi (2147483647#32) (fun j => if p j then BitVec.ofNat 32 j.val else 8#32) = BitVec.ofNat 32 i.val := by
  decide +kernel

/-- The least index of the largest of eight scores. -/
theorem fold_first (x : Fin 8 → EReal) : Finset.univ.fold IntOp.minsi (2147483647#32)
    (fun j => if x j = x (first x) then BitVec.ofNat 32 j.val else 8#32) = BitVec.ofNat 32 (first x).val := by
  classical
  refine Eq.trans ?_ (fold_least (fun j => decide (x j = x (first x))) (first x) (by simp) fun j hj => by
    simpa using ((first_spec x).2 j hj).ne)
  simp only [decide_eq_true_eq]

/-- A choice by whether a row of the table is a given one. -/
theorem choose_at {α : Type} (e i : Fin 8) (n : BitVec 32) (hn : n = BitVec.ofNat 32 i.val) (a b : α) :
    Scalar.select (IntOp.cmpi .eq (BitVec.ofNat 32 e.val) n) a b = if e = i then a else b := by
  have key : ∀ e i : Fin 8, IntOp.cmpi .eq (BitVec.ofNat 32 e.val) (BitVec.ofNat 32 i.val) = BitVec.ofBool (decide (e = i)) := by
    decide +kernel
  rw [hn, key]
  by_cases h : e = i
  · simp [h, Scalar.select]
  · simp [h, Scalar.select]

theorem row_zero (e : Fin 8) : e = 0 ↔ e.val = 0 := Fin.ext_iff
theorem row_one (e : Fin 8) : e = 1 ↔ e.val = 1 := Fin.ext_iff

section Pick

variable (a : FVec Ideal S512x1024 .bf16) (l : FVec Ideal S512x1024 .f32) (w : FVec Ideal S1024x128 .bf16) (S : FVec Ideal S8x512 .f32)
  (hS : k0_pay71 (F := Ideal) a l w w = S) (e : Fin 8) (r : Fin 512)
include hS

theorem max_at : k0_pay72 (F := Ideal) a l w w (ix2 0 r) = S (ix2 (first fun e => S (ix2 e r)) r) := by
  unfold k0_pay72
  rw [hS]
  pointwise []
  exact fold_max fun e => S (ix2 e r)

theorem arg_at : k0_pay73 (F := Ideal) a l w w (ix2 0 r) = BitVec.ofNat 32 (first fun e => S (ix2 e r)).val := by
  have hM := max_at a l w S hS r
  unfold k0_pay73
  generalize k0_pay72 (F := Ideal) a l w w = M at hM ⊢
  rw [hS]
  pointwise []
  rw [hM]
  exact fold_first fun e => S (ix2 e r)

theorem struck_at : k0_pay74 (F := Ideal) a l w w (ix2 e r) = struck (fun e => S (ix2 e r)) e := by
  have hM := arg_at a l w S hS r
  unfold k0_pay74
  generalize k0_pay73 (F := Ideal) a l w w = M at hM ⊢
  rw [hS]
  pointwise []
  rw [hM, choose_at e (first fun e => S (ix2 e r)) _ rfl, bits_bot]
  rfl

theorem max2_at : k0_pay75 (F := Ideal) a l w w (ix2 0 r) = struck (fun e => S (ix2 e r)) (second fun e => S (ix2 e r)) := by
  have hM := fun e => struck_at a l w S hS e r
  unfold k0_pay75
  generalize k0_pay74 (F := Ideal) a l w w = M at hM ⊢
  pointwise []
  simp only [hM]
  exact fold_max _

theorem ratio_at (hf : ∀ e r, S (ix2 e r) ≠ ⊥) : k0_pay76 (F := Ideal) a l w w (ix2 0 r)
    = Ideal.exp (S (ix2 (second fun e => S (ix2 e r)) r) - S (ix2 (first fun e => S (ix2 e r)) r)) := by
  have hM := max_at a l w S hS r
  have hN := (max2_at a l w S hS r).trans (struck_second _ fun e => hf e r)
  unfold k0_pay76
  pointwise []
  rw [hM, hN]

theorem expert_at : k0_pay1 (k0_pay73 (F := Ideal) a l w w) k0_pay77 (k0_pay78 (F := Ideal) a l w w) (ix2 e r)
    = expert (fun e => S (ix2 e r)) e := by
  have h1 := arg_at a l w S hS r
  have h2 := fun e => struck_at a l w S hS e r
  have h3 := max2_at a l w S hS r
  unfold k0_pay78
  generalize k0_pay73 (F := Ideal) a l w w = M1 at h1 ⊢
  generalize k0_pay74 (F := Ideal) a l w w = M2 at h2 ⊢
  generalize k0_pay75 (F := Ideal) a l w w = M3 at h3 ⊢
  pointwise [k0_pay1, k0_pay77]
  simp only [h1, h2, h3]
  rw [choose_at e 0 0#32 rfl, choose_at e 1 1#32 rfl]
  simp only [row_zero, row_one]
  unfold expert
  rw [show Finset.univ.fold IntOp.minsi (2147483647#32) (fun x => if struck (fun e => S (ix2 e r)) x
    = struck (fun e => S (ix2 e r)) (second fun e => S (ix2 e r)) then BitVec.ofNat 32 x.val else 8#32)
      = BitVec.ofNat 32 (second fun e => S (ix2 e r)).val from fold_first (struck fun e => S (ix2 e r))]

end Pick

/-- The gates, from the ratio of the second score's weight to the first's. -/
theorem gate_at (M : FVec Ideal S1x512 .f32) (x : Fin 8 → EReal) (e : Fin 8) (r : Fin 512)
    (hM : M (ix2 0 r) = Ideal.exp (x (second x) - x (first x))) :
    k0_pay2 (F := Ideal) (iota .tc S8x512 32 [0] iota_S8x512_d0_w32) M (ix2 e r) = gate x e := by
  pointwise [k0_pay2]
  rw [choose_at e 0 0#32 rfl, choose_at e 1 1#32 rfl, hM]
  simp only [row_zero, row_one]
  rfl

end Cert.KernelIdeal.Block
end
-- ==== Proof.MixReads.lean ====
/- Layer 1's mixer: what each window of a grid point holds, and where its results go. -/
module

public import proofs.«01_k».proof.Proof.Gen.KernelIdeal.Value
public import proofs.«01_k».proof.Proof.MixBlock
public import Idealize.ShloMosaic.Lib.Pipeline.ValueKit
public import Idealize.ShloMosaic.Lib.Claim

@[expose] public section

set_option maxRecDepth 16384

noncomputable section

namespace Cert.KernelIdeal.Array

open Cert.KernelIdeal Cert.KernelIdeal.Gen Idealize.ShloMosaic Idealize.ShloMosaic.TcCoe Idealize.SL.Sem
open Cert.Rows Cert.Mix Cert.Top

variable (m : (ℓ : Loc nD τ sig) → Buf (Elt Ideal) ℓ)

/-- The block indices of every window at grid point `t`: the token's tile, and the whole of every weight. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![0, t.val] ∧ win0_13.index t = ![0, t.val] :=
  (by decide +kernel : ∀ t : Fin grid0.N, _)

/-- Argument 0 of device `c`. -/
abbrev X (c : Dev nD) : FVec Ideal S4x4096x1024 .f32 := m ((c : Thread nD τ).loc main_arg0)
/-- Argument 1 of device `c`. -/
abbrev Lm (c : Dev nD) : FVec Ideal S2x1024 .f32 := m ((c : Thread nD τ).loc main_arg1)
/-- Argument 2 of device `c`. -/
abbrev Wi (c : Dev nD) : FVec Ideal S1x1024x2048 .f32 := m ((c : Thread nD τ).loc main_arg2)
/-- Argument 3 of device `c`. -/
abbrev Lg (c : Dev nD) : FVec Ideal S1x1024 .f32 := m ((c : Thread nD τ).loc main_arg3)
/-- Argument 4 of device `c`. -/
abbrev Lb (c : Dev nD) : FVec Ideal S1x1024 .f32 := m ((c : Thread nD τ).loc main_arg4)
/-- Argument 5 of device `c`. -/
abbrev Ws (c : Dev nD) : FVec Ideal S1x8x128x128 .f32 := m ((c : Thread nD τ).loc main_arg5)
/-- Argument 6 of device `c`. -/
abbrev Bs (c : Dev nD) : FVec Ideal S1x8x128 .f32 := m ((c : Thread nD τ).loc main_arg6)
/-- Argument 7 of device `c`. -/
abbrev Wo (c : Dev nD) : FVec Ideal S1x1024x1024 .f32 := m ((c : Thread nD τ).loc main_arg7)
/-- Argument 8 of device `c`. -/
abbrev Lf (c : Dev nD) : FVec Ideal S2x1024 .f32 := m ((c : Thread nD τ).loc main_arg8)
/-- Argument 9 of device `c`. -/
abbrev Wr (c : Dev nD) : FVec Ideal S1x1024x8 .f32 := m ((c : Thread nD τ).loc main_arg9)

/-- The token at row `r` of tile `t`. -/
abbrev tok (t : Fin cfg0.N) (r : Fin 512) : Fin 16384 := ⟨t * 512 + r, by have : t.val < 32 := t.isLt; omega⟩

/-- Window 0: the array it reads, and its block. -/
theorem in0 (c : Dev nD) : V m c main_v7 = shapeCast S16384x1024 (X m c) shapeCasts_S4x4096x1024_S16384x1024 := by
  unfold V
  simp only [List.flatten_cons, List.flatten_nil, List.append_nil, StableHlo.after_append]
  after_results
  rfl
theorem blk0 (c : Dev nD) (t : Fin cfg0.N) (r : Fin 512) (d : Fin 1024) : (show FVec Ideal S512x1024 .f32 from iblk m c 0 t) (ix2 r d) = X m c (ix3 ⟨tok t r / 4096, by omega⟩ ⟨tok t r % 4096, by omega⟩ d) := by
  have e : ((cfg0.win 0).blk t).view.emb ((ix2 r d) : S512x1024.Idx) = ((ix2 (tok t r) d) : S16384x1024.Idx) := by blk_ext [idx t]
  refine (congrArg (V m c main_v7) e).trans ((congrFun (in0 m c) _).trans ?_)
  pointwise []
/-- Window 1: the array it reads, and its block. -/
theorem in1 (c : Dev nD) : V m c main_v10 = shapeCast S1x1024 (shapeCast S1024 (extractStridedSlice S1x1024 ![1, 0] (Lm m c) slices_S2x1024_S1x1024_1_0) shapeCasts_S1x1024_S1024) shapeCasts_S1024_S1x1024 := by
  unfold V
  simp only [List.flatten_cons, List.flatten_nil, List.append_nil, StableHlo.after_append]
  after_results
  rfl
theorem blk1 (c : Dev nD) (t : Fin cfg0.N) (d : Fin 1024) : (show FVec Ideal S1x1024 .f32 from iblk m c 1 t) (ix2 0 d) = Lm m c (ix2 1 d) := by
  have e : ((cfg0.win 1).blk t).view.emb ((ix2 0 d) : S1x1024.Idx) = ((ix2 0 d) : S1x1024.Idx) := by blk_ext [idx t]
  refine (congrArg (V m c main_v10) e).trans ((congrFun (in1 m c) _).trans ?_)
  pointwise []
/-- Window 2: the array it reads, and its block. -/
theorem in2 (c : Dev nD) : V m c main_v12 = truncf (F := Ideal) .bf16 (shapeCast S1024x2048 (Wi m c) shapeCasts_S1x1024x2048_S1024x2048) bitsLt_bf16_f32 := by
  unfold V
  simp only [List.flatten_cons, List.flatten_nil, List.append_nil, StableHlo.after_append]
  after_results
  rfl
theorem blk2 (c : Dev nD) (t : Fin cfg0.N) (k : Fin 1024) (j : Fin 2048) : (show FVec Ideal S1024x2048 .bf16 from iblk m c 2 t) (ix2 k j) = Wi m c (ix3 0 k j) := by
  have e : ((cfg0.win 2).blk t).view.emb ((ix2 k j) : S1024x2048.Idx) = ((ix2 k j) : S1024x2048.Idx) := by blk_ext [idx t]
  refine (congrArg (V m c main_v12) e).trans ((congrFun (in2 m c) _).trans ?_)
  pointwise []
/-- Window 3: the array it reads, and its block. -/
theorem in3 (c : Dev nD) : V m c main_v14 = shapeCast S1x1024 (shapeCast S1024 (Lg m c) shapeCasts_S1x1024_S1024) shapeCasts_S1024_S1x1024 := by
  unfold V
  simp only [List.flatten_cons, List.flatten_nil, List.append_nil, StableHlo.after_append]
  after_results
  rfl
theorem blk3 (c : Dev nD) (t : Fin cfg0.N) (d : Fin 1024) : (show FVec Ideal S1x1024 .f32 from iblk m c 3 t) (ix2 0 d) = Lg m c (ix2 0 d) := by
  have e : ((cfg0.win 3).blk t).view.emb ((ix2 0 d) : S1x1024.Idx) = ((ix2 0 d) : S1x1024.Idx) := by blk_ext [idx t]
  refine (congrArg (V m c main_v14) e).trans ((congrFun (in3 m c) _).trans ?_)
  pointwise []
/-- Window 4: the array it reads, and its block. -/
theorem in4 (c : Dev nD) : V m c main_v16 = shapeCast S1x1024 (shapeCast S1024 (Lb m c) shapeCasts_S1x1024_S1024) shapeCasts_S1024_S1x1024 := by
  unfold V
  simp only [List.flatten_cons, List.flatten_nil, List.append_nil, StableHlo.after_append]
  after_results
  rfl
theorem blk4 (c : Dev nD) (t : Fin cfg0.N) (d : Fin 1024) : (show FVec Ideal S1x1024 .f32 from iblk m c 4 t) (ix2 0 d) = Lb m c (ix2 0 d) := by
  have e : ((cfg0.win 4).blk t).view.emb ((ix2 0 d) : S1x1024.Idx) = ((ix2 0 d) : S1x1024.Idx) := by blk_ext [idx t]
  refine (congrArg (V m c main_v16) e).trans ((congrFun (in4 m c) _).trans ?_)
  pointwise []
/-- Window 5: the array it reads, and its block. -/
theorem in5 (c : Dev nD) : V m c main_v17 = shapeCast S8x128x128 (Ws m c) shapeCasts_S1x8x128x128_S8x128x128 := by
  unfold V
  simp only [List.flatten_cons, List.flatten_nil, List.append_nil, StableHlo.after_append]
  after_results
  rfl
theorem blk5 (c : Dev nD) (t : Fin cfg0.N) (g : Fin 8) (i j : Fin 128) : (show FVec Ideal S8x128x128 .f32 from iblk m c 5 t) (ix3 g i j) = Ws m c (ix4 0 g i j) := by
  have e : ((cfg0.win 5).blk t).view.emb ((ix3 g i j) : S8x128x128.Idx) = ((ix3 g i j) : S8x128x128.Idx) := by blk_ext [idx t]
  refine (congrArg (V m c main_v17) e).trans ((congrFun (in5 m c) _).trans ?_)
  pointwise []
/-- Window 6: the array it reads, and its block. -/
theorem in6 (c : Dev nD) : V m c main_v19 = transpose S128x8 [1, 0] (shapeCast S8x128 (Bs m c) shapeCasts_S1x8x128_S8x128) transposes_S8x128_S128x8_1_0 := by
  unfold V
  simp only [List.flatten_cons, List.flatten_nil, List.append_nil, StableHlo.after_append]
  after_results
  rfl
theorem blk6 (c : Dev nD) (t : Fin cfg0.N) (i : Fin 128) (g : Fin 8) : (show FVec Ideal S128x8 .f32 from iblk m c 6 t) (ix2 i g) = Bs m c (ix3 0 g i) := by
  have e : ((cfg0.win 6).blk t).view.emb ((ix2 i g) : S128x8.Idx) = ((ix2 i g) : S128x8.Idx) := by blk_ext [idx t]
  refine (congrArg (V m c main_v19) e).trans ((congrFun (in6 m c) _).trans ?_)
  pointwise []
/-- Window 7: the array it reads, and its block. -/
theorem in7 (c : Dev nD) : V m c main_v21 = truncf (F := Ideal) .bf16 (shapeCast S1024x1024 (Wo m c) shapeCasts_S1x1024x1024_S1024x1024) bitsLt_bf16_f32 := by
  unfold V
  simp only [List.flatten_cons, List.flatten_nil, List.append_nil, StableHlo.after_append]
  after_results
  rfl
theorem blk7 (c : Dev nD) (t : Fin cfg0.N) (k d : Fin 1024) : (show FVec Ideal S1024x1024 .bf16 from iblk m c 7 t) (ix2 k d) = Wo m c (ix3 0 k d) := by
  have e : ((cfg0.win 7).blk t).view.emb ((ix2 k d) : S1024x1024.Idx) = ((ix2 k d) : S1024x1024.Idx) := by blk_ext [idx t]
  refine (congrArg (V m c main_v21) e).trans ((congrFun (in7 m c) _).trans ?_)
  pointwise []
/-- Window 8: the array it reads, and its block. -/
theorem in8 (c : Dev nD) : V m c main_v24 = shapeCast S1x1024 (shapeCast S1024 (extractStridedSlice S1x1024 ![1, 0] (Lf m c) slices_S2x1024_S1x1024_1_0) shapeCasts_S1x1024_S1024) shapeCasts_S1024_S1x1024 := by
  unfold V
  simp only [List.flatten_cons, List.flatten_nil, List.append_nil, StableHlo.after_append]
  after_results
  rfl
theorem blk8 (c : Dev nD) (t : Fin cfg0.N) (d : Fin 1024) : (show FVec Ideal S1x1024 .f32 from iblk m c 8 t) (ix2 0 d) = Lf m c (ix2 1 d) := by
  have e : ((cfg0.win 8).blk t).view.emb ((ix2 0 d) : S1x1024.Idx) = ((ix2 0 d) : S1x1024.Idx) := by blk_ext [idx t]
  refine (congrArg (V m c main_v24) e).trans ((congrFun (in8 m c) _).trans ?_)
  pointwise []
/-- Window 9: the router's weights, in two parts. -/
abbrev split (w : FVec Ideal S1x1024x8 .f32) : FVec Ideal S1024x128 .bf16 :=
  pad S1024x128 ![0, 0] ![0, 112] ![0, 0]
    (concatenate S1024x16 1 [⟨S1024x8, truncf (F := Ideal) .bf16 (shapeCast S1024x8 w shapeCasts_S1x1024x8_S1024x8) bitsLt_bf16_f32⟩,
      ⟨S1024x8, truncf (F := Ideal) .bf16 (subf (F := Ideal) (shapeCast S1024x8 w shapeCasts_S1x1024x8_S1024x8)
        (extf (F := Ideal) .f32 (truncf (F := Ideal) .bf16 (shapeCast S1024x8 w shapeCasts_S1x1024x8_S1024x8) bitsLt_bf16_f32) bitsLt_bf16_f32)) bitsLt_bf16_f32⟩]
      concatenates_S1024x8_S1024x8_S1024x16_d1)
    (sitofp (F := Ideal) .bf16 (constantI S_ 32 0#32)) pads_S1024x16_S1024x128_000_01120 h_S_
theorem in9 (c : Dev nD) : V m c main_v6 = split (Wr m c) := by
  unfold V
  simp only [List.flatten_cons, List.flatten_nil, List.append_nil, StableHlo.after_append]
  after_results
  rfl
theorem split_hi (w : FVec Ideal S1x1024x8 .f32) (k : Fin 1024) (e : Fin 8) : split w (ix2 k ⟨e, by omega⟩) = w (ix3 0 k e) := by
  pointwise []
  exact dif_pos (by omega)
theorem split_lo (w : FVec Ideal S1x1024x8 .f32) (k : Fin 1024) (e : Fin 8) : split w (ix2 k ⟨8 + e, by omega⟩) = w (ix3 0 k e) - w (ix3 0 k e) := by
  pointwise []
  exact dif_pos (by omega)
theorem blk9 (c : Dev nD) (t : Fin cfg0.N) (k : Fin 1024) (j : Fin 128) : (show FVec Ideal S1024x128 .bf16 from iblk m c 9 t) (ix2 k j) = split (Wr m c) (ix2 k j) := by
  have e : ((cfg0.win 9).blk t).view.emb (ix2 k j : S1024x128.Idx) = (ix2 k j : S1024x128.Idx) := by blk_ext [idx t]
  exact (congrArg (V m c main_v6) e).trans (congrFun (in9 m c) _)

theorem emb10 (t : Fin cfg0.N) (r : Fin 512) (d : Fin 1024) : ((cfg0.win 10).blk t).view.emb (ix2 r d : S512x1024.Idx) = (ix2 (tok t r) d : S16384x1024.Idx) := by
  blk_ext [idx t]
theorem emb11 (t : Fin cfg0.N) (r : Fin 512) (d : Fin 1024) : ((cfg0.win 11).blk t).view.emb (ix2 r d : S512x1024.Idx) = (ix2 (tok t r) d : S16384x1024.Idx) := by
  blk_ext [idx t]
theorem emb12 (t : Fin cfg0.N) (e : Fin 8) (r : Fin 512) : ((cfg0.win 12).blk t).view.emb (ix2 e r : S8x512.Idx) = (ix2 e (tok t r) : S8x16384.Idx) := by
  blk_ext [idx t]
theorem emb13 (t : Fin cfg0.N) (e : Fin 8) (r : Fin 512) : ((cfg0.win 13).blk t).view.emb (ix2 e r : S8x512.Idx) = (ix2 e (tok t r) : S8x16384.Idx) := by
  blk_ext [idx t]

end Cert.KernelIdeal.Array
end
-- ==== Proof.MixArray.lean ====
/- The result arrays of layer 1's mixer: at every token and element the values the blocks store there. -/
module

public import proofs.«01_k».proof.Proof.Gen.KernelIdeal.Value
public import proofs.«01_k».proof.Proof.MixReads
public import Idealize.ShloMosaic.Lib.Pipeline.ValueKit
public import Idealize.ShloMosaic.Lib.Claim

@[expose] public section

set_option maxRecDepth 16384

noncomputable section

namespace Cert.KernelIdeal.Array

open Cert.KernelIdeal Cert.KernelIdeal.Gen Idealize.ShloMosaic Idealize.ShloMosaic.TcCoe Idealize.SL.Sem
open Cert.Rows Cert.Mix Cert.Top

variable (m : (ℓ : Loc nD τ sig) → Buf (Elt Ideal) ℓ)

/-- Columns `o` and on of the input weight. -/
theorem ld_cols (w : FVec Ideal S1024x2048 .bf16) (o : ℕ) (h) (k : Fin 1024) (d : Fin 256) (hd : o + d.val < 2048) :
    View.ld (Val := Elt Ideal) (S := S1024x2048) (e' := .bf16) w (Rect.unit ![0, o] ![1024, 256] h) (ix2 k d) = w (ix2 k ⟨o + d, hd⟩) :=
  View.ld_unit_apply_of (Val := Elt Ideal) (e := .bf16) w _ _ _ _ _ fun a => by
    match a with
    | ⟨0, _⟩ => exact (Nat.zero_add _).symm
    | ⟨1, _⟩ => rfl

/-- A column of the activated projection, from a load of 256 columns. -/
theorem active_ld (c : Dev nD) (t : Fin cfg0.N) (o : ℕ) (h) (r : Fin 512) (j : Fin 256) (k : Fin 2048) (hk : k.val = o + j) :
    gelu (rowMul (fun d => k0_pay3 (F := Ideal) (iblk m c 0 t) (iblk m c 1 t) (ix2 r d))
      (fun i j => View.ld (Val := Elt Ideal) (S := S1024x2048) (e' := .bf16) (iblk m c 2 t) (Rect.unit ![0, o] ![1024, 256] h) (ix2 i j)) j)
      = active (X m c) (Lm m c) (Wi m c) (tok t r) k := by
  unfold active
  refine congrArg gelu (Finset.sum_congr rfl fun i _ => congrArg₂ (· * ·) ?_ ?_)
  · refine (Block.normed_at _ _ r i).trans ?_
    refine congrArg₂ (fun a b => rms a b i) (funext fun d => blk0 m c t r d) (funext fun d => blk1 m c t d)
  · have e : k = ⟨o + j, by omega⟩ := Fin.ext hk
    exact (ld_cols _ o h i j _).trans ((blk2 m c t i _).trans (congrArg (fun k => Wi m c (ix3 0 i k)) e.symm))

/-- What the run of 128 tokens that row `r` is in comes to at the row, from the two halves. -/
def run (U Y : S512x1024.Idx → EReal) (W : FVec Ideal S8x128x128 .f32) (B : FVec Ideal S128x8 .f32) (r : Fin 512) (k : Fin 1024) : EReal :=
  U (ix2 r k) * (∑ j : Fin 128, (if j.val ≤ r.val % 128 then W (ix3 ⟨k / 128, by omega⟩ ⟨r % 128, by omega⟩ j)
      * Y (ix2 ⟨r / 128 * 128 + j, by omega⟩ k) else 0) + B (ix2 ⟨r % 128, by omega⟩ ⟨k / 128, by omega⟩))

/-- A piece stored is the run's value at the piece's rows and columns. -/
theorem run_at (U Y : S512x1024.Idx → EReal) (W : FVec Ideal S8x128x128 .f32) (B : FVec Ideal S128x8 .f32) (r r' : Fin 512)
    (k k' : Fin 1024) (a : Fin 128) (g : Fin 8) (row : Fin 128 → Fin 512) (col : Fin 128 → Fin 1024) (hr : r'.val = r.val)
    (hk : k'.val = k.val) (ha : a.val = r.val % 128) (hg : g.val = k.val / 128) (hrow : ∀ x, (row x).val = r.val / 128 * 128 + x.val)
    (hcol : ∀ x, (col x).val = k.val) :
    U (ix2 r' k') * (∑ x, (if x.val ≤ a.val then W (ix3 g a x) * Y (ix2 (row x) (col x)) else 0) + B (ix2 a g)) = run U Y W B r k := by
  obtain rfl : r' = r := Fin.ext hr
  obtain rfl : k' = k := Fin.ext hk
  have hb (x : Fin 128) : r'.val / 128 * 128 + x.val < 512 := by have := r'.isLt; omega
  have hc : k'.val / 128 < 8 := by have := k'.isLt; omega
  have hd : r'.val % 128 < 128 := Nat.mod_lt _ (by decide)
  obtain rfl : a = ⟨r' % 128, hd⟩ := Fin.ext ha
  obtain rfl : g = ⟨k' / 128, hc⟩ := Fin.ext hg
  obtain rfl : row = fun x => ⟨r' / 128 * 128 + x, hb x⟩ := funext fun x => Fin.ext (hrow x)
  obtain rfl : col = fun _ => k' := funext fun x => Fin.ext (hcol x)
  rfl

/-- A read of a run of 128 rows and columns of a buffer. -/
theorem sub_at {α : Type} (Y : S512x1024.Idx → α) (o p : ℕ) (h) (i j : Fin 128) :
    Y ((Rect.unit (s := S512x1024) ![o, p] ![128, 128] h).toLoadRect.idx (ix2 i j : S128x128.Idx))
      = Y (ix2 ⟨o + i, by have : o + 128 ≤ 512 := h 0; omega⟩ ⟨p + j, by have : p + 128 ≤ 1024 := h 1; omega⟩) := by
  have e : (Rect.unit (s := S512x1024) ![o, p] ![128, 128] h).emb (ix2 i j : S128x128.Idx)
    = (ix2 ⟨o + i, by have : o + 128 ≤ 512 := h 0; omega⟩ ⟨p + j, by have : p + 128 ≤ 1024 := h 1; omega⟩ : S512x1024.Idx) := by blk_ext
  exact congrArg Y e

/-- A read of the whole buffer. -/
theorem whole_at {α : Type} (Y : S512x1024.Idx → α) (h) (i : Fin 512) (j : Fin 1024) :
    Y ((Rect.unit (s := S512x1024) ![0, 0] ![512, 1024] h).toLoadRect.idx (ix2 i j : S512x1024.Idx)) = Y (ix2 i j) := by
  have e : (Rect.unit (s := S512x1024) ![0, 0] ![512, 1024] h).emb (ix2 i j : S512x1024.Idx) = (ix2 i j : S512x1024.Idx) := by blk_ext
  exact congrArg Y e

set_option maxHeartbeats 4000000 in
/-- The blocks' results, from one array of the gated rows. -/
theorem outs (c : Dev nD) (t : Fin cfg0.N) : ∃ g : FVec Ideal S512x1024 .bf16,
    (∀ r k, g (ix2 r k) = gated (X m c) (Lm m c) (Wi m c) (Lg m c) (Lb m c) (Ws m c) (Bs m c) (tok t r) k)
    ∧ (outsAt0 m c t).1 = k0_pay67 (F := Ideal) (iblk m c 0 t) g (iblk m c 7 t)
    ∧ (outsAt0 m c t).2.1 = k0_pay68 (F := Ideal) (iblk m c 0 t) g (iblk m c 7 t) (iblk m c 8 t)
    ∧ (outsAt0 m c t).2.2.1 = k0_pay1
      (k0_pay73 (F := Ideal) (k0_pay69 (iblk m c 0 t) g (iblk m c 7 t) (iblk m c 8 t)) (k0_pay70 (iblk m c 0 t) g (iblk m c 7 t) (iblk m c 8 t)) (iblk m c 9 t) (iblk m c 9 t))
      k0_pay77
      (k0_pay78 (F := Ideal) (k0_pay69 (iblk m c 0 t) g (iblk m c 7 t) (iblk m c 8 t)) (k0_pay70 (iblk m c 0 t) g (iblk m c 7 t) (iblk m c 8 t)) (iblk m c 9 t) (iblk m c 9 t))
    ∧ (outsAt0 m c t).2.2.2 = k0_pay2 (F := Ideal) (iota .tc S8x512 32 [0] iota_S8x512_d0_w32)
      (k0_pay76 (F := Ideal) (k0_pay69 (iblk m c 0 t) g (iblk m c 7 t) (iblk m c 8 t)) (k0_pay70 (iblk m c 0 t) g (iblk m c 7 t) (iblk m c 8 t)) (iblk m c 9 t) (iblk m c 9 t)) := by
  rw [outsAt0]
  frame_out
  refine ⟨_, ?_, rfl, rfl, rfl, rfl⟩
  intro r k
  generalize hX : (View.whole cc0_scratch2).readCov (Val := Elt Ideal) _ _ = X1
  have hX1 (r : Fin 512) (d : Fin 1024) : X1 (ix2 r d) = active (X m c) (Lm m c) (Wi m c) (tok t r) ⟨1024 + d, by omega⟩ := by
    rw [← hX, View.readCov_eq_canon']
    refine (whole_at _ _ r d).trans ?_
    canon_tiles x h
    all_goals
      idx_vars x
      obtain rfl : x0 = r := Fin.ext (by omega)
      simp only [Block.active_at]
      refine active_ld m c t _ _ _ _ _ ?_
      dsimp only
      omega
  generalize hV : k0_pay17 X1 _ _ = Y1
  have hY1 (r : Fin 512) (d : Fin 1024) : Y1 (ix2 r d) = Mix.inner (X m c) (Lm m c) (Wi m c) (Lg m c) (Lb m c) (tok t r) d := by
    rw [← hV, Block.inner_at]
    unfold Mix.inner
    simp only [hX1]
    refine congrArg₂ (fun a b => layerNorm _ a b d) (funext fun d => blk3 m c t d) (funext fun d => blk4 m c t d)
  clear hX hX1 hV
  generalize hU : (View.whole cc0_scratch1).readCov (Val := Elt Ideal) _ = U
  generalize hY : (View.whole cc0_scratch3).readCov (Val := Elt Ideal) _ = Y
  have hY' (o p : ℕ) (h) (i j : Fin 128) : Y (Rect.unit (s := S512x1024) ![o, p] ![128, 128] h).toLoadRect (ix2 i j)
      = Y1 (ix2 ⟨o + i, by have : o + 128 ≤ 512 := h 0; omega⟩ ⟨p + j, by have : p + 128 ≤ 1024 := h 1; omega⟩) := by
    rw [← hY, View.readCov_eq_canon']
    refine (sub_at _ o p h i j).trans ?_
    canon_tiles x h
    idx_vars x
    refine congrArg Y1 ?_
    blk_ext
    all_goals omega
  obtain ⟨U1, hU1⟩ : ∃ U1 : S512x1024.Idx → EReal, ∀ r d, U1 (ix2 r d) = active (X m c) (Lm m c) (Wi m c) (tok t r) ⟨d, by omega⟩ :=
    ⟨fun i => active (X m c) (Lm m c) (Wi m c) (tok t (i 0)) ⟨i 1, by have : (i 1).val < 1024 := (i 1).isLt; omega⟩, fun _ _ => rfl⟩
  have hU' (o p : ℕ) (h) (i j : Fin 128) : U (Rect.unit (s := S512x1024) ![o, p] ![128, 128] h).toLoadRect (ix2 i j)
      = U1 (ix2 ⟨o + i, by have : o + 128 ≤ 512 := h 0; omega⟩ ⟨p + j, by have : p + 128 ≤ 1024 := h 1; omega⟩) := by
    rw [← hU, View.readCov_eq_canon']
    refine (sub_at _ o p h i j).trans ?_
    generalize (⟨o + i, _⟩ : Fin 512) = r
    generalize (⟨p + j, _⟩ : Fin 1024) = d
    rw [hU1]
    canon_tiles x h
    all_goals
      idx_vars x
      obtain rfl : x0 = r := Fin.ext (by omega)
      simp only [Block.active_at]
      refine active_ld m c t _ _ _ _ _ ?_
      dsimp only
      omega
  generalize hWe : iblk m c 5 t = W
  have hW (g : Fin 8) (i j : Fin 128) : W (ix3 g i j) = Ws m c (ix4 0 g i j) := by
    rw [← hWe]
    exact blk5 m c t g i j
  generalize hBe : iblk m c 6 t = B
  have hB (i : Fin 128) (g : Fin 8) : B (ix2 i g) = Bs m c (ix3 0 g i) := by
    rw [← hBe]
    exact blk6 m c t i g
  clear hWe hBe
  clear hU hY
  rw [View.readCov_eq_canon']
  refine (whole_at _ _ r k).trans ?_
  refine Eq.trans (b := run U1 Y1 W B r k) ?_ ?_
  · canon_tiles x h
    all_goals
      idx_vars x
      pointwise [k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]
      try simp (disch := omega) only [dif_pos, dif_neg]
      simp only [Block.mask_at, hY', hU']
      refine run_at U1 Y1 W B r _ k _ x0 _ _ _ ?_ ?_ ?_ ?_ ?_ ?_
      all_goals first
        | omega
        | (dsimp only; omega)
        | (intro x; dsimp only; omega)
  · unfold run gated spatial
    have eb : (⟨t * 4 + r / 128, by have : t.val < 32 := t.isLt; omega⟩ : Fin 128) = ⟨tok t r / 128, by omega⟩ := Fin.ext (by dsimp only; omega)
    have ei : (⟨r % 128, by omega⟩ : Fin 128) = ⟨tok t r % 128, by omega⟩ := Fin.ext (by dsimp only; omega)
    rw [← eb, ← ei, hU1]
    unfold within
    rw [hB]
    refine congrArg₂ (· * ·) rfl (congrArg₂ (· + ·) (Finset.sum_congr rfl fun j _ => ?_) rfl)
    rw [hW, hY1]
    refine congrArg (fun n => if j.val ≤ r.val % 128 then Ws m c (ix4 0 ⟨k / 128, by omega⟩ ⟨r % 128, by omega⟩ j)
      * Mix.inner (X m c) (Lm m c) (Wi m c) (Lg m c) (Lb m c) n k else 0) (Fin.ext ?_)
    dsimp only
    omega

end Cert.KernelIdeal.Array
end
-- ==== Proof.MixMath.lean ====
/- The norm of a row is real whatever the row holds, and so are the scores of real router weights. -/
module

public import proofs.«01_k».proof.Proof.MixSpec

@[expose] public section

noncomputable section

namespace Cert.Mix

open Idealize.ShloMosaic Cert.Rows Cert.Top

/-- A sum of reals is real. -/
theorem sum_real {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

theorem width_eq : Ideal.ofBits .f32 0x44800000#32 = ((1024 : ℝ) : EReal) := by
  simp [Ideal.ofBits, Ideal.ieee, -EReal.coe_mul]
  norm_num

theorem guard_eq : ∃ e : ℝ, 0 < e ∧ Ideal.ofBits .f32 0x358637BD#32 = (e : EReal) := by
  refine ⟨8796093 / 8796093022208, by norm_num, ?_⟩
  simp [Ideal.ofBits, Ideal.ieee, -EReal.coe_mul]
  norm_num

/-- A square is not negative. -/
theorem square_nonneg (x : EReal) : 0 ≤ x * x := by
  induction x with
  | bot => simp
  | top => simp
  | coe x => exact_mod_cast mul_self_nonneg x

/-- The norm of a row is real: one infinite entry makes the root's reciprocal 0, and finite entries give a positive radicand. -/
theorem rms_real (x g : Fin 1024 → EReal) (hg : ∀ d, g d = ((g d).toReal : EReal)) (d : Fin 1024) : ∃ v : ℝ, rms x g d = v := by
  obtain ⟨e, he, hE⟩ := guard_eq
  by_cases h : ∃ k, x k = ⊤ ∨ x k = ⊥
  · obtain ⟨k, hk⟩ := h
    have ht : ∑ k, x k * x k = ⊤ := top_le_iff.1 ((show ⊤ ≤ x k * x k by rcases hk with hk | hk <;> simp [hk]).trans
      (Finset.single_le_sum (f := fun k => x k * x k) (fun i _ => square_nonneg (x i)) (Finset.mem_univ k)))
    refine ⟨0, ?_⟩
    unfold rms
    rw [ht, width_eq, Ideal.div_coe (by norm_num), EReal.top_mul_coe_of_pos (by norm_num), hE, EReal.top_add_coe, Ideal.rsqrt_top, mul_zero, zero_mul]
    rfl
  · push Not at h
    obtain ⟨y, rfl⟩ : ∃ y : Fin 1024 → ℝ, x = fun k => (y k : EReal) :=
      ⟨fun k => (x k).toReal, funext fun k => (EReal.coe_toReal (h k).1 (h k).2).symm⟩
    have hs : 0 ≤ ∑ k, y k * y k := Finset.sum_nonneg fun k _ => mul_self_nonneg (y k)
    have hr : 0 < (∑ k, y k * y k) * (1 / 1024) + e := by positivity
    unfold rms
    rw [hg d, width_eq, Ideal.div_coe (by norm_num), hE]
    simp only [← EReal.coe_mul, sum_real, ← EReal.coe_add, Ideal.rsqrt_coe, if_neg hr.not_gt, if_neg hr.ne']
    exact ⟨_, rfl⟩

/-- A real row times a real matrix is real. -/
theorem rowMul_real {a b : ℕ} (x : Fin a → EReal) (w : Fin a → Fin b → EReal) (hx : ∀ k, ∃ v : ℝ, x k = v)
    (hw : ∀ k j, w k j = ((w k j).toReal : EReal)) (j : Fin b) : ∃ v : ℝ, rowMul x w j = v := by
  choose y hy using hx
  refine ⟨∑ k, y k * (w k j).toReal, ?_⟩
  unfold rowMul
  rw [← sum_real]
  exact Finset.sum_congr rfl fun k _ => by rw [hy k, hw k j, EReal.toReal_coe, EReal.coe_mul]

/-- A real minus itself is 0. -/
theorem real_sub_self (x : EReal) (h : ∃ v : ℝ, x = v) : x - x = 0 := by
  obtain ⟨v, rfl⟩ := h
  rw [← EReal.coe_sub, sub_self, EReal.coe_zero]

variable (x : FVec Ideal ⟨3, ![4, 4096, 1024]⟩ .f32) (lm : FVec Ideal ⟨2, ![2, 1024]⟩ .f32)
  (wi : FVec Ideal ⟨3, ![1, 1024, 2048]⟩ .f32) (lg lb : FVec Ideal ⟨2, ![1, 1024]⟩ .f32)
  (ws : FVec Ideal ⟨4, ![1, 8, 128, 128]⟩ .f32) (bs : FVec Ideal ⟨3, ![1, 8, 128]⟩ .f32)
  (wo : FVec Ideal ⟨3, ![1, 1024, 1024]⟩ .f32) (lf : FVec Ideal ⟨2, ![2, 1024]⟩ .f32)
  (wr : FVec Ideal ⟨3, ![1, 1024, 8]⟩ .f32)

theorem normed_real (hl : ∀ d, lf (ix2 1 d) = ((lf (ix2 1 d)).toReal : EReal)) (n : Fin 16384) (d : Fin 1024) :
    ∃ v : ℝ, normed x lm wi lg lb ws bs wo lf n d = v := rms_real _ _ hl d

theorem scores_real (hl : ∀ d, lf (ix2 1 d) = ((lf (ix2 1 d)).toReal : EReal)) (hw : ∀ i, wr i = ((wr i).toReal : EReal)) (n : Fin 16384) (e : Fin 8) :
    ∃ v : ℝ, scores x lm wi lg lb ws bs wo lf wr n e = v :=
  rowMul_real _ _ (normed_real x lm wi lg lb ws bs wo lf hl n) (fun k e => hw (ix3 0 k e)) e

end Cert.Mix

end
-- ==== Proof.MixFinal.lean ====
/- The result arrays of layer 1's mixer: the token's row, its norm, its two experts and their gates. -/
module

public import proofs.«01_k».proof.Proof.MixArray
public import proofs.«01_k».proof.Proof.MixMath

@[expose] public section

set_option maxRecDepth 16384

noncomputable section

namespace Cert.KernelIdeal.Array

open Cert.KernelIdeal Cert.KernelIdeal.Gen Idealize.ShloMosaic Idealize.ShloMosaic.TcCoe Idealize.SL.Sem
open Cert.Rows Cert.Mix Cert.Top

variable (m : (ℓ : Loc nD τ sig) → Buf (Elt Ideal) ℓ)

/-- The rows after the mixer. -/
def A10 (c : Dev nD) : FVec Ideal S16384x1024 .f32 := fun i => mixed (X m c) (Lm m c) (Wi m c) (Lg m c) (Lb m c) (Ws m c) (Bs m c) (Wo m c) (i 0) (i 1)
/-- Their norms. -/
def A11 (c : Dev nD) : FVec Ideal S16384x1024 .f32 := fun i => normed (X m c) (Lm m c) (Wi m c) (Lg m c) (Lb m c) (Ws m c) (Bs m c) (Wo m c) (Lf m c) (i 0) (i 1)
/-- The scores of a token. -/
abbrev score (c : Dev nD) (n : Fin 16384) : Fin 8 → EReal := scores (X m c) (Lm m c) (Wi m c) (Lg m c) (Lb m c) (Ws m c) (Bs m c) (Wo m c) (Lf m c) (Wr m c) n
/-- The experts. -/
def A12 (c : Dev nD) : IVec S8x16384 32 := fun i => expert (score m c (i 1)) (i 0)
/-- The gates. -/
def A13 (c : Dev nD) : FVec Ideal S8x16384 .f32 := fun i => gate (score m c (i 1)) (i 0)

/-- The scores are not `-∞`. -/
theorem score_ne (c : Dev nD) (hl : ∀ d, Lf m c (ix2 1 d) = ((Lf m c (ix2 1 d)).toReal : EReal)) (hw : ∀ i, Wr m c i = ((Wr m c i).toReal : EReal))
    (n : Fin 16384) (e : Fin 8) : score m c n e ≠ ⊥ := by
  obtain ⟨v, hv⟩ := scores_real (X m c) (Lm m c) (Wi m c) (Lg m c) (Lb m c) (Ws m c) (Bs m c) (Wo m c) (Lf m c) (Wr m c) hl hw n e
  exact hv.trans_ne (EReal.coe_ne_bot v)

section Stored

variable (c : Dev nD) (t : Fin cfg0.N) (g : FVec Ideal S512x1024 .bf16)
  (hg : ∀ r k, g (ix2 r k) = gated (X m c) (Lm m c) (Wi m c) (Lg m c) (Lb m c) (Ws m c) (Bs m c) (tok t r) k)

include hg in
theorem row_at (r : Fin 512) (d : Fin 1024) : k0_pay67 (F := Ideal) (iblk m c 0 t) g (iblk m c 7 t) (ix2 r d)
    = mixed (X m c) (Lm m c) (Wi m c) (Lg m c) (Lb m c) (Ws m c) (Bs m c) (Wo m c) (tok t r) d := by
  refine (Block.mixed_at _ _ _ r d).trans ?_
  unfold mixed
  refine congrArg₂ (· + ·) (blk0 m c t r d) ?_
  unfold rowMul
  exact Finset.sum_congr rfl fun k _ => congrArg₂ (· * ·) (hg r k) (blk7 m c t k d)

include hg in
theorem norm_at (r : Fin 512) (d : Fin 1024) : k0_pay68 (F := Ideal) (iblk m c 0 t) g (iblk m c 7 t) (iblk m c 8 t) (ix2 r d)
    = normed (X m c) (Lm m c) (Wi m c) (Lg m c) (Lb m c) (Ws m c) (Bs m c) (Wo m c) (Lf m c) (tok t r) d := by
  refine (Block.kept_at _ _ _ _ r d).trans ?_
  unfold normed
  exact congrArg₂ (fun a b => rms a b d) (funext fun d => row_at m c t g hg r d) (funext fun d => blk8 m c t d)

variable (hl : ∀ d, Lf m c (ix2 1 d) = ((Lf m c (ix2 1 d)).toReal : EReal)) (hw : ∀ i, Wr m c i = ((Wr m c i).toReal : EReal))

include hg hl hw in
theorem score_at (e : Fin 8) (r : Fin 512) :
    k0_pay71 (F := Ideal) (k0_pay69 (iblk m c 0 t) g (iblk m c 7 t) (iblk m c 8 t)) (k0_pay70 (iblk m c 0 t) g (iblk m c 7 t) (iblk m c 8 t)) (iblk m c 9 t) (iblk m c 9 t) (ix2 e r)
      = score m c (tok t r) e := by
  have hh := norm_at m c t g hg
  have h69 (r : Fin 512) (d : Fin 1024) : k0_pay69 (F := Ideal) (iblk m c 0 t) g (iblk m c 7 t) (iblk m c 8 t) (ix2 r d) = normed (X m c) (Lm m c) (Wi m c) (Lg m c) (Lb m c) (Ws m c) (Bs m c) (Wo m c) (Lf m c) (tok t r) d := hh r d
  have h70 (r : Fin 512) (d : Fin 1024) : k0_pay70 (F := Ideal) (iblk m c 0 t) g (iblk m c 7 t) (iblk m c 8 t) (ix2 r d) = 0 :=
    (congrArg₂ (fun a b : EReal => a - b) (hh r d) (h69 r d)).trans (real_sub_self _ (normed_real _ _ _ _ _ _ _ _ _ hl _ d))
  generalize k0_pay69 (F := Ideal) _ _ _ _ = a at h69 ⊢
  generalize k0_pay70 (F := Ideal) _ _ _ _ = l at h70 ⊢
  refine (Block.scores_at a l _ e r).trans ?_
  have e1 : rowMul (fun k => a (ix2 r k)) (fun k j => (show FVec Ideal S1024x128 .bf16 from iblk m c 9 t) (ix2 k j)) ⟨e, by omega⟩ = score m c (tok t r) e :=
    Finset.sum_congr rfl fun k _ => congrArg₂ (· * ·) (h69 r k) ((blk9 m c t k _).trans (split_hi (Wr m c) k e))
  have e2 : rowMul (fun k => a (ix2 r k)) (fun k j => (show FVec Ideal S1024x128 .bf16 from iblk m c 9 t) (ix2 k j)) ⟨8 + e, by omega⟩ = 0 :=
    Finset.sum_eq_zero fun k _ => (congrArg (a (ix2 r k) * ·) ((blk9 m c t k _).trans ((split_lo (Wr m c) k e).trans (real_sub_self _ ⟨_, hw _⟩)))).trans (mul_zero (a (ix2 r k)))
  have e3 : rowMul (fun k => l (ix2 r k)) (fun k j => (show FVec Ideal S1024x128 .bf16 from iblk m c 9 t) (ix2 k j)) ⟨e, by omega⟩ = 0 :=
    Finset.sum_eq_zero fun k _ => (congrArg (fun z : EReal => z * (show FVec Ideal S1024x128 .bf16 from iblk m c 9 t) (ix2 k ⟨e, by omega⟩)) (h70 r k)).trans (zero_mul _)
  refine (congrArg₂ (fun a b : EReal => a + b) (congrArg₂ (fun a b : EReal => a + b) e1 e2) e3).trans ?_
  rw [add_zero, add_zero]

include hg hl hw in
theorem ratio_stored (r : Fin 512) : k0_pay76 (F := Ideal) (k0_pay69 (iblk m c 0 t) g (iblk m c 7 t) (iblk m c 8 t)) (k0_pay70 (iblk m c 0 t) g (iblk m c 7 t) (iblk m c 8 t)) (iblk m c 9 t) (iblk m c 9 t) (ix2 0 r)
    = Ideal.exp (score m c (tok t r) (second (score m c (tok t r))) - score m c (tok t r) (first (score m c (tok t r)))) := by
  have hs := score_at m c t g hg hl hw
  generalize k0_pay69 (F := Ideal) _ _ _ _ = a at hs ⊢
  generalize k0_pay70 (F := Ideal) _ _ _ _ = l at hs ⊢
  generalize hS : k0_pay71 (F := Ideal) _ _ _ _ = S at hs
  refine (Block.ratio_at a l _ S hS r fun e r => (hs e r).trans_ne (score_ne m c hl hw _ e)).trans ?_
  rw [show (fun e => S (ix2 e r)) = score m c (tok t r) from funext fun e => hs e r, hs, hs]

include hg hl hw in
theorem gate_stored (e : Fin 8) (r : Fin 512) : k0_pay2 (F := Ideal) (iota .tc S8x512 32 [0] iota_S8x512_d0_w32) (k0_pay76 (F := Ideal) (k0_pay69 (iblk m c 0 t) g (iblk m c 7 t) (iblk m c 8 t)) (k0_pay70 (iblk m c 0 t) g (iblk m c 7 t) (iblk m c 8 t)) (iblk m c 9 t) (iblk m c 9 t)) (ix2 e r)
    = gate (score m c (tok t r)) e :=
  Block.gate_at _ (score m c (tok t r)) e r (ratio_stored m c t g hg hl hw r)

end Stored

theorem final10 (c : Dev nD) : (dats m 0 c).arrAt 10 cfg0.N = A10 m c := by
  refine (dats m 0 c).arrAt_eq_of_covers 10 _ (by decide +kernel) fun t _ y => ?_
  blk_simp
  obtain ⟨g, hg, h0, -⟩ := outs m c t
  rw [after0_10, h0]
  idx_vars y
  rw [show ((View.whole main_v25_0).slice (win0_10.rect t)).emb (ix2 y0 y1) = ix2 (tok t y0) y1 from emb10 t y0 y1]
  exact row_at m c t g hg y0 y1

theorem final11 (c : Dev nD) : (dats m 0 c).arrAt 11 cfg0.N = A11 m c := by
  refine (dats m 0 c).arrAt_eq_of_covers 11 _ (by decide +kernel) fun t _ y => ?_
  blk_simp
  obtain ⟨g, hg, -, h1, -⟩ := outs m c t
  rw [after0_11, h1]
  idx_vars y
  rw [show ((View.whole main_v25_1).slice (win0_11.rect t)).emb (ix2 y0 y1) = ix2 (tok t y0) y1 from emb11 t y0 y1]
  exact norm_at m c t g hg y0 y1

theorem final12 (c : Dev nD) (hl : ∀ d, Lf m c (ix2 1 d) = ((Lf m c (ix2 1 d)).toReal : EReal)) (hw : ∀ i, Wr m c i = ((Wr m c i).toReal : EReal)) :
    (dats m 0 c).arrAt 12 cfg0.N = A12 m c := by
  refine (dats m 0 c).arrAt_eq_of_covers 12 _ (by decide +kernel) fun t _ y => ?_
  blk_simp
  obtain ⟨g, hg, -, -, h2, -⟩ := outs m c t
  rw [after0_12, h2]
  idx_vars y
  rw [show ((View.whole main_v25_2).slice (win0_12.rect t)).emb (ix2 y0 y1) = ix2 y0 (tok t y1) from emb12 t y0 y1]
  refine (Block.expert_at _ _ _ _ rfl y0 y1).trans ?_
  exact congrArg (fun s => expert s y0) (funext fun e => score_at m c t g hg hl hw e y1)

theorem final13 (c : Dev nD) (hl : ∀ d, Lf m c (ix2 1 d) = ((Lf m c (ix2 1 d)).toReal : EReal)) (hw : ∀ i, Wr m c i = ((Wr m c i).toReal : EReal)) :
    (dats m 0 c).arrAt 13 cfg0.N = A13 m c := by
  refine (dats m 0 c).arrAt_eq_of_covers 13 _ (by decide +kernel) fun t _ y => ?_
  blk_simp
  obtain ⟨g, hg, -, -, -, h3⟩ := outs m c t
  rw [after0_13, h3]
  idx_vars y
  rw [show ((View.whole main_v25_3).slice (win0_13.rect t)).emb (ix2 y0 y1) = ix2 y0 (tok t y1) from emb13 t y0 y1]
  exact gate_stored m c t g hg hl hw y0 y1

end Cert.KernelIdeal.Array
end
-- ==== Proof.MixRef.lean ====
/- The reference of layer 1's mixer, at every token and element. -/
module

public import proofs.«01_k».proof.Proof.Gen.ReferenceIdeal.Read
public import proofs.«01_k».proof.Proof.MixMath
public import Idealize.ShloMosaic.Lib.Pointwise

@[expose] public section

set_option maxRecDepth 16384

noncomputable section

namespace Cert.ReferenceIdeal.RefValue

open Cert.ReferenceIdeal Cert.ReferenceIdeal.Read Idealize.ShloMosaic Idealize.ShloMosaic.TcCoe
open Cert.Rows Cert.Mix Cert.Top

variable (x0 : FVec Ideal S4x4096x1024 .f32) (x1 : FVec Ideal S2x1024 .f32) (x2 : FVec Ideal S1x1024x2048 .f32)
  (x3 x4 : FVec Ideal S1x1024 .f32) (x5 : FVec Ideal S1x8x128x128 .f32) (x6 : FVec Ideal S1x8x128 .f32)
  (x7 : FVec Ideal S1x1024x1024 .f32) (x8 : FVec Ideal S2x1024 .f32) (x9 : FVec Ideal S1x1024x8 .f32)

/-- The activated projection. -/
theorem active_at (s : Fin 4) (p : Fin 4096) (j : Fin 2048) : val_main_v23 (F := Ideal) x0 x1 x2 (ix3 s p j)
    = gelu (rowMul (rms (fun d => x0 (ix3 s p d)) (fun d => x1 (ix2 1 d))) (fun k j => x2 (ix3 0 k j)) j) := by
  have hz : val_main_v16 (F := Ideal) x0 x1 x2 (ix3 s p j) = rowMul (rms (fun d => x0 (ix3 s p d)) (fun d => x1 (ix2 1 d))) (fun k j => x2 (ix3 0 k j)) j := by
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, rms, rowMul]
  generalize rowMul _ _ j = z at hz ⊢
  unfold val_main_v23 val_main_v22 val_main_v21 val_main_v19 val_main_v18
  generalize val_main_v16 (F := Ideal) x0 x1 x2 = Z at hz ⊢
  pointwise [val_main_v17, val_main_v20, val_main_cst_2, val_main_cst_3]
  rw [neg_mul, Ideal.erfc_neg, hz]
  rfl

/-- The second half, normed. -/
theorem inner_at (s : Fin 4) (p : Fin 4096) (c : Fin 1024) : val_main_v51 (F := Ideal) x0 x1 x2 x3 x4 (ix3 s p c)
    = layerNorm (fun c => val_main_v23 (F := Ideal) x0 x1 x2 (ix3 s p ⟨1024 + c, by omega⟩)) (fun d => x3 (ix2 0 d)) (fun d => x4 (ix2 0 d)) c := by
  pointwise [val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_cst_4, val_main_cst_5, val_main_cst_6, val_main_cst_7, val_main_cst_8, layerNorm, mean]

/-- The triangle's mask. -/
theorem below_at (i : ℕ) (hi : i < 128) (j : Fin 128) (a : EReal) :
    Scalar.select (IntOp.cmpi CmpIPredicate.sge (IntOp.addi (BitVec.ofNat 32 i) 0#32) (BitVec.ofNat 32 j)) a 0 = if j.val ≤ i then a else 0 := by
  have key : ∀ x r : Fin 128, IntOp.cmpi .sge (IntOp.addi (BitVec.ofNat 32 r.val) 0#32) (BitVec.ofNat 32 x.val) = BitVec.ofBool (decide (x.val ≤ r.val)) := by
    decide +kernel
  rw [key j ⟨i, hi⟩]
  by_cases h : j.val ≤ i
  · simp [h, Scalar.select]
  · simp [h, Scalar.select]

/-- The mixing of a run of 128 tokens. -/
theorem spatial_at (s : Fin 4) (p : Fin 4096) (c : Fin 1024) : val_main_v66 (F := Ideal) x0 x1 x2 x3 x4 x5 x6 (ix3 s p c)
    = ∑ j : Fin 128, (if j.val ≤ p.val % 128 then x5 (ix4 0 ⟨c / 128, by omega⟩ ⟨p % 128, by omega⟩ j) * val_main_v51 (F := Ideal) x0 x1 x2 x3 x4 (ix3 s ⟨p / 128 * 128 + j, by omega⟩ c) else 0)
      + x6 (ix3 0 ⟨c / 128, by omega⟩ ⟨p % 128, by omega⟩) := by
  unfold val_main_v66 val_main_v65 val_main_v61 val_main_v60 val_main_v54
  generalize val_main_v51 (F := Ideal) x0 x1 x2 x3 x4 = N
  pointwise [val_main_v52, val_main_v53, val_main_v54, val_main_v55, val_main_v56, val_main_v57, val_main_v58, val_main_v59, val_main_v60, val_main_v61, val_main_v62, val_main_v63, val_main_v64, val_main_v65, val_main_v66, val_main_call0_v0, val_main_call0_v1, val_main_call0_v2, val_main_call0_v3, val_main_call0_v4, val_main_call0_v5, val_main_call0_c, val_main_call0_cst, val_main_cst_9]
  refine congrArg₂ (· + ·) (Finset.sum_congr rfl fun j _ => ?_) rfl
  rw [below_at _ (by omega), mul_comm]

theorem mixed_at (s : Fin 4) (p : Fin 4096) (d : Fin 1024) : val_main_v70 (F := Ideal) x0 x1 x2 x3 x4 x5 x6 x7 (ix3 s p d)
    = x0 (ix3 s p d) + rowMul (fun c => val_main_v23 (F := Ideal) x0 x1 x2 (ix3 s p ⟨c, by omega⟩) * val_main_v66 (F := Ideal) x0 x1 x2 x3 x4 x5 x6 (ix3 s p c))
      (fun k d => x7 (ix3 0 k d)) d := by
  unfold val_main_v70 val_main_v69 val_main_v67 val_main_v24
  generalize val_main_v66 (F := Ideal) x0 x1 x2 x3 x4 x5 x6 = N
  generalize val_main_v23 (F := Ideal) x0 x1 x2 = Z
  pointwise [val_main_v68, rowMul]

/-- The result's first array. -/
theorem rows_at (n : Fin 16384) (d : Fin 1024) : val_main_v100 (F := Ideal) x0 x1 x2 x3 x4 x5 x6 x7 (ix2 n d)
    = val_main_v70 (F := Ideal) x0 x1 x2 x3 x4 x5 x6 x7 (ix3 ⟨n / 4096, by omega⟩ ⟨n % 4096, by omega⟩ d) := by
  unfold val_main_v100
  generalize val_main_v70 (F := Ideal) x0 x1 x2 x3 x4 x5 x6 x7 = H
  pointwise []

theorem normed_at (n : Fin 16384) (d : Fin 1024) : val_main_v86 (F := Ideal) x0 x1 x2 x3 x4 x5 x6 x7 x8 (ix2 n d)
    = rms (fun d => val_main_v70 (F := Ideal) x0 x1 x2 x3 x4 x5 x6 x7 (ix3 ⟨n / 4096, by omega⟩ ⟨n % 4096, by omega⟩ d)) (fun d => x8 (ix2 1 d)) d := by
  unfold val_main_v86 val_main_v85 val_main_v82 val_main_v81 val_main_v80 val_main_v79 val_main_v77 val_main_v75 val_main_v74 val_main_v73
  generalize val_main_v70 (F := Ideal) x0 x1 x2 x3 x4 x5 x6 x7 = H
  pointwise [val_main_v71, val_main_v72, val_main_v73, val_main_v74, val_main_v75, val_main_v76, val_main_v77, val_main_v78, val_main_v79, val_main_v80, val_main_v81, val_main_v82, val_main_v83, val_main_v84, val_main_v85, val_main_v86, val_main_cst_10, val_main_cst_11, val_main_cst_12, rms]

theorem scores_at (n : Fin 16384) (e : Fin 8) : val_main_v88 (F := Ideal) x0 x1 x2 x3 x4 x5 x6 x7 x8 x9 (ix2 n e)
    = rowMul (fun d => val_main_v86 (F := Ideal) x0 x1 x2 x3 x4 x5 x6 x7 x8 (ix2 n d)) (fun k e => x9 (ix3 0 k e)) e := by
  unfold val_main_v88
  generalize val_main_v86 (F := Ideal) x0 x1 x2 x3 x4 x5 x6 x7 x8 = H
  pointwise [val_main_v87, rowMul]

/-- The first two columns of a table of eight. -/
theorem head_at {α : Type} (Y : S16384x8.Idx → α) (h) (n : Fin 16384) (i : Fin 2) :
    extractStridedSlice S16384x2 (fun _ => 0) Y h (ix2 n i) = Y (ix2 n (i.castLE (by decide))) := by
  refine congrArg Y (funext fun a => ?_)
  match a with
  | ⟨0, _⟩ => exact Fin.ext (Nat.zero_add _)
  | ⟨1, _⟩ => exact Fin.ext (Nat.zero_add _)

/-- A row's place moved along it. -/
theorem along_at (n : Fin 16384) (j q : Fin 8) : Shape.Idx.along (s := S16384x8) (ix2 n j) 1 q = ix2 n q := by
  funext a
  match a with
  | ⟨0, _⟩ => rfl
  | ⟨1, _⟩ => rfl

/-- The two largest scores of a token and their positions, in order. -/
theorem top_at (Z : FVec Ideal S16384x8 .f32) (h) (n : Fin 16384) (hz : ∀ e, Z (ix2 n e) ≠ ⊥) (i : Fin 2) :
    (Host.topK S16384x2 1 (FloatOps.cmpfTotal (F := Ideal) (φ := .f32) .gt) Z h).1 (ix2 n i) = Z (ix2 n ((![first fun e => Z (ix2 n e), second fun e => Z (ix2 n e)] : Fin 2 → Fin 8) i))
    ∧ (Host.topK S16384x2 1 (FloatOps.cmpfTotal (F := Ideal) (φ := .f32) .gt) Z h).2 (ix2 n i) = BitVec.ofNat 32 ((![first fun e => Z (ix2 n e), second fun e => Z (ix2 n e)] : Fin 2 → Fin 8) i).val := by
  have hs : sortedFrom (fun k k' => FloatOps.cmpfTotal (F := Ideal) (φ := .f32) .gt (Z (Shape.Idx.along (s := S16384x8) (ix2 n (i.castLE (by decide))) 1 k)) (Z (Shape.Idx.along (s := S16384x8) (ix2 n (i.castLE (by decide))) 1 k')) == 1#1) (i.castLE (by decide))
      = (![first fun e => Z (ix2 n e), second fun e => Z (ix2 n e)] : Fin 2 → Fin 8) i := by
    refine (congrArg (fun b : Fin 8 → Fin 8 → Bool => sortedFrom b (i.castLE (by decide))) ?_).trans (sorted_two (fun e => Z (ix2 n e)) hz i)
    exact funext fun k => funext fun k' =>
      congrArg₂ (fun a b => FloatOps.cmpfTotal (F := Ideal) (φ := .f32) .gt (Z a) (Z b) == 1#1) (along_at n _ k) (along_at n _ k')
  unfold Host.topK
  dsimp only
  refine ⟨(head_at _ h n i).trans ?_, (head_at _ h n i).trans ?_⟩
  · exact (congrArg (fun q => Z (Shape.Idx.along (s := S16384x8) (ix2 n (i.castLE (by decide))) 1 q)) hs).trans (congrArg Z (along_at n _ _))
  · exact congrArg (fun q : Fin 8 => BitVec.ofNat 32 q.val) hs

/-- A gate from the two scores. -/
theorem soft_at (n : Fin 16384) (a b : ℝ) (hab : b ≤ a) (h0 : val_main_values (F := Ideal) x0 x1 x2 x3 x4 x5 x6 x7 x8 x9 (ix2 n 0) = (a : EReal))
    (h1 : val_main_values (F := Ideal) x0 x1 x2 x3 x4 x5 x6 x7 x8 x9 (ix2 n 1) = (b : EReal)) (i : Fin 2) :
    val_main_v99 (F := Ideal) x0 x1 x2 x3 x4 x5 x6 x7 x8 x9 (ix2 n i)
      = Ideal.div (if i.val = 0 then 1 else Ideal.exp ((b : EReal) - (a : EReal))) (1 + Ideal.exp ((b : EReal) - (a : EReal))) := by
  unfold val_main_v99 val_main_v98 val_main_v97 val_main_v96 val_main_v95 val_main_v94 val_main_v93 val_main_v92 val_main_v91 val_main_v89
  generalize val_main_values (F := Ideal) x0 x1 x2 x3 x4 x5 x6 x7 x8 x9 = V at h0 h1 ⊢
  pointwise [val_main_v90, val_main_cst_13, val_main_cst_14, val_main_cst_15]
  have hm : max (Ideal.ofBits FTy.f32 4286578688#32) (Finset.fold max (Ideal.ofBits FTy.f32 4286578688#32) (fun x => V (ix2 n x)) Finset.univ) = (a : EReal) := by
    rw [show Ideal.ofBits FTy.f32 4286578688#32 = (⊥ : EReal) from by simp [Ideal.ofBits, Ideal.ieee],
      show (Finset.univ : Finset (Fin 2)) = insert 0 {1} from rfl, Finset.fold_insert (by decide), Finset.fold_singleton, h0, h1,
      max_bot_right, max_eq_left (EReal.coe_le_coe_iff.2 hab), max_bot_left]
  have hx : Ideal.exp ((a : EReal) - (a : EReal)) = 1 := by
    rw [← EReal.coe_sub, sub_self, Ideal.exp_coe, Real.exp_zero, EReal.coe_one]
  rw [hm, Fin.sum_univ_two, h0, h1, hx]
  match i with
  | ⟨0, _⟩ => exact congrArg (fun z : EReal => Ideal.div z _) ((congrArg (fun v : EReal => Ideal.exp (v - (a : EReal))) h0).trans hx)
  | ⟨1, _⟩ => exact congrArg (fun v : EReal => Ideal.div (Ideal.exp (v - (a : EReal))) (1 + Ideal.exp ((b : EReal) - (a : EReal)))) h1

theorem padded_at (e : Fin 8) (n : Fin 16384) : val_main_v104 (F := Ideal) x0 x1 x2 x3 x4 x5 x6 x7 x8 x9 (ix2 e n)
    = if h : e.val < 2 then val_main_v99 (F := Ideal) x0 x1 x2 x3 x4 x5 x6 x7 x8 x9 (ix2 n ⟨e, h⟩) else 0 := by
  unfold val_main_v104 val_main_v103
  generalize val_main_v99 (F := Ideal) x0 x1 x2 x3 x4 x5 x6 x7 x8 x9 = V
  have hz : FloatOps.sitofp (F := Ideal) FTy.f32 0#32 = (0 : EReal) := by
    change (((0#32 : BitVec 32).toInt : ℝ) : EReal) = 0
    norm_num
  pointwise [val_main_call2_v0, val_main_c_16]
  rw [hz]

theorem placed_at (e : Fin 8) (n : Fin 16384) : val_main_v102 (F := Ideal) x0 x1 x2 x3 x4 x5 x6 x7 x8 x9 (ix2 e n)
    = if h : e.val < 2 then val_main_indices (F := Ideal) x0 x1 x2 x3 x4 x5 x6 x7 x8 x9 (ix2 n ⟨e, h⟩) else 0#32 := by
  unfold val_main_v102 val_main_v101
  generalize val_main_indices (F := Ideal) x0 x1 x2 x3 x4 x5 x6 x7 x8 x9 = V
  pointwise [val_main_call1_v0, val_main_c]
  rfl

/-- The mixer's parts at a token counted through the four sequences. -/
theorem active_tok (n : Fin 16384) (j : Fin 2048) : val_main_v23 (F := Ideal) x0 x1 x2 (ix3 ⟨n / 4096, by omega⟩ ⟨n % 4096, by omega⟩ j) = active x0 x1 x2 n j :=
  active_at x0 x1 x2 _ _ j

theorem inner_tok (n : Fin 16384) (c : Fin 1024) : val_main_v51 (F := Ideal) x0 x1 x2 x3 x4 (ix3 ⟨n / 4096, by omega⟩ ⟨n % 4096, by omega⟩ c) = Mix.inner x0 x1 x2 x3 x4 n c := by
  rw [inner_at]
  unfold Mix.inner
  exact congrArg (fun f => layerNorm f _ _ c) (funext fun c => active_tok x0 x1 x2 n _)

theorem spatial_tok (n : Fin 16384) (c : Fin 1024) : val_main_v66 (F := Ideal) x0 x1 x2 x3 x4 x5 x6 (ix3 ⟨n / 4096, by omega⟩ ⟨n % 4096, by omega⟩ c)
    = spatial x0 x1 x2 x3 x4 x5 x6 n c := by
  have h : n.val % 4096 % 128 = n.val % 128 := by omega
  rw [spatial_at]
  unfold spatial within
  simp only [h]
  refine congrArg₂ (· + ·) (Finset.sum_congr rfl fun j _ => ?_) rfl
  rw [← inner_tok]
  refine congrArg (fun i : S4x4096x1024.Idx => if j.val ≤ n.val % 128 then x5 (ix4 0 ⟨c / 128, by omega⟩ ⟨n % 128, by omega⟩ j) * val_main_v51 (F := Ideal) x0 x1 x2 x3 x4 i else 0) ?_
  refine congrArg₂ (fun s p => ix3 s p c) (Fin.ext ?_) (Fin.ext ?_)
  · change n.val / 4096 = (n.val / 128 * 128 + j.val) / 4096
    omega
  · change n.val % 4096 / 128 * 128 + j.val = (n.val / 128 * 128 + j.val) % 4096
    omega

theorem mixed_tok (n : Fin 16384) (d : Fin 1024) : val_main_v70 (F := Ideal) x0 x1 x2 x3 x4 x5 x6 x7 (ix3 ⟨n / 4096, by omega⟩ ⟨n % 4096, by omega⟩ d)
    = mixed x0 x1 x2 x3 x4 x5 x6 x7 n d := by
  rw [mixed_at]
  unfold mixed
  refine congrArg (_ + ·) (congrArg (fun f => rowMul f _ d) (funext fun c => ?_))
  exact congrArg₂ (fun a b : EReal => a * b) (active_tok x0 x1 x2 n _) (spatial_tok x0 x1 x2 x3 x4 x5 x6 n c)

/-- The first result: the rows after the mixer. -/
theorem result0_at (n : Fin 16384) (d : Fin 1024) : val_main_v100 (F := Ideal) x0 x1 x2 x3 x4 x5 x6 x7 (ix2 n d) = mixed x0 x1 x2 x3 x4 x5 x6 x7 n d :=
  (rows_at x0 x1 x2 x3 x4 x5 x6 x7 n d).trans (mixed_tok x0 x1 x2 x3 x4 x5 x6 x7 n d)

/-- The second: their norms. -/
theorem result1_at (n : Fin 16384) (d : Fin 1024) : val_main_v86 (F := Ideal) x0 x1 x2 x3 x4 x5 x6 x7 x8 (ix2 n d) = normed x0 x1 x2 x3 x4 x5 x6 x7 x8 n d := by
  rw [normed_at]
  unfold normed
  exact congrArg (fun f => rms f _ d) (funext fun d => mixed_tok x0 x1 x2 x3 x4 x5 x6 x7 n d)

theorem scores_tok (n : Fin 16384) (e : Fin 8) : val_main_v88 (F := Ideal) x0 x1 x2 x3 x4 x5 x6 x7 x8 x9 (ix2 n e) = scores x0 x1 x2 x3 x4 x5 x6 x7 x8 x9 n e := by
  rw [scores_at]
  unfold scores
  exact congrArg (fun f => rowMul f _ e) (funext fun d => result1_at x0 x1 x2 x3 x4 x5 x6 x7 x8 n d)

section Top

variable (n : Fin 16384) (hr : ∀ e, ∃ v : ℝ, scores x0 x1 x2 x3 x4 x5 x6 x7 x8 x9 n e = v)

include hr in
theorem top_tok (i : Fin 2) :
    val_main_values (F := Ideal) x0 x1 x2 x3 x4 x5 x6 x7 x8 x9 (ix2 n i)
      = scores x0 x1 x2 x3 x4 x5 x6 x7 x8 x9 n ((![first (scores x0 x1 x2 x3 x4 x5 x6 x7 x8 x9 n), second (scores x0 x1 x2 x3 x4 x5 x6 x7 x8 x9 n)] : Fin 2 → Fin 8) i)
    ∧ val_main_indices (F := Ideal) x0 x1 x2 x3 x4 x5 x6 x7 x8 x9 (ix2 n i)
      = BitVec.ofNat 32 ((![first (scores x0 x1 x2 x3 x4 x5 x6 x7 x8 x9 n), second (scores x0 x1 x2 x3 x4 x5 x6 x7 x8 x9 n)] : Fin 2 → Fin 8) i).val := by
  have hs := scores_tok x0 x1 x2 x3 x4 x5 x6 x7 x8 x9 n
  unfold val_main_values val_main_indices
  generalize val_main_v88 (F := Ideal) x0 x1 x2 x3 x4 x5 x6 x7 x8 x9 = Z at hs ⊢
  generalize scores x0 x1 x2 x3 x4 x5 x6 x7 x8 x9 n = S at hr hs ⊢
  obtain rfl : (fun e => Z (ix2 n e)) = S := funext hs
  exact top_at Z _ n (fun e => by
    obtain ⟨v, hv⟩ := hr e
    exact hv.trans_ne (EReal.coe_ne_bot v)) i

include hr in
/-- The third: the experts. -/
theorem result2_at (e : Fin 8) : val_main_v102 (F := Ideal) x0 x1 x2 x3 x4 x5 x6 x7 x8 x9 (ix2 e n) = expert (scores x0 x1 x2 x3 x4 x5 x6 x7 x8 x9 n) e := by
  rw [placed_at]
  have ht := fun i => (top_tok x0 x1 x2 x3 x4 x5 x6 x7 x8 x9 n hr i).2
  match e with
  | ⟨0, _⟩ => exact (dif_pos (by dsimp only; omega)).trans (ht 0)
  | ⟨1, _⟩ => exact (dif_pos (by dsimp only; omega)).trans (ht 1)
  | ⟨k + 2, _⟩ => exact (dif_neg (by dsimp only; omega)).trans (by
      unfold expert
      rw [if_neg (by dsimp only; omega), if_neg (by dsimp only; omega)])

include hr in
/-- The fourth: the gates. -/
theorem result3_at (e : Fin 8) : val_main_v104 (F := Ideal) x0 x1 x2 x3 x4 x5 x6 x7 x8 x9 (ix2 e n) = gate (scores x0 x1 x2 x3 x4 x5 x6 x7 x8 x9 n) e := by
  rw [padded_at]
  have ht := fun i => (top_tok x0 x1 x2 x3 x4 x5 x6 x7 x8 x9 n hr i).1
  have t0 := ht 0
  have t1 := ht 1
  obtain ⟨a, ha⟩ := hr (first (scores x0 x1 x2 x3 x4 x5 x6 x7 x8 x9 n))
  obtain ⟨b, hb⟩ := hr (second (scores x0 x1 x2 x3 x4 x5 x6 x7 x8 x9 n))
  have hab : b ≤ a := EReal.coe_le_coe_iff.1 (by
    rw [← ha, ← hb]
    exact (first_spec _).1 _)
  have hsoft := soft_at x0 x1 x2 x3 x4 x5 x6 x7 x8 x9 n a b hab (t0.trans ha) (t1.trans hb)
  unfold gate
  rw [ha, hb]
  match e with
  | ⟨0, _⟩ => exact (dif_pos (by dsimp only; omega)).trans (hsoft 0)
  | ⟨1, _⟩ => exact (dif_pos (by dsimp only; omega)).trans (hsoft 1)
  | ⟨k + 2, _⟩ => exact (dif_neg (by dsimp only; omega)).trans (by
      rw [if_neg (by dsimp only; omega), if_neg (by dsimp only; omega)])

end Top

end Cert.ReferenceIdeal.RefValue
end
-- ==== Proof.MixClaim.lean ====
/- The claims about layer 1's mixer and its reference. -/
module

public import proofs.«01_k».proof.Defs
public import proofs.«01_k».proof.Proof.Gen.Kernel.Frame
public import proofs.«01_k».proof.Proof.Gen.Pre_finite_router
public import proofs.«01_k».proof.Proof.AttnSpec
public import proofs.«01_k».proof.Proof.MixFinal
public import proofs.«01_k».proof.Proof.MixRef
public import Idealize.ShloMosaic.Lib.Claim
public import Idealize.ShloMosaic.Lib.Quiescent
public import Idealize.ShloMosaic.Lib.Pointwise

@[expose] public section

set_option maxRecDepth 16384

noncomputable section

namespace Cert.Proof.MixClaims

open Idealize.ShloMosaic Idealize.ShloMosaic.TcCoe Idealize.SL.Sem

/-- The kernel terminates, keeps its arguments and leaves every semaphore at zero. -/
theorem frame_kernel : Cert.quiescent_Kernel := fun m ρ _ => Cert.Kernel.Gen.frame m ρ
/-- So does its idealization. -/
theorem frame_ideal : Cert.quiescent_KernelIdeal := fun m ρ _ => Cert.KernelIdeal.Gen.frame m ρ
/-- The reference terminates and keeps its arguments; it declares no semaphore. -/
theorem frame_ref : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- On the arrays the results are claimed for, the idealization terminates the same way. -/
theorem frame_ideal_pre : Cert.quiescent_KernelIdeal_pre_finite_router := fun m ρ _ => Cert.KernelIdeal.Gen.frame m ρ
/-- And so does the reference. -/
theorem frame_ref_pre : Cert.quiescent_ReferenceIdeal_pre_finite_router := fun m ρ _ => frame_ref m ρ trivial

/-- The idealization rewrote nothing. -/
theorem preserves : Cert.preserves_Kernel_KernelIdeal := trivial

/-- The bound of the precondition is `+∞`. -/
theorem inf_eq : Ideal.ofBits .f32 0x7F800000#32 = ⊤ := by simp [Ideal.ofBits, Ideal.ieee]

/-- The precondition says that the norm's gain and the router's weights are real. -/
theorem finite_of_pre (m : (ℓ : Loc Cert.KernelIdeal.nD Cert.KernelIdeal.τ Cert.KernelIdeal.sig) → Buf (Elt Ideal) ℓ) (h : Cert.Pre_KernelIdeal_finite_router m) (c : Dev Cert.KernelIdeal.nD) :
    (∀ d, Cert.KernelIdeal.Array.Lf m c (ix2 1 d) = ((Cert.KernelIdeal.Array.Lf m c (ix2 1 d)).toReal : EReal))
    ∧ ∀ i, Cert.KernelIdeal.Array.Wr m c i = ((Cert.KernelIdeal.Array.Wr m c i).toReal : EReal) := by
  obtain ⟨hl, hw⟩ := h c
  unfold Cert.Pre_finite_router.fn at hl hw
  refine ⟨fun i => Cert.Attn.real_of_abs _ ?_, fun i => Cert.Attn.real_of_abs _ ?_⟩
  · rw [← inf_eq]; refine Eq.trans (congrArg (fun x : EReal => Ideal.cmp .olt (max x (-x)) _) ?_) (congrFun hl (ix1 i))
    refine Eq.symm ?_
    pointwise []
  · rw [← inf_eq]; exact congrFun hw i

/-- From arguments that agree, the reference's result arrays are the kernel's. -/
theorem algebraic : Cert.algebraic_KernelIdeal_ReferenceIdeal_pre_finite_router := by
  intro m ρ m' ρ' hpre hagree
  refine ⟨fun c => Cert.KernelIdeal.Array.A10 m c, fun c => Cert.KernelIdeal.Array.A11 m c, fun c => Cert.KernelIdeal.Array.A12 m c,
    fun c => Cert.KernelIdeal.Array.A13 m c, ?_, ?_⟩
  · refine (θ_run Cert.KernelIdeal.defs _ _).mono (fun _ h c => ?_) (Cert.KernelIdeal.Value.run_blocks (F := Ideal) m ρ)
    obtain ⟨e0, e1, e2, e3, kept⟩ := h c
    obtain ⟨hl, hw⟩ := finite_of_pre m hpre c
    exact ⟨e0.trans (Cert.KernelIdeal.Array.final10 m c), e1.trans (Cert.KernelIdeal.Array.final11 m c),
      e2.trans (Cert.KernelIdeal.Array.final12 m c hl hw), e3.trans (Cert.KernelIdeal.Array.final13 m c hl hw), kept⟩
  refine (θ_run Cert.ReferenceIdeal.defs _ _).mono (fun _ h c => ?_)
    (Cert.ReferenceIdeal.Value.run (F := Ideal) m' ρ')
  obtain ⟨e0, e1, e2, e3, kept⟩ := h c
  obtain ⟨h0, h1, h2, h3, h4, h5, h6, h7, h8, h9⟩ := hagree c
  have g0 : StableHlo.launchContents m' c (Proc.devRef .tc Cert.ReferenceIdeal.main_arg0) = Cert.KernelIdeal.Array.X m c := h0
  have g1 : StableHlo.launchContents m' c (Proc.devRef .tc Cert.ReferenceIdeal.main_arg1) = Cert.KernelIdeal.Array.Lm m c := h1
  have g2 : StableHlo.launchContents m' c (Proc.devRef .tc Cert.ReferenceIdeal.main_arg2) = Cert.KernelIdeal.Array.Wi m c := h2
  have g3 : StableHlo.launchContents m' c (Proc.devRef .tc Cert.ReferenceIdeal.main_arg3) = Cert.KernelIdeal.Array.Lg m c := h3
  have g4 : StableHlo.launchContents m' c (Proc.devRef .tc Cert.ReferenceIdeal.main_arg4) = Cert.KernelIdeal.Array.Lb m c := h4
  have g5 : StableHlo.launchContents m' c (Proc.devRef .tc Cert.ReferenceIdeal.main_arg5) = Cert.KernelIdeal.Array.Ws m c := h5
  have g6 : StableHlo.launchContents m' c (Proc.devRef .tc Cert.ReferenceIdeal.main_arg6) = Cert.KernelIdeal.Array.Bs m c := h6
  have g7 : StableHlo.launchContents m' c (Proc.devRef .tc Cert.ReferenceIdeal.main_arg7) = Cert.KernelIdeal.Array.Wo m c := h7
  have g8 : StableHlo.launchContents m' c (Proc.devRef .tc Cert.ReferenceIdeal.main_arg8) = Cert.KernelIdeal.Array.Lf m c := h8
  have g9 : StableHlo.launchContents m' c (Proc.devRef .tc Cert.ReferenceIdeal.main_arg9) = Cert.KernelIdeal.Array.Wr m c := h9
  obtain ⟨hl, hw⟩ := finite_of_pre m hpre c
  have hr := fun n e => Cert.Mix.scores_real (Cert.KernelIdeal.Array.X m c) (Cert.KernelIdeal.Array.Lm m c) (Cert.KernelIdeal.Array.Wi m c)
    (Cert.KernelIdeal.Array.Lg m c) (Cert.KernelIdeal.Array.Lb m c) (Cert.KernelIdeal.Array.Ws m c) (Cert.KernelIdeal.Array.Bs m c)
    (Cert.KernelIdeal.Array.Wo m c) (Cert.KernelIdeal.Array.Lf m c) (Cert.KernelIdeal.Array.Wr m c) hl hw n e
  refine ⟨e0.trans ?_, e1.trans ?_, e2.trans ?_, e3.trans ?_, kept⟩
  · rw [Cert.ReferenceIdeal.Read.val_main_v100_eq, g0, g1, g2, g3, g4, g5, g6, g7]
    funext i
    exact (congrArg _ (eq_ix2 i)).trans (Cert.ReferenceIdeal.RefValue.result0_at _ _ _ _ _ _ _ _ (i 0) (i 1))
  · rw [Cert.ReferenceIdeal.Read.val_main_v86_eq, g0, g1, g2, g3, g4, g5, g6, g7, g8]
    funext i
    exact (congrArg _ (eq_ix2 i)).trans (Cert.ReferenceIdeal.RefValue.result1_at _ _ _ _ _ _ _ _ _ (i 0) (i 1))
  · rw [Cert.ReferenceIdeal.Read.val_main_v102_eq, g0, g1, g2, g3, g4, g5, g6, g7, g8, g9]
    funext i
    exact (congrArg _ (eq_ix2 i)).trans (Cert.ReferenceIdeal.RefValue.result2_at _ _ _ _ _ _ _ _ _ _ (i 1) (hr (i 1)) (i 0))
  · rw [Cert.ReferenceIdeal.Read.val_main_v104_eq, g0, g1, g2, g3, g4, g5, g6, g7, g8, g9]
    funext i
    exact (congrArg _ (eq_ix2 i)).trans (Cert.ReferenceIdeal.RefValue.result3_at _ _ _ _ _ _ _ _ _ _ (i 1) (hr (i 1)) (i 0))

end Cert.Proof.MixClaims
end
-- ==== Proof.PostSpec.lean ====
/- What the call after layer 0's mixers computes: the mixers' rows projected and joined to the residual, the gated
   feed-forward net, and the gated per-layer embedding. -/
module

public import proofs.«01_k».proof.Proof.RowFunctions
public import Idealize.ShloMosaic.Lib.Pointwise

@[expose] public section

set_option maxRecDepth 16384

noncomputable section

namespace Cert.Post

open Idealize.ShloMosaic Cert.Rows

/-- A row `x` with the attention row `a` and the convolution row `b`, side by side, times `w` added. -/
def projected (x : Fin 1024 → EReal) (a b : Fin 512 → EReal) (w : Fin 1024 → Fin 1024 → EReal) (d : Fin 1024) : EReal :=
  x d + (rowMul a (fun k d => w ⟨k, by omega⟩ d) d + rowMul b (fun k d => w ⟨512 + k, by omega⟩ d) d)

variable (x : FVec Ideal ⟨3, ![4, 4096, 1024]⟩ .f32) (a b : FVec Ideal ⟨3, ![4, 4096, 512]⟩ .bf16)
  (p : FVec Ideal ⟨4, ![2, 4, 4096, 256]⟩ .f32) (wo : FVec Ideal ⟨3, ![1, 1024, 1024]⟩ .f32)
  (gf : FVec Ideal ⟨2, ![2, 1024]⟩ .f32) (w1 w3 : FVec Ideal ⟨3, ![1, 1024, 2816]⟩ .f32)
  (w2 : FVec Ideal ⟨3, ![1, 2816, 1024]⟩ .f32) (gp : FVec Ideal ⟨2, ![2, 1024]⟩ .f32)
  (wg : FVec Ideal ⟨3, ![2, 1024, 1024]⟩ .f32) (wp : FVec Ideal ⟨3, ![2, 256, 1024]⟩ .f32)

/-- The row `s` of sequence `q` once the mixers are joined. -/
def mixedRow (q : Fin 4) (s : Fin 4096) : Fin 1024 → EReal :=
  projected (fun d => x (ix3 q s d)) (fun k => a (ix3 q s k)) (fun k => b (ix3 q s k)) (fun k d => wo (ix3 0 k d))

/-- The same row after the feed-forward net. -/
def fedRow (q : Fin 4) (s : Fin 4096) : Fin 1024 → EReal :=
  fed (mixedRow x a b wo q s) (fun d => gf (ix2 0 d)) (fun k j => w1 (ix3 0 k j)) (fun k j => w3 (ix3 0 k j))
    (fun j d => w2 (ix3 0 j d))

/-- The result row, its embedding added. -/
def resultRow (q : Fin 4) (s : Fin 4096) : Fin 1024 → EReal :=
  embedded (fedRow x a b wo gf w1 w3 w2 q s) (fun d => gp (ix2 0 d)) (fun k d => wg (ix3 0 k d))
    (fun k => p (ix4 0 q s k)) (fun k d => wp (ix3 0 k d))

end Cert.Post

end
-- ==== Proof.PostBlock.lean ====
/- The call after layer 0's mixers, one block of 512 tokens: what its steps compute, at a row and a feature. -/
module

public import proofs.«01_k».proof.Proof.Gen.Kernel2Ideal.Frame
public import proofs.«01_k».proof.Proof.PostSpec

@[expose] public section

set_option maxRecDepth 16384

noncomputable section

namespace Cert.Kernel2Ideal.Block

open Cert.Kernel2Ideal Cert.Kernel2Ideal.Gen Idealize.ShloMosaic Idealize.ShloMosaic.TcCoe Idealize.SL.Sem
open Cert.Rows Cert.Post

/-- The mixers joined to the residual, the output matrix given in its two halves. -/
theorem mixed_at (x : FVec Ideal S512x1024 .f32) (a b : FVec Ideal S512x512 .bf16) (wa wb : FVec Ideal S512x1024 .bf16)
    (r : Fin 512) (d : Fin 1024) :
    k0_pay2 (F := Ideal) x a wa b wb (ix2 r d)
      = x (ix2 r d) + (rowMul (fun k => a (ix2 r k)) (fun k d => wa (ix2 k d)) d
          + rowMul (fun k => b (ix2 r k)) (fun k d => wb (ix2 k d)) d) := by
  pointwise [k0_pay2, rowMul]
  exact add_assoc _ _ _

/-- The copy of it that the body stores. -/
theorem kept_at (x : FVec Ideal S512x1024 .f32) (a b : FVec Ideal S512x512 .bf16) (wa wb : FVec Ideal S512x1024 .bf16)
    (r : Fin 512) (d : Fin 1024) :
    k0_pay4 (F := Ideal) x a wa b wb (ix2 r d) = k0_pay2 (F := Ideal) x a wa b wb (ix2 r d) := by
  pointwise [k0_pay4]

/-- Its norm. -/
theorem normed_at (x : FVec Ideal S512x1024 .f32) (a b : FVec Ideal S512x512 .bf16) (wa wb : FVec Ideal S512x1024 .bf16)
    (g : FVec Ideal S1x1024 .f32) (r : Fin 512) (d : Fin 1024) :
    k0_pay3 (F := Ideal) x a wa b wb g (ix2 r d)
      = rms (fun d => k0_pay2 (F := Ideal) x a wa b wb (ix2 r d)) (fun d => g (ix2 0 d)) d := by
  pointwise [k0_pay3, rms]

/-- What 256 hidden features add to the element at row `r`, feature `d`. -/
def part (h : FVec Ideal S512x1024 .bf16) (w1 w3 : FVec Ideal S1024x256 .bf16) (w2 : FVec Ideal S256x1024 .bf16)
    (r : Fin 512) (d : Fin 1024) : EReal :=
  rowMul (hidden (fun k => h (ix2 r k)) (fun k j => w1 (ix2 k j)) (fun k j => w3 (ix2 k j))) (fun j d => w2 (ix2 j d)) d

section Chunks

variable (h : FVec Ideal S512x1024 .bf16) (w1 w3 : FVec Ideal S1024x256 .bf16) (w2 : FVec Ideal S256x1024 .bf16)
  (acc : FVec Ideal S512x1024 .f32) (r : Fin 512) (d : Fin 1024)

/-- The first 256 hidden features. -/
theorem chunk0 : k0_pay5 (F := Ideal) h w1 h w3 w2 (ix2 r d) = part h w1 w3 w2 r d := by
  pointwise [k0_pay5, part, rowMul, Rows.hidden]
theorem chunk1 : k0_pay7 (F := Ideal) (k0_pay6 h w1 h w3) acc w2 (ix2 r d) = acc (ix2 r d) + part h w1 w3 w2 r d := by
  pointwise [k0_pay7, k0_pay6, part, rowMul, Rows.hidden]
theorem chunk2 : k0_pay8 (F := Ideal) h w1 h w3 acc w2 (ix2 r d) = acc (ix2 r d) + part h w1 w3 w2 r d := by
  pointwise [k0_pay8, part, rowMul, Rows.hidden]
theorem chunk3 : k0_pay10 (F := Ideal) (k0_pay9 h w1) h w3 acc w2 (ix2 r d) = acc (ix2 r d) + part h w1 w3 w2 r d := by
  pointwise [k0_pay10, k0_pay9, part, rowMul, Rows.hidden]
theorem chunk4 : k0_pay12 (F := Ideal) (k0_pay11 h w1 h w3 acc w2) (ix2 r d) = acc (ix2 r d) + part h w1 w3 w2 r d := by
  pointwise [k0_pay12, k0_pay11, part, rowMul, Rows.hidden]
theorem chunk5 : k0_pay13 (F := Ideal) h w1 h w3 acc w2 (ix2 r d) = acc (ix2 r d) + part h w1 w3 w2 r d := by
  pointwise [k0_pay13, part, rowMul, Rows.hidden]
theorem chunk6 : k0_pay16 (F := Ideal) (k0_pay14 h w1) h (k0_pay15 w3) (constant S512x256 .f32 0x00000000#32) acc w2 (ix2 r d) = acc (ix2 r d) + part h w1 w3 w2 r d := by
  pointwise [k0_pay16, k0_pay14, k0_pay15, part, rowMul, Rows.hidden]
theorem chunk7 : k0_pay17 (F := Ideal) h w1 h w3 acc w2 (ix2 r d) = acc (ix2 r d) + part h w1 w3 w2 r d := by
  pointwise [k0_pay17, part, rowMul, Rows.hidden]
theorem chunk8 : k0_pay18 (F := Ideal) h w1 h w3 acc w2 (ix2 r d) = acc (ix2 r d) + part h w1 w3 w2 r d := by
  pointwise [k0_pay18, part, rowMul, Rows.hidden]
theorem chunk9 : k0_pay20 (F := Ideal) (k0_pay19 h w1 h w3) acc w2 (ix2 r d) = acc (ix2 r d) + part h w1 w3 w2 r d := by
  pointwise [k0_pay20, k0_pay19, part, rowMul, Rows.hidden]
theorem chunk10 : k0_pay21 (F := Ideal) h w1 h w3 acc w2 (ix2 r d) = acc (ix2 r d) + part h w1 w3 w2 r d := by
  pointwise [k0_pay21, part, rowMul, Rows.hidden]

end Chunks

/-- The stored element, over the row `x` before the net and the net's row `y`. -/
theorem stored_at (x y : FVec Ideal S512x1024 .f32) (gp : FVec Ideal S1x1024 .f32) (wg : FVec Ideal S1024x1024 .bf16)
    (p : FVec Ideal S512x256 .f32) (wp : FVec Ideal S256x1024 .bf16) (r : Fin 512) (d : Fin 1024) :
    k0_pay1 (F := Ideal) (k0_pay22 x y) gp wg p wp (ix2 r d)
      = embedded (fun d => x (ix2 r d) + y (ix2 r d)) (fun d => gp (ix2 0 d)) (fun k d => wg (ix2 k d))
          (fun k => p (ix2 r k)) (fun k d => wp (ix2 k d)) d := by
  pointwise [k0_pay1, k0_pay22, embedded, rms, rowMul]

end Cert.Kernel2Ideal.Block
end
-- ==== Proof.PostArray.lean ====
/- The result array of the call after layer 0's mixers: at every token and feature the value the blocks store there. -/
module

public import proofs.«01_k».proof.Proof.Gen.Kernel2Ideal.Value
public import proofs.«01_k».proof.Proof.PostBlock
public import Idealize.ShloMosaic.Lib.Pipeline.ValueKit
public import Idealize.ShloMosaic.Lib.Claim

@[expose] public section

set_option maxRecDepth 16384

noncomputable section

namespace Cert.Kernel2Ideal.Array

open Cert.Kernel2Ideal Cert.Kernel2Ideal.Gen Idealize.ShloMosaic Idealize.ShloMosaic.TcCoe Idealize.SL.Sem
open Cert.Rows Cert.Post

variable (m : (ℓ : Loc nD τ sig) → Buf (Elt Ideal) ℓ)

/-- The block indices of every window at grid point `t`: the token's tile, and the whole of every weight. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![t.val, 0] :=
  (by decide +kernel : ∀ t : Fin grid0.N, _)

/-- The result as a function of device `c`'s arguments. -/
def G (c : Dev nD) (n : Fin 16384) (d : Fin 1024) : EReal :=
  resultRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    ⟨n / 4096, by omega⟩ ⟨n % 4096, by omega⟩ d

/-- The result array. -/
def A (c : Dev nD) : S16384x1024.Idx → EReal := fun i => G m c (i 0) (i 1)

/-- The token at row `r` of tile `t`. -/
abbrev tok (t : Fin cfg0.N) (r : Fin 512) : Fin 16384 := ⟨t * 512 + r, by have : t.val < 32 := t.isLt; omega⟩

theorem blk0 (c : Dev nD) (t : Fin cfg0.N) (r : Fin 512) (d : Fin 1024) : (show FVec Ideal S512x1024 .f32 from iblk m c 0 t) (ix2 r d)
    = (show FVec Ideal S4x4096x1024 .f32 from m ((c : Thread nD τ).loc main_arg0)) (ix3 ⟨tok t r / 4096, by omega⟩ ⟨tok t r % 4096, by omega⟩ d) := by
  blk_point [iblk, V, idx t]
theorem blk1 (c : Dev nD) (t : Fin cfg0.N) (r d : Fin 512) : (show FVec Ideal S512x512 .bf16 from iblk m c 1 t) (ix2 r d)
    = (show FVec Ideal S4x4096x512 .bf16 from m ((c : Thread nD τ).loc main_arg1)) (ix3 ⟨tok t r / 4096, by omega⟩ ⟨tok t r % 4096, by omega⟩ d) := by
  blk_point [iblk, V, idx t]
theorem blk2 (c : Dev nD) (t : Fin cfg0.N) (r d : Fin 512) : (show FVec Ideal S512x512 .bf16 from iblk m c 2 t) (ix2 r d)
    = (show FVec Ideal S4x4096x512 .bf16 from m ((c : Thread nD τ).loc main_arg2)) (ix3 ⟨tok t r / 4096, by omega⟩ ⟨tok t r % 4096, by omega⟩ d) := by
  blk_point [iblk, V, idx t]
theorem blk3 (c : Dev nD) (t : Fin cfg0.N) (r : Fin 512) (k : Fin 256) : (show FVec Ideal S512x256 .f32 from iblk m c 3 t) (ix2 r k)
    = (show FVec Ideal S2x4x4096x256 .f32 from m ((c : Thread nD τ).loc main_arg3)) (ix4 0 ⟨tok t r / 4096, by omega⟩ ⟨tok t r % 4096, by omega⟩ k) := by
  blk_point [iblk, V, idx t]
theorem blk4 (c : Dev nD) (t : Fin cfg0.N) (k d : Fin 1024) : (show FVec Ideal S1024x1024 .bf16 from iblk m c 4 t) (ix2 k d)
    = (show FVec Ideal S1x1024x1024 .f32 from m ((c : Thread nD τ).loc main_arg4)) (ix3 0 k d) := by
  blk_point [iblk, V, idx t]
theorem blk5 (c : Dev nD) (t : Fin cfg0.N) (d : Fin 1024) : (show FVec Ideal S1x1024 .f32 from iblk m c 5 t) (ix2 0 d)
    = (show FVec Ideal S2x1024 .f32 from m ((c : Thread nD τ).loc main_arg5)) (ix2 0 d) := by
  blk_point [iblk, V, idx t]
theorem blk6 (c : Dev nD) (t : Fin cfg0.N) (k : Fin 1024) (j : Fin 2816) : (show FVec Ideal S1024x2816 .bf16 from iblk m c 6 t) (ix2 k j)
    = (show FVec Ideal S1x1024x2816 .f32 from m ((c : Thread nD τ).loc main_arg6)) (ix3 0 k j) := by
  blk_point [iblk, V, idx t]
theorem blk7 (c : Dev nD) (t : Fin cfg0.N) (k : Fin 1024) (j : Fin 2816) : (show FVec Ideal S1024x2816 .bf16 from iblk m c 7 t) (ix2 k j)
    = (show FVec Ideal S1x1024x2816 .f32 from m ((c : Thread nD τ).loc main_arg7)) (ix3 0 k j) := by
  blk_point [iblk, V, idx t]
theorem blk8 (c : Dev nD) (t : Fin cfg0.N) (j : Fin 2816) (d : Fin 1024) : (show FVec Ideal S2816x1024 .bf16 from iblk m c 8 t) (ix2 j d)
    = (show FVec Ideal S1x2816x1024 .f32 from m ((c : Thread nD τ).loc main_arg8)) (ix3 0 j d) := by
  blk_point [iblk, V, idx t]
theorem blk9 (c : Dev nD) (t : Fin cfg0.N) (d : Fin 1024) : (show FVec Ideal S1x1024 .f32 from iblk m c 9 t) (ix2 0 d)
    = (show FVec Ideal S2x1024 .f32 from m ((c : Thread nD τ).loc main_arg9)) (ix2 0 d) := by
  blk_point [iblk, V, idx t]
theorem blk10 (c : Dev nD) (t : Fin cfg0.N) (k d : Fin 1024) : (show FVec Ideal S1024x1024 .bf16 from iblk m c 10 t) (ix2 k d)
    = (show FVec Ideal S2x1024x1024 .f32 from m ((c : Thread nD τ).loc main_arg10)) (ix3 0 k d) := by
  blk_point [iblk, V, idx t]
theorem blk11 (c : Dev nD) (t : Fin cfg0.N) (k : Fin 256) (d : Fin 1024) : (show FVec Ideal S256x1024 .bf16 from iblk m c 11 t) (ix2 k d)
    = (show FVec Ideal S2x256x1024 .f32 from m ((c : Thread nD τ).loc main_arg11)) (ix3 0 k d) := by
  blk_point [iblk, V, idx t]
theorem emb12 (t : Fin cfg0.N) (r : Fin 512) (d : Fin 1024) : ((cfg0.win 12).blk t).view.emb (ix2 r d : S512x1024.Idx) = (ix2 (tok t r) d : S16384x1024.Idx) := by
  blk_ext [idx t]

/-- A load of rows `o` and on of a block reads its rows shifted by `o`. -/
theorem ld_rows {a b n : ℕ} (w : FVec Ideal ⟨2, ![a, b]⟩ .bf16) (o : ℕ) (h) (k : Fin n) (d : Fin b) (hk : o + k.val < a) :
    View.ld (Val := Elt Ideal) (e' := .bf16) w (Rect.unit ![o, 0] ![n, b] h) (ix2 k d) = w (ix2 ⟨o + k, hk⟩ d) :=
  View.ld_unit_apply_of (Val := Elt Ideal) (e := .bf16) w _ _ _ _ _ fun a => by
    match a with
    | ⟨0, _⟩ => rfl
    | ⟨1, _⟩ => exact (Nat.zero_add _).symm

/-- The first half of the output matrix. -/
theorem ld_first (w : FVec Ideal S1024x1024 .bf16) (h) (k : Fin 512) (d : Fin 1024) :
    View.ld (Val := Elt Ideal) (e' := .bf16) w (Rect.unit ![0, 0] ![512, 1024] h) (ix2 k d) = w (ix2 ⟨k, by omega⟩ d) :=
  (ld_rows w 0 h k d (by omega)).trans (congrArg (fun i => w (ix2 i d)) (Fin.ext (Nat.zero_add _)))

/-- The second half. -/
theorem ld_second (w : FVec Ideal S1024x1024 .bf16) (h) (k : Fin 512) (d : Fin 1024) :
    View.ld (Val := Elt Ideal) (e' := .bf16) w (Rect.unit ![512, 0] ![512, 1024] h) (ix2 k d) = w (ix2 ⟨512 + k, by omega⟩ d) :=
  ld_rows w 512 h k d (by omega)

/-- A load of columns `o` and on reads its columns shifted by `o`. -/
theorem ld_cols {a b n : ℕ} (w : FVec Ideal ⟨2, ![a, b]⟩ .bf16) (o : ℕ) (h) (k : Fin a) (d : Fin n) (hd : o + d.val < b) :
    View.ld (Val := Elt Ideal) (e' := .bf16) w (Rect.unit ![0, o] ![a, n] h) (ix2 k d) = w (ix2 k ⟨o + d, hd⟩) :=
  View.ld_unit_apply_of (Val := Elt Ideal) (e := .bf16) w _ _ _ _ _ fun a => by
    match a with
    | ⟨0, _⟩ => exact (Nat.zero_add _).symm
    | ⟨1, _⟩ => rfl

/-- What the 256 hidden features from `o` on add to feature `d`. -/
def piece (x : Fin 1024 → EReal) (w1 w3 : Fin 1024 → Fin 2816 → EReal) (w2 : Fin 2816 → Fin 1024 → EReal) (d : Fin 1024)
    (o : ℕ) (ho : o + 256 ≤ 2816) : EReal :=
  ∑ k : Fin 256, Rows.hidden x w1 w3 ⟨o + k, by omega⟩ * w2 ⟨o + k, by omega⟩ d

/-- A sum of eleven terms, written out. -/
theorem sum_eleven (f : Fin 11 → EReal) : ∑ j, f j = f 0 + f 1 + f 2 + f 3 + f 4 + f 5 + f 6 + f 7 + f 8 + f 9 + f 10 := by
  simp only [Fin.sum_univ_castSucc, Fin.sum_univ_zero, zero_add]
  rfl

/-- The net's row at feature `d` as the sum over its eleven runs of 256 hidden features. -/
theorem net_eq (x : Fin 1024 → EReal) (w1 w3 : Fin 1024 → Fin 2816 → EReal) (w2 : Fin 2816 → Fin 1024 → EReal) (d : Fin 1024) :
    rowMul (Rows.hidden x w1 w3) w2 d = piece x w1 w3 w2 d 0 (by decide) + piece x w1 w3 w2 d 256 (by decide) + piece x w1 w3 w2 d 512 (by decide) + piece x w1 w3 w2 d 768 (by decide) + piece x w1 w3 w2 d 1024 (by decide) + piece x w1 w3 w2 d 1280 (by decide) + piece x w1 w3 w2 d 1536 (by decide) + piece x w1 w3 w2 d 1792 (by decide) + piece x w1 w3 w2 d 2048 (by decide) + piece x w1 w3 w2 d 2304 (by decide) + piece x w1 w3 w2 d 2560 (by decide) :=
  (Fin.sum_univ_tiles 11 256 rfl _).trans ((sum_eleven _).trans (by
    simp only [piece]
    rfl))

/-- What a run of the body adds, the weights loaded from column (row) `o` on. -/
theorem part_eq (H : FVec Ideal S512x1024 .bf16) (w1 w3 : FVec Ideal S1024x2816 .bf16) (w2 : FVec Ideal S2816x1024 .bf16)
    (o : ℕ) (ho : o + 256 ≤ 2816) (h1 h3 h2) (r : Fin 512) (d : Fin 1024) :
    Block.part H (View.ld (Val := Elt Ideal) (e' := .bf16) w1 (Rect.unit ![0, o] ![1024, 256] h1))
      (View.ld (Val := Elt Ideal) (e' := .bf16) w3 (Rect.unit ![0, o] ![1024, 256] h3))
      (View.ld (Val := Elt Ideal) (e' := .bf16) w2 (Rect.unit ![o, 0] ![256, 1024] h2)) r d
      = piece (fun k => H (ix2 r k)) (fun k j => w1 (ix2 k j)) (fun k j => w3 (ix2 k j)) (fun j d => w2 (ix2 j d)) d o ho := by
  unfold Block.part piece rowMul
  refine Finset.sum_congr rfl fun k _ => congrArg₂ (· * ·) ?_ (ld_rows w2 o h2 k d (by omega))
  exact congrArg₂ (fun (a b : Fin 1024 → EReal) => (∑ i, H (ix2 r i) * a i) * Ideal.logistic (∑ i, H (ix2 r i) * a i) * ∑ i, H (ix2 r i) * b i)
    (funext fun i => ld_cols w1 o h1 i k (by omega)) (funext fun i => ld_cols w3 o h3 i k (by omega))

/-- The mixers joined, the output matrix's halves loaded. -/
theorem mixed_ld (x : FVec Ideal S512x1024 .f32) (a b : FVec Ideal S512x512 .bf16) (w : FVec Ideal S1024x1024 .bf16) (h1 h2)
    (r : Fin 512) (d : Fin 1024) :
    k0_pay2 (F := Ideal) x a (View.ld (Val := Elt Ideal) (e' := .bf16) w (Rect.unit ![0, 0] ![512, 1024] h1)) b
        (View.ld (Val := Elt Ideal) (e' := .bf16) w (Rect.unit ![512, 0] ![512, 1024] h2)) (ix2 r d)
      = projected (fun d => x (ix2 r d)) (fun k => a (ix2 r k)) (fun k => b (ix2 r k)) (fun k d => w (ix2 k d)) d := by
  refine (Block.mixed_at x a b _ _ r d).trans (congrArg (x (ix2 r d) + ·) (congrArg₂ (· + ·) ?_ ?_))
  · exact Finset.sum_congr rfl fun k _ => congrArg (a (ix2 r k) * ·) (ld_first w h1 k d)
  · exact Finset.sum_congr rfl fun k _ => congrArg (b (ix2 r k) * ·) (ld_second w h2 k d)

theorem final (c : Dev nD) : (dats m 0 c).arrAt 12 cfg0.N = A m c := by
  refine (dats m 0 c).arrAt_eq_of_covers 12 _ (by decide +kernel) fun t _ y => ?_
  blk_simp
  rw [after0_12, outsAt0]; frame_out
  idx_vars y
  generalize hH : k0_pay3 (F := Ideal) _ _ _ _ _ _ = H
  generalize hX : k0_pay4 (F := Ideal) _ _ _ _ _ = X
  refine (Block.stored_at X _ _ _ _ _ y0 y1).trans ?_
  simp only [Block.chunk0, Block.chunk1, Block.chunk2, Block.chunk3, Block.chunk4, Block.chunk5, Block.chunk6, Block.chunk7, Block.chunk8, Block.chunk9, Block.chunk10]
  simp only [part_eq _ _ _ _ 0 (by decide), part_eq _ _ _ _ 256 (by decide), part_eq _ _ _ _ 512 (by decide), part_eq _ _ _ _ 768 (by decide), part_eq _ _ _ _ 1024 (by decide), part_eq _ _ _ _ 1280 (by decide), part_eq _ _ _ _ 1536 (by decide), part_eq _ _ _ _ 1792 (by decide), part_eq _ _ _ _ 2048 (by decide), part_eq _ _ _ _ 2304 (by decide), part_eq _ _ _ _ 2560 (by decide), ← net_eq]
  rw [show ((View.whole main_v24).slice (win0_12.rect t)).emb (ix2 y0 y1) = ix2 (tok t y0) y1 from emb12 t y0 y1]
  subst hX hH
  simp only [Block.kept_at, Block.normed_at, mixed_ld, blk0 m c t, blk1 m c t, blk2 m c t, blk3 m c t, blk4 m c t, blk5 m c t, blk6 m c t, blk7 m c t, blk8 m c t, blk9 m c t, blk10 m c t, blk11 m c t]
  rfl

end Cert.Kernel2Ideal.Array
end
-- ==== Proof.PostRef.lean ====
/- The reference of the call after layer 0's mixers, read at a row and a feature. -/
module

public import proofs.«01_k».proof.Proof.Gen.Reference2Ideal.Read
public import proofs.«01_k».proof.Proof.PostSpec

@[expose] public section

set_option maxRecDepth 16384

noncomputable section

namespace Cert.Reference2Ideal.RefValue

open Cert.Reference2Ideal Cert.Reference2Ideal.Gen Idealize.ShloMosaic Idealize.ShloMosaic.TcCoe Idealize.SL.Sem
open Cert.Rows Cert.Post Cert.Reference2Ideal.Read

variable (x : FVec Ideal S4x4096x1024 .f32) (a b : FVec Ideal S4x4096x512 .bf16)
  (p : FVec Ideal S2x4x4096x256 .f32) (wo : FVec Ideal S1x1024x1024 .f32)
  (gf : FVec Ideal S2x1024 .f32) (w1 w3 : FVec Ideal S1x1024x2816 .f32)
  (w2 : FVec Ideal S1x2816x1024 .f32) (gp : FVec Ideal S2x1024 .f32)
  (wg : FVec Ideal S2x1024x1024 .f32) (wp : FVec Ideal S2x256x1024 .f32)

/-- The mixers joined to the residual: the product over the two halves of the joined row. -/
theorem mixed_at (q : Fin 4) (s : Fin 4096) (d : Fin 1024) :
    val_main_v4 (F := Ideal) x a b wo (ix3 q s d) = mixedRow x a b wo q s d := by
  pointwise [val_main_v4, val_main_v3, val_main_v2, val_main_v1, val_main_v0, mixedRow, projected, rowMul]

/-- The norm before the net. -/
theorem normed_at (q : Fin 4) (s : Fin 4096) (d : Fin 1024) :
    val_main_v19 (F := Ideal) x a b wo gf (ix3 q s d) = rms (mixedRow x a b wo q s) (fun d => gf (ix2 0 d)) d := by
  pointwise [val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1]
  simp only [mixed_at]
  rfl

/-- The hidden row of the net. -/
theorem hidden_at (q : Fin 4) (s : Fin 4096) (j : Fin 2816) :
    val_main_v26 (F := Ideal) x a b wo gf w1 w3 (ix3 q s j)
      = hidden (rms (mixedRow x a b wo q s) (fun d => gf (ix2 0 d))) (fun k j => w1 (ix3 0 k j)) (fun k j => w3 (ix3 0 k j)) j := by
  pointwise [val_main_v26, val_main_v25, val_main_v24, val_main_v23, val_main_v21, val_main_v20,
    val_main_call0_v5, val_main_call0_v4, val_main_call0_v3, val_main_call0_v2, val_main_call0_v1, val_main_call0_v0, val_main_call0_cst, val_main_call0_cst_0]
  simp only [normed_at]
  rfl

/-- The row after the net. -/
theorem fed_at (q : Fin 4) (s : Fin 4096) (d : Fin 1024) :
    val_main_v28 (F := Ideal) x a b wo gf w1 w3 w2 (ix3 q s d) = fedRow x a b wo gf w1 w3 w2 q s d := by
  pointwise [val_main_v28, val_main_v27, val_main_v22]
  simp only [hidden_at, mixed_at]
  rfl

/-- The gate of the embedding. -/
theorem gate_at (q : Fin 4) (s : Fin 4096) (d : Fin 1024) :
    val_main_v52 (F := Ideal) x a b wo gf w1 w3 w2 gp wg (ix3 q s d)
      = Ideal.logistic (rowMul (rms (fedRow x a b wo gf w1 w3 w2 q s) (fun d => gp (ix2 0 d))) (fun k d => wg (ix3 0 k d)) d) := by
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_cst_2, val_main_cst_3, val_main_cst_4, val_main_cst_5, val_main_cst_6]
  simp only [fed_at]
  rfl

/-- The reference's result at token `n`, feature `d`. -/
theorem result_at (n : Fin 16384) (d : Fin 1024) :
    val_main_v60 (F := Ideal) x a b p wo gf w1 w3 w2 gp wg wp (ix2 n d)
      = resultRow x a b p wo gf w1 w3 w2 gp wg wp ⟨n / 4096, by omega⟩ ⟨n % 4096, by omega⟩ d := by
  pointwise [val_main_v60, val_main_v59, val_main_v58, val_main_v57, val_main_v56, val_main_v55, val_main_v54, val_main_v53]
  rw [gate_at, fed_at]
  rfl

end Cert.Reference2Ideal.RefValue
end
-- ==== Proof.PostClaim.lean ====
/- The claims about the call after layer 0's mixers and its reference. -/
module

public import proofs.«01_k».proof.Defs
public import proofs.«01_k».proof.Proof.Gen.Kernel2.Frame
public import proofs.«01_k».proof.Proof.PostArray
public import proofs.«01_k».proof.Proof.PostRef
public import Idealize.ShloMosaic.Lib.Claim
public import Idealize.ShloMosaic.Lib.Quiescent

@[expose] public section

set_option maxRecDepth 16384

noncomputable section

namespace Cert.Proof.PostClaims

open Idealize.ShloMosaic Idealize.ShloMosaic.TcCoe Idealize.SL.Sem

/-- The kernel terminates, keeps its arguments and leaves every semaphore at zero. -/
theorem frame_kernel : Cert.quiescent_Kernel2 := fun m ρ _ => Cert.Kernel2.Gen.frame m ρ
/-- So does its idealization. -/
theorem frame_ideal : Cert.quiescent_Kernel2Ideal := fun m ρ _ => Cert.Kernel2Ideal.Gen.frame m ρ
/-- The reference terminates and keeps its arguments; it declares no semaphore. -/
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The idealization rewrote nothing. -/
theorem preserves : Cert.preserves_Kernel2_Kernel2Ideal := trivial

/-- From arguments that agree, the reference's result array is the kernel's. -/
theorem algebraic : Cert.algebraic_Kernel2Ideal_Reference2Ideal := by
  intro m ρ m' ρ' _ hagree
  refine ⟨fun c => Cert.Kernel2Ideal.Array.A m c, ?_, ?_⟩
  · exact (θ_run Cert.Kernel2Ideal.defs _ _).mono (fun _ h c => ⟨(h c).1.trans (Cert.Kernel2Ideal.Array.final m c), (h c).2⟩)
      (Cert.Kernel2Ideal.Value.run_blocks (F := Ideal) m ρ)
  refine (θ_run Cert.Reference2Ideal.defs _ _).mono (fun _ h c => ⟨(h c).1.trans ?_, (h c).2⟩)
    (Cert.Reference2Ideal.Value.run (F := Ideal) m' ρ')
  rw [Cert.Reference2Ideal.Read.val_main_v60_eq]
  obtain ⟨h0, h1, h2, h3, h4, h5, h6, h7, h8, h9, h10, h11⟩ := hagree c
  rw [h0, h1, h2, h3, h4, h5, h6, h7, h8, h9, h10, h11]
  funext i
  exact (congrArg _ (eq_ix2 i)).trans (Cert.Reference2Ideal.RefValue.result_at _ _ _ _ _ _ _ _ _ _ _ _ (i 0) (i 1))

end Cert.Proof.PostClaims
end
-- ==== Proof.CombineSpec.lean ====
/- What the last call computes: the two weighted expert rows of each token joined to the residual, the gated per-layer
   embedding added, and the final norm. -/
module

public import proofs.«01_k».proof.Proof.RowFunctions
public import Idealize.ShloMosaic.Lib.Pointwise

@[expose] public section

set_option maxRecDepth 16384

noncomputable section

namespace Cert.Combine

open Idealize.ShloMosaic Cert.Rows

/-- The row of a token once its two expert rows, each times its gate, are added to the residual. -/
def joined (h y0 y1 : Fin 1024 → EReal) (g0 g1 : EReal) (d : Fin 1024) : EReal := h d + (y0 d * g0 + y1 d * g1)

variable (h : FVec Ideal ⟨3, ![4, 4096, 1024]⟩ .f32) (y : FVec Ideal ⟨2, ![33792, 1024]⟩ .f32)
  (rg : FVec Ideal ⟨2, ![8, 16384]⟩ .f32) (p : FVec Ideal ⟨4, ![2, 4, 4096, 256]⟩ .f32)
  (gp : FVec Ideal ⟨2, ![2, 1024]⟩ .f32) (wg : FVec Ideal ⟨3, ![2, 1024, 1024]⟩ .f32)
  (wp : FVec Ideal ⟨3, ![2, 256, 1024]⟩ .f32) (gf : FVec Ideal ⟨1, ![1024]⟩ .f32)

/-- Token `n`'s row after its experts: `y` holds one row per token and choice, the second choice's rows from 16896 on. -/
def tokenRow (n : Fin 16384) : Fin 1024 → EReal :=
  joined (fun d => h (ix3 ⟨n / 4096, by omega⟩ ⟨n % 4096, by omega⟩ d)) (fun d => y (ix2 ⟨n, by omega⟩ d))
    (fun d => y (ix2 ⟨16896 + n, by omega⟩ d)) (rg (ix2 0 n)) (rg (ix2 1 n))

/-- The result array at token `n`, feature `d`. -/
def result (n : Fin 16384) (d : Fin 1024) : EReal :=
  rms (embedded (tokenRow h y rg n) (fun d => gp (ix2 1 d)) (fun k d => wg (ix3 1 k d))
      (fun k => p (ix4 1 ⟨n / 4096, by omega⟩ ⟨n % 4096, by omega⟩ k)) (fun k d => wp (ix3 1 k d)))
    (fun d => gf (ix1 d)) d

end Cert.Combine

end
-- ==== Proof.CombineBlock.lean ====
/- The last call, one block of 512 tokens: what the body stores, at a row and a feature. -/
module

public import proofs.«01_k».proof.Proof.Gen.Kernel3Ideal.Frame
public import proofs.«01_k».proof.Proof.CombineSpec

@[expose] public section

set_option maxRecDepth 16384

noncomputable section

namespace Cert.Kernel3Ideal.Block

open Cert.Kernel3Ideal Cert.Kernel3Ideal.Gen Idealize.ShloMosaic Idealize.ShloMosaic.TcCoe Idealize.SL.Sem
open Cert.Rows Cert.Combine

/-- The residual plus the two gated expert rows. -/
theorem joined_at (g : FVec Ideal S8x512 .f32) (h y0 y1 : FVec Ideal S512x1024 .f32) (r : Fin 512) (d : Fin 1024) :
    k0_pay2 (F := Ideal) g h y0 y1 (ix2 r d)
      = joined (fun d => h (ix2 r d)) (fun d => y0 (ix2 r d)) (fun d => y1 (ix2 r d)) (g (ix2 0 r)) (g (ix2 1 r)) d := by
  pointwise [k0_pay2, joined]

/-- The gate of the embedding: the logistic function of the normed row times the gate's matrix. -/
theorem gate_at (g : FVec Ideal S8x512 .f32) (h y0 y1 : FVec Ideal S512x1024 .f32) (gp : FVec Ideal S1x1024 .f32)
    (wg : FVec Ideal S1024x1024 .bf16) (r : Fin 512) (d : Fin 1024) :
    k0_pay3 (F := Ideal) g h y0 y1 gp wg (ix2 r d)
      = Ideal.logistic (rowMul (rms (fun d => k0_pay2 (F := Ideal) g h y0 y1 (ix2 r d)) (fun d => gp (ix2 0 d)))
          (fun k d => wg (ix2 k d)) d) := by
  pointwise [k0_pay3, rowMul, rms]

/-- The stored element, over the residual row `x` and the gate. -/
theorem normed_at (x gate : FVec Ideal S512x1024 .f32) (p : FVec Ideal S512x256 .f32) (wp : FVec Ideal S256x1024 .bf16)
    (gf : FVec Ideal S1x1024 .f32) (r : Fin 512) (d : Fin 1024) :
    k0_pay1 (F := Ideal) x gate (k0_pay4 p) wp gf (ix2 r d)
      = rms (fun d => x (ix2 r d) + gate (ix2 r d) * rowMul (fun k => p (ix2 r k)) (fun k d => wp (ix2 k d)) d)
          (fun d => gf (ix2 0 d)) d := by
  pointwise [k0_pay1, k0_pay4, rowMul, rms]

/-- The stored element from the blocks loaded. -/
theorem stored_at (g : FVec Ideal S8x512 .f32) (h y0 y1 : FVec Ideal S512x1024 .f32) (gp : FVec Ideal S1x1024 .f32)
    (wg : FVec Ideal S1024x1024 .bf16) (p : FVec Ideal S512x256 .f32) (wp : FVec Ideal S256x1024 .bf16)
    (gf : FVec Ideal S1x1024 .f32) (r : Fin 512) (d : Fin 1024) :
    k0_pay1 (F := Ideal) (k0_pay2 g h y0 y1) (k0_pay3 g h y0 y1 gp wg) (k0_pay4 p) wp gf (ix2 r d)
      = rms (embedded (joined (fun d => h (ix2 r d)) (fun d => y0 (ix2 r d)) (fun d => y1 (ix2 r d)) (g (ix2 0 r)) (g (ix2 1 r)))
          (fun d => gp (ix2 0 d)) (fun k d => wg (ix2 k d)) (fun k => p (ix2 r k)) (fun k d => wp (ix2 k d)))
          (fun d => gf (ix2 0 d)) d := by
  rw [normed_at]
  simp only [gate_at, joined_at]
  rfl

end Cert.Kernel3Ideal.Block
end
-- ==== Proof.CombineArray.lean ====
/- The last call's result array: at every token and feature the value the blocks store there. -/
module

public import proofs.«01_k».proof.Proof.Gen.Kernel3Ideal.Value
public import proofs.«01_k».proof.Proof.CombineBlock
public import Idealize.ShloMosaic.Lib.Pipeline.ValueKit
public import Idealize.ShloMosaic.Lib.Claim

@[expose] public section

set_option maxRecDepth 16384

noncomputable section

namespace Cert.Kernel3Ideal.Array

open Cert.Kernel3Ideal Cert.Kernel3Ideal.Gen Idealize.ShloMosaic Idealize.ShloMosaic.TcCoe Idealize.SL.Sem
open Cert.Rows Cert.Combine

variable (m : (ℓ : Loc nD τ sig) → Buf (Elt Ideal) ℓ)

/-- The block indices of every window at grid point `t`: the token's tile, and the second choice's rows 33 tiles on. -/
theorem idx : ∀ t : Fin cfg0.N, win0_0.index t = ![t.val, 0] ∧ win0_1.index t = ![t.val, 0] ∧ win0_2.index t = ![33 + t.val, 0]
    ∧ win0_3.index t = ![0, t.val] ∧ win0_4.index t = ![32 + t.val, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The result as a function of device `c`'s arguments. -/
def G (c : Dev nD) (n : Fin 16384) (d : Fin 1024) : EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) n d

/-- The result array. -/
def A (c : Dev nD) : S16384x1024.Idx → EReal := fun i => G m c (i 0) (i 1)

/-- The token at row `r` of tile `t`. -/
abbrev tok (t : Fin cfg0.N) (r : Fin 512) : Fin 16384 := ⟨t * 512 + r, by have : t.val < 32 := t.isLt; omega⟩

theorem blk0 (c : Dev nD) (t : Fin cfg0.N) (r : Fin 512) (d : Fin 1024) : (show FVec Ideal S512x1024 .f32 from iblk m c 0 t) (ix2 r d)
    = (show FVec Ideal S4x4096x1024 .f32 from m ((c : Thread nD τ).loc main_arg0)) (ix3 ⟨tok t r / 4096, by omega⟩ ⟨tok t r % 4096, by omega⟩ d) := by
  blk_point [iblk, V, idx t]
theorem blk1 (c : Dev nD) (t : Fin cfg0.N) (r : Fin 512) (d : Fin 1024) : (show FVec Ideal S512x1024 .f32 from iblk m c 1 t) (ix2 r d)
    = (show FVec Ideal S33792x1024 .f32 from m ((c : Thread nD τ).loc main_arg1)) (ix2 ⟨tok t r, by omega⟩ d) := by
  blk_point [iblk, V, idx t]
theorem blk2 (c : Dev nD) (t : Fin cfg0.N) (r : Fin 512) (d : Fin 1024) : (show FVec Ideal S512x1024 .f32 from iblk m c 2 t) (ix2 r d)
    = (show FVec Ideal S33792x1024 .f32 from m ((c : Thread nD τ).loc main_arg1)) (ix2 ⟨16896 + tok t r, by omega⟩ d) := by
  blk_point [iblk, V, idx t]
theorem blk3 (c : Dev nD) (t : Fin cfg0.N) (e : Fin 8) (r : Fin 512) : (show FVec Ideal S8x512 .f32 from iblk m c 3 t) (ix2 e r)
    = (show FVec Ideal S8x16384 .f32 from m ((c : Thread nD τ).loc main_arg2)) (ix2 e (tok t r)) := by
  blk_point [iblk, V, idx t]
theorem blk4 (c : Dev nD) (t : Fin cfg0.N) (r : Fin 512) (k : Fin 256) : (show FVec Ideal S512x256 .f32 from iblk m c 4 t) (ix2 r k)
    = (show FVec Ideal S2x4x4096x256 .f32 from m ((c : Thread nD τ).loc main_arg3)) (ix4 1 ⟨tok t r / 4096, by omega⟩ ⟨tok t r % 4096, by omega⟩ k) := by
  blk_point [iblk, V, idx t]
theorem blk5 (c : Dev nD) (t : Fin cfg0.N) (d : Fin 1024) : (show FVec Ideal S1x1024 .f32 from iblk m c 5 t) (ix2 0 d)
    = (show FVec Ideal S2x1024 .f32 from m ((c : Thread nD τ).loc main_arg4)) (ix2 1 d) := by
  blk_point [iblk, V, idx t]
theorem blk6 (c : Dev nD) (t : Fin cfg0.N) (k d : Fin 1024) : (show FVec Ideal S1024x1024 .bf16 from iblk m c 6 t) (ix2 k d)
    = (show FVec Ideal S2x1024x1024 .f32 from m ((c : Thread nD τ).loc main_arg5)) (ix3 1 k d) := by
  blk_point [iblk, V, idx t]
theorem blk7 (c : Dev nD) (t : Fin cfg0.N) (k : Fin 256) (d : Fin 1024) : (show FVec Ideal S256x1024 .bf16 from iblk m c 7 t) (ix2 k d)
    = (show FVec Ideal S2x256x1024 .f32 from m ((c : Thread nD τ).loc main_arg6)) (ix3 1 k d) := by
  blk_point [iblk, V, idx t]
theorem blk8 (c : Dev nD) (t : Fin cfg0.N) (d : Fin 1024) : (show FVec Ideal S1x1024 .f32 from iblk m c 8 t) (ix2 0 d)
    = (show FVec Ideal S1024 .f32 from m ((c : Thread nD τ).loc main_arg7)) (ix1 d) := by
  blk_point [iblk, V, idx t]
theorem emb9 (t : Fin cfg0.N) (r : Fin 512) (d : Fin 1024) : ((cfg0.win 9).blk t).view.emb (ix2 r d : S512x1024.Idx) = (ix2 (tok t r) d : S16384x1024.Idx) := by
  blk_ext [idx t]

/-- What point `t` stores at row `r` of its tile is the result at token `512 t + r`. -/
theorem point (c : Dev nD) (t : Fin cfg0.N) (y : S512x1024.Idx) :
    k0_pay1 (F := Ideal) (k0_pay2 (iblk m c 3 t) (iblk m c 0 t) (iblk m c 1 t) (iblk m c 2 t))
      (k0_pay3 (iblk m c 3 t) (iblk m c 0 t) (iblk m c 1 t) (iblk m c 2 t) (iblk m c 5 t) (iblk m c 6 t))
      (k0_pay4 (iblk m c 4 t)) (iblk m c 7 t) (iblk m c 8 t) y
      = A m c (((cfg0.win 9).blk t).view.emb y) := by
  idx_vars y
  rw [Block.stored_at, emb9]
  exact congrArg₂ (fun a b => rms a b y1) (by
    simp only [blk0 m c t, blk1 m c t, blk2 m c t, blk3 m c t, blk4 m c t, blk5 m c t, blk6 m c t, blk7 m c t]; rfl) (funext fun d => blk8 m c t d)

theorem final (c : Dev nD) : (dats m 0 c).arrAt 9 cfg0.N = A m c := by
  refine (dats m 0 c).arrAt_eq_of_covers 9 _ (by decide +kernel) fun t _ y => ?_
  blk_simp
  rw [after0_9]; frame_out
  exact point m c t y

end Cert.Kernel3Ideal.Array
end
-- ==== Proof.CombineRef.lean ====
/- The last call's reference, read at a token and a feature. -/
module

public import proofs.«01_k».proof.Proof.Gen.Reference3Ideal.Read
public import proofs.«01_k».proof.Proof.CombineSpec

@[expose] public section

set_option maxRecDepth 16384

noncomputable section

namespace Cert.Reference3Ideal.RefValue

open Cert.Reference3Ideal Cert.Reference3Ideal.Gen Idealize.ShloMosaic Idealize.ShloMosaic.TcCoe Idealize.SL.Sem
open Cert.Rows Cert.Combine Cert.Reference3Ideal.Read

variable (h : FVec Ideal S4x4096x1024 .f32) (y : FVec Ideal S33792x1024 .f32)
  (rg : FVec Ideal S8x16384 .f32) (p : FVec Ideal S2x4x4096x256 .f32)
  (gp : FVec Ideal S2x1024 .f32) (wg : FVec Ideal S2x1024x1024 .f32)
  (wp : FVec Ideal S2x256x1024 .f32) (gf : FVec Ideal S1024 .f32)

/-- The token at row `s` of sequence `b`. -/
abbrev tok (b : Fin 4) (s : Fin 4096) : Fin 16384 := ⟨b * 4096 + s, by omega⟩

/-- Choice `e`'s rows begin at row `e * 16896` of the expert rows. -/
theorem choice_at (e : Fin 2) (n : Fin 16384) (d : Fin 1024) :
    val_main_v1 (F := Ideal) y (ix3 e n d) = y (ix2 ⟨e * 16896 + n, by omega⟩ d) := by
  rw [val_main_v1_apply, val_main_v0_apply]
  refine congrArg y (funext fun a => ?_)
  match a with
  | ⟨0, _⟩ => exact Fin.ext (by show ((e.val * 16896 + n.val) * 1024 + d.val) / 1024 = e.val * 16896 + n.val; omega)
  | ⟨1, _⟩ => exact Fin.ext (by show ((e.val * 16896 + n.val) * 1024 + d.val) % 1024 = d.val; omega)

/-- The expert rows of a token, each times its gate. -/
theorem experts_at (n : Fin 16384) (d : Fin 1024) :
    val_main_v16 (F := Ideal) y rg (ix2 n d)
      = y (ix2 ⟨n, by omega⟩ d) * rg (ix2 0 n) + y (ix2 ⟨16896 + n, by omega⟩ d) * rg (ix2 1 n) := by
  pointwise [val_main_v16, val_main_v15, val_main_v14, val_main_v13, val_main_v12, val_main_v11, val_main_v10, val_main_v9,
    val_main_v8, val_main_v7, val_main_v6, val_main_v5, val_main_v4, val_main_v3, val_main_v2]
  rw [choice_at, choice_at]
  refine congrArg₂ (· + ·) (congrArg (· * _) (congrArg y ?_)) rfl
  exact (ix2_inj ..).2 ⟨Fin.ext (by simp), rfl⟩

/-- The residual plus the expert rows, at row `s` of sequence `b`. -/
theorem row_at (b : Fin 4) (s : Fin 4096) (d : Fin 1024) :
    val_main_v18 (F := Ideal) h y rg (ix3 b s d) = tokenRow h y rg (tok b s) d := by
  pointwise [val_main_v18, val_main_v17]
  rw [experts_at]
  refine congrArg (· + _) (congrArg h ((ix3_inj ..).2 ⟨Fin.ext ?_, Fin.ext ?_, rfl⟩)) <;> dsimp only <;> omega

/-- The gate of the embedding. -/
theorem gate_at (b : Fin 4) (s : Fin 4096) (d : Fin 1024) :
    val_main_v42 (F := Ideal) h y rg gp wg (ix3 b s d)
      = Ideal.logistic (rowMul (rms (fun d => val_main_v18 (F := Ideal) h y rg (ix3 b s d)) (fun d => gp (ix2 1 d)))
          (fun k d => wg (ix3 1 k d)) d) := by
  pointwise [val_main_v42, val_main_v41, val_main_v40, val_main_v39, val_main_v38, val_main_v37, val_main_v36,
    val_main_v35, val_main_v34, val_main_v33, val_main_v32, val_main_v31, val_main_v30, val_main_v29, val_main_v28,
    val_main_v27, val_main_v26, val_main_v25, val_main_v24, val_main_v23, val_main_v22, val_main_v21, val_main_v20,
    val_main_v19, val_main_cst_3, val_main_cst_2, val_main_cst_1, val_main_cst_0, val_main_cst]
  rfl

/-- The row with its embedding. -/
theorem embedded_at (b : Fin 4) (s : Fin 4096) (d : Fin 1024) :
    val_main_v49 (F := Ideal) h y rg p gp wg wp (ix3 b s d)
      = embedded (tokenRow h y rg (tok b s)) (fun d => gp (ix2 1 d)) (fun k d => wg (ix3 1 k d))
          (fun k => p (ix4 1 b s k)) (fun k d => wp (ix3 1 k d)) d := by
  pointwise [val_main_v49, val_main_v48, val_main_v47, val_main_v46, val_main_v45, val_main_v44, val_main_v43]
  rw [gate_at]
  simp only [row_at]
  rfl

/-- The reference's result at token `n`, feature `d`. -/
theorem result_at (n : Fin 16384) (d : Fin 1024) :
    val_main_v63 (F := Ideal) h y rg p gp wg wp gf (ix2 n d) = result h y rg p gp wg wp gf n d := by
  have e : tok ⟨n / 4096, by omega⟩ ⟨n % 4096, by omega⟩ = n := Fin.ext (by dsimp only; omega)
  pointwise [val_main_v63, val_main_v62, val_main_v61, val_main_v60, val_main_v59, val_main_v58, val_main_v57,
    val_main_v56, val_main_v55, val_main_v54, val_main_v53, val_main_v52, val_main_v51, val_main_v50, val_main_cst_4,
    val_main_cst_5, val_main_cst_6]
  simp only [embedded_at, e]
  rfl

end Cert.Reference3Ideal.RefValue
end
-- ==== Proof.CombineClaim.lean ====
/- The claims about the last call and its reference. -/
module

public import proofs.«01_k».proof.Defs
public import proofs.«01_k».proof.Proof.Gen.Kernel3.Frame
public import proofs.«01_k».proof.Proof.CombineArray
public import proofs.«01_k».proof.Proof.CombineRef
public import Idealize.ShloMosaic.Lib.Claim
public import Idealize.ShloMosaic.Lib.Quiescent

@[expose] public section

set_option maxRecDepth 16384

noncomputable section

namespace Cert.Proof.CombineClaims

open Idealize.ShloMosaic Idealize.ShloMosaic.TcCoe Idealize.SL.Sem

/-- The kernel terminates, keeps its arguments and leaves every semaphore at zero. -/
theorem frame_kernel : Cert.quiescent_Kernel3 := fun m ρ _ => Cert.Kernel3.Gen.frame m ρ
/-- So does its idealization. -/
theorem frame_ideal : Cert.quiescent_Kernel3Ideal := fun m ρ _ => Cert.Kernel3Ideal.Gen.frame m ρ
/-- The reference terminates and keeps its arguments; it declares no semaphore. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The idealization rewrote nothing. -/
theorem preserves : Cert.preserves_Kernel3_Kernel3Ideal := trivial

/-- From arguments that agree, the reference's result array is the kernel's. -/
theorem algebraic : Cert.algebraic_Kernel3Ideal_Reference3Ideal := by
  intro m ρ m' ρ' _ hagree
  refine ⟨fun c => Cert.Kernel3Ideal.Array.A m c, ?_, ?_⟩
  · exact (θ_run Cert.Kernel3Ideal.defs _ _).mono (fun _ h c => ⟨(h c).1.trans (Cert.Kernel3Ideal.Array.final m c), (h c).2⟩)
      (Cert.Kernel3Ideal.Value.run_blocks (F := Ideal) m ρ)
  refine (θ_run Cert.Reference3Ideal.defs _ _).mono (fun _ h c => ⟨(h c).1.trans ?_, (h c).2⟩)
    (Cert.Reference3Ideal.Value.run (F := Ideal) m' ρ')
  rw [Cert.Reference3Ideal.Read.val_main_v63_eq]
  obtain ⟨h0, h1, h2, h3, h4, h5, h6, h7⟩ := hagree c
  rw [h0, h1, h2, h3, h4, h5, h6, h7]
  funext i
  exact (congrArg _ (eq_ix2 i)).trans (Cert.Reference3Ideal.RefValue.result_at _ _ _ _ _ _ _ _ (i 0) (i 1))

end Cert.Proof.CombineClaims
end
-- ==== Proof.InprojSpec.lean ====
/- What the first call computes for each token: its projected row; the queries and keys turned by the token's position; the
   values, over rows of ones; and the gated convolution of three tokens. -/
module

public import proofs.«01_k».proof.Proof.RowFunctions
public import Idealize.ShloMosaic.Lib.Pointwise

@[expose] public section

set_option maxRecDepth 16384

noncomputable section

namespace Cert.Inproj

open Idealize.ShloMosaic Cert.Rows

/-- A row `z` of eight heads of 64, the first 16 elements of each head turned by the angles `a`: element `i` and element `8 + i`
    are the two coordinates of the point that angle `i` turns. -/
def turned (z : Fin 512 → EReal) (a : Fin 8 → EReal) (j : Fin 512) : EReal :=
  if h : j.val % 64 < 8 then
    z j * Ideal.cos (a ⟨j % 64, h⟩) - z ⟨j + 8, by omega⟩ * Ideal.sin (a ⟨j % 64, h⟩)
  else if h' : j.val % 64 < 16 then
    z j * Ideal.cos (a ⟨j % 64 - 8, by omega⟩) + z ⟨j - 8, by omega⟩ * Ideal.sin (a ⟨j % 64 - 8, by omega⟩)
  else z j

/-- Three taps `w` on a token's value and its two predecessors', times the gate `b`. -/
def tapped (b x0 x1 x2 w0 w1 w2 : EReal) : EReal := b * (w2 * x0 + w1 * x1 + w0 * x2)

variable (x : FVec Ideal ⟨3, ![4, 4096, 1024]⟩ .f32) (p : IVec ⟨2, ![4, 4096]⟩ 32)
  (g : FVec Ideal ⟨2, ![2, 1024]⟩ .f32) (cw : FVec Ideal ⟨3, ![1, 512, 3]⟩ .f32)
  (w : FVec Ideal ⟨3, ![1, 1024, 3072]⟩ .f32)

/-- Token `n`'s projected row, `n` counted through the four sequences. -/
def projected (n : Fin 16384) : Fin 3072 → EReal :=
  rowMul (rms (fun d => x (ix3 ⟨n / 4096, by omega⟩ ⟨n % 4096, by omega⟩ d)) (fun d => g (ix2 0 d))) (fun k j => w (ix3 0 k j))

/-- The 512 columns of token `n`'s projected row from column `512 o` on. -/
def part (o : Fin 6) (n : Fin 16384) (j : Fin 512) : EReal := projected x g w n ⟨o * 512 + j, by omega⟩

/-- The rotary embedding's frequencies, `500000 ^ (-2 i / 16)`. -/
def freq (i : Fin 8) : EReal :=
  Ideal.pow (Ideal.ofBits .f32 0x48F42400#32) (Ideal.div (-(Ideal.ofBits .f32 0x40000000#32 * (((BitVec.ofNat 32 i.val).toInt : ℝ) : EReal)))
    (Ideal.ofBits .f32 0x41800000#32))

/-- Token `n`'s angles. -/
def angle (n : Fin 16384) (i : Fin 8) : EReal :=
  (((p (ix2 ⟨n / 4096, by omega⟩ ⟨n % 4096, by omega⟩)).toInt : ℝ) : EReal) * freq i

/-- What the convolution reads `k` tokens before token `n`: zero before the sequence begins. -/
def earlier (k : ℕ) (n : Fin 16384) (j : Fin 512) : EReal :=
  if n.val % 4096 < k then 0 else part x g w 4 ⟨n - k, by omega⟩ j * part x g w 5 ⟨n - k, by omega⟩ j

/-- Queries: element `j` of token `n`. -/
def query (n : Fin 16384) (j : Fin 512) : EReal := turned (part x g w 0 n) (angle p n) j
/-- Keys: element `j` of token `n`. -/
def key (n : Fin 16384) (j : Fin 512) : EReal := turned (part x g w 1 n) (angle p n) j
/-- Values by head and tile of 256 tokens, in columns, over rows of ones. -/
def value (h : Fin 4) (u : Fin 64) (e : Fin 144) (r : Fin 256) : EReal :=
  if h' : e.val < 128 then part x g w 2 ⟨u * 256 + r, by omega⟩ ⟨h * 128 + e, by omega⟩ else 1
/-- The gated convolution: element `j` of token `n`. -/
def conv (n : Fin 16384) (j : Fin 512) : EReal :=
  tapped (part x g w 3 n j) (earlier x g w 0 n j) (earlier x g w 1 n j) (earlier x g w 2 n j)
    (cw (ix3 0 j 0)) (cw (ix3 0 j 1)) (cw (ix3 0 j 2))

end Cert.Inproj

end
-- ==== Proof.InprojBlock.lean ====
/- The first call, one block of 512 tokens: what the body stores, at a row and a column. -/
module

public import proofs.«01_k».proof.Proof.Gen.Kernel4Ideal.Frame
public import proofs.«01_k».proof.Proof.InprojSpec

@[expose] public section

set_option maxRecDepth 16384

noncomputable section

namespace Cert.Kernel4Ideal.Block

open Cert.Kernel4Ideal Cert.Kernel4Ideal.Gen Idealize.ShloMosaic Idealize.ShloMosaic.TcCoe Idealize.SL.Sem
open Cert.Rows Cert.Inproj

theorem norm_at (x : FVec Ideal S512x1024 .f32) (g : FVec Ideal S1x1024 .f32) (r : Fin 512) (d : Fin 1024) :
    k0_pay3 (F := Ideal) x g (ix2 r d) = rms (fun d => x (ix2 r d)) (fun d => g (ix2 0 d)) d := by
  pointwise [k0_pay3, rms]

/-- A product of the normed rows with 512 columns. -/
theorem columns_at (n : FVec Ideal S512x1024 .bf16) (w : FVec Ideal S1024x512 .bf16) (r : Fin 512) (j : Fin 512) :
    k0_pay10 (F := Ideal) n w (ix2 r j) = rowMul (fun d => n (ix2 r d)) (fun k j => w (ix2 k j)) j := by
  pointwise [k0_pay10, rowMul]

/-- The product of two such products. -/
theorem product_at (n : FVec Ideal S512x1024 .bf16) (w w' : FVec Ideal S1024x512 .bf16) (r : Fin 512) (j : Fin 512) :
    k0_pay45 (F := Ideal) n w w' (ix2 r j) = k0_pay10 (F := Ideal) n w (ix2 r j) * k0_pay10 (F := Ideal) n w' (ix2 r j) := by
  pointwise [k0_pay45, k0_pay10]

/-- The angles, a row per frequency. -/
theorem angle_at (f : FVec Ideal S8x1 .f32) (p : IVec S1x1x512 32) (i : Fin 8) (r : Fin 512) :
    k0_pay4 (F := Ideal) f p (ix2 i r) = (((p (ix3 0 0 r)).toInt : ℝ) : EReal) * f (ix2 i 0) := by
  pointwise [k0_pay4]
  exact mul_comm ..

/-- The cosines' table: ones beside the turned elements. -/
theorem cos_at (f : FVec Ideal S8x1 .f32) (p : IVec S1x1x512 32) (r : Fin 512) (l : Fin 128) :
    k0_pay7 (F := Ideal) f p (ix2 r l)
      = if l.val % 64 < 16 then Ideal.cos (k0_pay4 (F := Ideal) f p (ix2 ⟨l % 8, by omega⟩ r)) else 1 := by
  pointwise [k0_pay7]
  split_ifs <;> first
    | omega
    | rfl
    | exact congrArg (fun i => Ideal.cos (k0_pay4 (F := Ideal) f p (ix2 i r))) (Fin.ext (by dsimp only; omega))
    | exact (if_neg (by omega)).symm
    | exact (congrArg (fun i => Ideal.cos (k0_pay4 (F := Ideal) f p (ix2 i r))) (Fin.ext (by dsimp only; omega))).trans (if_pos (by omega)).symm
/-- The sines' table for the elements turned down: zeros elsewhere. -/
theorem up_at (f : FVec Ideal S8x1 .f32) (p : IVec S1x1x512 32) (r : Fin 512) (l : Fin 128) :
    k0_pay8 (F := Ideal) f p (ix2 r l)
      = if l.val % 64 < 8 then 0 - Ideal.sin (k0_pay4 (F := Ideal) f p (ix2 ⟨l % 8, by omega⟩ r)) else 0 := by
  pointwise [k0_pay8, k0_pay5, k0_pay6]
  split_ifs <;> first
    | omega
    | rfl
    | exact congrArg (fun i => 0 - Ideal.sin (k0_pay4 (F := Ideal) f p (ix2 i r))) (Fin.ext (by dsimp only; omega))
    | exact (if_neg (by omega)).symm
    | exact (congrArg (fun i => 0 - Ideal.sin (k0_pay4 (F := Ideal) f p (ix2 i r))) (Fin.ext (by dsimp only; omega))).trans (if_pos (by omega)).symm
/-- The sines' table for the elements turned up: zeros elsewhere. -/
theorem dn_at (f : FVec Ideal S8x1 .f32) (p : IVec S1x1x512 32) (r : Fin 512) (l : Fin 128) :
    k0_pay9 (F := Ideal) f p (ix2 r l)
      = if 8 ≤ l.val % 64 ∧ l.val % 64 < 16 then Ideal.sin (k0_pay4 (F := Ideal) f p (ix2 ⟨l % 8, by omega⟩ r)) else 0 := by
  pointwise [k0_pay9, k0_pay5, k0_pay6]
  split_ifs <;> first
    | omega
    | rfl
    | exact congrArg (fun i => Ideal.sin (k0_pay4 (F := Ideal) f p (ix2 i r))) (Fin.ext (by dsimp only; omega))
    | exact (if_neg (by omega)).symm
    | exact (congrArg (fun i => Ideal.sin (k0_pay4 (F := Ideal) f p (ix2 i r))) (Fin.ext (by dsimp only; omega))).trans (if_pos (by omega)).symm

/-- Row `r` of `z` turned as the body does it, 128 columns at a time: each element times the cosines' table, and the elements 8
    after and 8 before it, around the 128, times the sines' tables. -/
def spun (z : FVec Ideal S512x512 .f32) (C U D : FVec Ideal S512x128 .f32) (r j : Fin 512) : EReal :=
  z (ix2 r j) * C (ix2 r ⟨j % 128, by omega⟩)
    + z (ix2 r ⟨j / 128 * 128 + (j % 128 + 8) % 128, by omega⟩) * U (ix2 r ⟨j % 128, by omega⟩)
    + z (ix2 r ⟨j / 128 * 128 + (j % 128 + 120) % 128, by omega⟩) * D (ix2 r ⟨j % 128, by omega⟩)

/-- With the tables of the angles it is the turned row. -/
theorem spun_eq (z : FVec Ideal S512x512 .f32) (f : FVec Ideal S8x1 .f32) (p : IVec S1x1x512 32) (r j : Fin 512) :
    spun z (k0_pay7 (F := Ideal) f p) (k0_pay8 (F := Ideal) f p) (k0_pay9 (F := Ideal) f p) r j
      = turned (fun j => z (ix2 r j)) (fun i => k0_pay4 (F := Ideal) f p (ix2 i r)) j := by
  have hj := j.isLt
  rw [spun, turned, cos_at, up_at, dn_at]
  by_cases h : j.val % 64 < 8
  · rw [if_pos (by dsimp only; omega), if_pos (by dsimp only; omega), if_neg (by dsimp only; omega), dif_pos h, mul_zero, add_zero,
      zero_sub, mul_neg, ← sub_eq_add_neg]
    have e : (⟨j.val % 128 % 8, by omega⟩ : Fin 8) = ⟨j.val % 64, h⟩ := Fin.ext (by dsimp only; omega)
    have e' : (⟨j.val / 128 * 128 + (j.val % 128 + 8) % 128, by omega⟩ : Fin 512) = ⟨j.val + 8, by omega⟩ := Fin.ext (by dsimp only; omega)
    rw [e, e']
  by_cases h' : j.val % 64 < 16
  · rw [if_pos (by dsimp only; omega), if_neg (by dsimp only; omega), if_pos (by dsimp only; omega), dif_neg h, dif_pos h', mul_zero, add_zero]
    have e : (⟨j.val % 128 % 8, by omega⟩ : Fin 8) = ⟨j.val % 64 - 8, by omega⟩ := Fin.ext (by dsimp only; omega)
    have e' : (⟨j.val / 128 * 128 + (j.val % 128 + 120) % 128, by omega⟩ : Fin 512) = ⟨j.val - 8, by omega⟩ := Fin.ext (by dsimp only; omega)
    rw [e, e']
  · rw [if_neg (by dsimp only; omega), if_neg (by dsimp only; omega), if_neg (by dsimp only; omega), dif_neg h, dif_neg h', mul_zero, mul_zero,
      mul_one, add_zero, add_zero]

/-- What one piece of the queries or of the keys stores, `j` the row's column that its column `l` is. -/
theorem spun_at (z : FVec Ideal S512x512 .f32) (C U D : FVec Ideal S512x128 .f32) (r j : Fin 512) (l : Fin 128) (a b c : Fin 512)
    (hl : j.val % 128 = l.val) (ha : a.val = j.val) (hb : b.val = j.val / 128 * 128 + (l.val + 128 - 120) % 128)
    (hc : c.val = j.val / 128 * 128 + (l.val + 128 - 8) % 128) :
    z (ix2 r a) * C (ix2 r l) + z (ix2 r b) * U (ix2 r l) + z (ix2 r c) * D (ix2 r l) = spun z C U D r j := by
  have e : (⟨j.val % 128, by omega⟩ : Fin 128) = l := Fin.ext hl
  have hb' : (⟨j.val / 128 * 128 + (j.val % 128 + 8) % 128, by omega⟩ : Fin 512) = b := Fin.ext (by dsimp only; omega)
  have hc' : (⟨j.val / 128 * 128 + (j.val % 128 + 120) % 128, by omega⟩ : Fin 512) = c := Fin.ext (by dsimp only; omega)
  rw [spun, e, hb', hc', Fin.ext ha]

/-- The convolution's element, from the gate and the three shifts of the gated row. -/
theorem tapped_at (b x0 x1 x2 : FVec Ideal S512x512 .f32) (w2 w1 w0 : FVec Ideal S1x512 .f32) (r j : Fin 512) :
    k0_pay2 (F := Ideal) b x0 x1 x2 w2 w1 w0 (ix2 r j)
      = tapped (b (ix2 r j)) (x0 (ix2 r j)) (x1 (ix2 r j)) (x2 (ix2 r j)) (w0 (ix2 0 j)) (w1 (ix2 0 j)) (w2 (ix2 0 j)) := by
  pointwise [k0_pay2, tapped]

end Cert.Kernel4Ideal.Block
end
-- ==== Proof.InprojArray.lean ====
/- The first call's result arrays: at every index the value the blocks store there. -/
module

public import proofs.«01_k».proof.Proof.Gen.Kernel4Ideal.Value
public import proofs.«01_k».proof.Proof.InprojBlock
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel4Ideal.Array

open Cert.Kernel4Ideal Cert.Kernel4Ideal.Gen Idealize.ShloMosaic Idealize.ShloMosaic.TcCoe Idealize.SL.Sem
open Cert.Rows Cert.Inproj

variable (m : (ℓ : Loc nD τ sig) → Buf (Elt Ideal) ℓ)

/-- The block indices of every window at grid point `t`: the tokens' tile, and the whole of every weight. -/
theorem idx : ∀ t : Fin cfg0.N, win0_0.index t = ![t.val, 0] ∧ win0_1.index t = ![t.val, 0, 0] ∧ win0_2.index t = ![0, 0]
    ∧ win0_3.index t = ![0, 0] ∧ win0_4.index t = ![0, 0] ∧ win0_5.index t = ![0, 0] ∧ win0_6.index t = ![0, t.val]
    ∧ win0_7.index t = ![t.val, 0] ∧ win0_8.index t = ![0, t.val, 0, 0] ∧ win0_9.index t = ![t.val, 0] :=
  (by decide +kernel : ∀ t : Fin grid0.N, _)

/-- The arguments on device `c`. -/
abbrev X (c : Dev nD) : FVec Ideal S4x4096x1024 .f32 := m ((c : Thread nD τ).loc main_arg0)
abbrev P (c : Dev nD) : IVec S4x4096 32 := m ((c : Thread nD τ).loc main_arg1)
abbrev Gn (c : Dev nD) : FVec Ideal S2x1024 .f32 := m ((c : Thread nD τ).loc main_arg2)
abbrev Cw (c : Dev nD) : FVec Ideal S1x512x3 .f32 := m ((c : Thread nD τ).loc main_arg3)
abbrev W (c : Dev nD) : FVec Ideal S1x1024x3072 .f32 := m ((c : Thread nD τ).loc main_arg4)

/-- The result arrays. -/
def A6 (c : Dev nD) : S512x16384.Idx → EReal := fun i => query (X m c) (P m c) (Gn m c) (W m c) (i 1) (i 0)
def A7 (c : Dev nD) : S16384x512.Idx → EReal := fun i => key (X m c) (P m c) (Gn m c) (W m c) (i 0) (i 1)
def A8 (c : Dev nD) : S4x64x144x256.Idx → EReal := fun i => value (X m c) (Gn m c) (W m c) (i 0) (i 1) (i 2) (i 3)
def A9 (c : Dev nD) : S16384x512.Idx → EReal := fun i => conv (X m c) (Gn m c) (Cw m c) (W m c) (i 0) (i 1)

/-- The token at row `r` of tile `t`. -/
abbrev tok (t : Fin cfg0.N) (r : Fin 512) : Fin 16384 := ⟨t * 512 + r, by have : t.val < 32 := t.isLt; omega⟩

theorem blk0 (c : Dev nD) (t : Fin cfg0.N) (r : Fin 512) (d : Fin 1024) : (show FVec Ideal S512x1024 .f32 from iblk m c 0 t) (ix2 r d)
    = X m c (ix3 ⟨tok t r / 4096, by omega⟩ ⟨tok t r % 4096, by omega⟩ d) := by
  blk_point [iblk, V, idx t]
theorem blk1 (c : Dev nD) (t : Fin cfg0.N) (r : Fin 512) : (show IVec S1x1x512 32 from iblk m c 1 t) (ix3 0 0 r)
    = P m c (ix2 ⟨tok t r / 4096, by omega⟩ ⟨tok t r % 4096, by omega⟩) := by
  blk_point [iblk, V, idx t]
theorem blk2 (c : Dev nD) (t : Fin cfg0.N) (d : Fin 1024) : (show FVec Ideal S1x1024 .f32 from iblk m c 2 t) (ix2 0 d) = Gn m c (ix2 0 d) := by
  blk_point [iblk, V, idx t]
theorem emb3 (t : Fin cfg0.N) (i : Fin 8) : ((cfg0.win 3).blk t).view.emb (ix2 i 0 : S8x1.Idx) = (ix2 i 0 : S8x1.Idx) := by
  blk_ext [idx t]
theorem blk3 (c : Dev nD) (t : Fin cfg0.N) (i : Fin 8) : (show FVec Ideal S8x1 .f32 from iblk m c 3 t) (ix2 i 0) = freq i := by
  blk_simp [iblk]
  rw [emb3]
  entry_read
  pointwise
  rfl
theorem blk4 (c : Dev nD) (t : Fin cfg0.N) (k : Fin 3) (j : Fin 512) : (show FVec Ideal S3x512 .f32 from iblk m c 4 t) (ix2 k j)
    = Cw m c (ix3 0 j k) := by
  blk_point [iblk, V, idx t]
theorem blk5 (c : Dev nD) (t : Fin cfg0.N) (k : Fin 1024) (j : Fin 3072) : (show FVec Ideal S1024x3072 .bf16 from iblk m c 5 t) (ix2 k j)
    = W m c (ix3 0 k j) := by
  blk_point [iblk, V, idx t]

/-- The normed rows of tile `t`. -/
abbrev rows (c : Dev nD) (t : Fin cfg0.N) : FVec Ideal S512x1024 .bf16 := k0_pay3 (F := Ideal) (iblk m c 0 t) (iblk m c 2 t)

theorem rows_at (c : Dev nD) (t : Fin cfg0.N) (r : Fin 512) (d : Fin 1024) : rows m c t (ix2 r d)
    = rms (fun d => X m c (ix3 ⟨tok t r / 4096, by omega⟩ ⟨tok t r % 4096, by omega⟩ d)) (fun d => Gn m c (ix2 0 d)) d := by
  refine (Block.norm_at _ _ r d).trans ?_
  exact congrArg₂ (fun a b => rms a b d) (funext fun d => blk0 m c t r d) (funext fun d => blk2 m c t d)

/-- The normed rows times the weight's columns from `512 o` on: the body's six products. -/
theorem part_at (c : Dev nD) (t : Fin cfg0.N) (o : Fin 6) (w : FVec Ideal S1024x512 .bf16)
    (hw : ∀ k j, w (ix2 k j) = (show FVec Ideal S1024x3072 .bf16 from iblk m c 5 t) (ix2 k ⟨o * 512 + j, by omega⟩)) (r j : Fin 512) :
    k0_pay10 (F := Ideal) (rows m c t) w (ix2 r j) = part (X m c) (Gn m c) (W m c) o (tok t r) j := by
  rw [Block.columns_at]
  unfold part projected rowMul
  refine Finset.sum_congr rfl fun k _ => ?_
  exact congrArg₂ (· * ·) (rows_at m c t r k) ((hw k j).trans (blk5 m c t k _))

theorem angle_at (c : Dev nD) (t : Fin cfg0.N) (r : Fin 512) (i : Fin 8) :
    k0_pay4 (F := Ideal) (iblk m c 3 t) (iblk m c 1 t) (ix2 i r) = angle (P m c) (tok t r) i := by
  rw [Block.angle_at]
  exact congrArg₂ (fun (a : BitVec 32) (b : EReal) => ((a.toInt : ℝ) : EReal) * b) (blk1 m c t r) (blk3 m c t i)

theorem emb6 (t : Fin cfg0.N) (j r : Fin 512) : ((cfg0.win 6).blk t).view.emb (ix2 j r : S512x512.Idx) = (ix2 j (tok t r) : S512x16384.Idx) := by
  blk_ext [idx t]
theorem emb7 (t : Fin cfg0.N) (r j : Fin 512) : ((cfg0.win 7).blk t).view.emb (ix2 r j : S512x512.Idx) = (ix2 (tok t r) j : S16384x512.Idx) := by
  blk_ext [idx t]
theorem emb8 (t : Fin cfg0.N) (h : Fin 4) (u : Fin 2) (e : Fin 144) (r : Fin 256) : ((cfg0.win 8).blk t).view.emb (ix4 h u e r : S4x2x144x256.Idx)
    = (ix4 h ⟨t * 2 + u, by have : t.val < 32 := t.isLt; omega⟩ e r : S4x64x144x256.Idx) := by
  blk_ext [idx t]
theorem emb9 (t : Fin cfg0.N) (r j : Fin 512) : ((cfg0.win 9).blk t).view.emb (ix2 r j : S512x512.Idx) = (ix2 (tok t r) j : S16384x512.Idx) := by
  blk_ext [idx t]

/-- The convolution's buffer after the tile's rows `C` are stored below the eight rows `H`. -/
theorem staged (C : FVec Ideal S512x512 .f32) (H : FVec Ideal S8x512 .f32) (n : Fin 520) (j : Fin 512) :
    View.canon (Val := Elt Ideal) (s := S520x512) (e := .f32) [⟨Rect.unit ![8, 0] ![512, 512] inb_S520x512_S512x512_8_0, k0_pay1 (F := Ideal) C⟩,
      ⟨Rect.unit ![0, 0] ![8, 512] inb_S520x512_S8x512_0_0, H⟩] (ix2 n j)
    = if h : n.val < 8 then H (ix2 ⟨n, h⟩ j) else C (ix2 ⟨n - 8, by omega⟩ j) := by
  split
  case isTrue h =>
    rw [View.canon_cons_of_not_mem _ _ ?_]
    · have e : (ix2 n j : S520x512.Idx) = (Rect.unit ![0, 0] ![8, 512] inb_S520x512_S8x512_0_0).emb (ix2 ⟨n, h⟩ j : S8x512.Idx) := by blk_ext
      rw [e, View.canon_cons_emb]
    · exact fun hm => absurd ((Rect.mem_set_unit (inb := inb_S520x512_S512x512_8_0).1 hm) 0).1 (not_le.2 h)
  case isFalse h =>
    have e : (ix2 n j : S520x512.Idx) = (Rect.unit ![8, 0] ![512, 512] inb_S520x512_S512x512_8_0).emb (ix2 ⟨n - 8, by omega⟩ j : S512x512.Idx) := by blk_ext
    rw [e, View.canon_cons_emb]
    pointwise [k0_pay1]

/-- The gated rows of tile `t`. -/
abbrev gated (c : Dev nD) (t : Fin cfg0.N) : FVec Ideal S512x512 .f32 := k0_pay45 (F := Ideal) (rows m c t)
  (View.ld (iblk m c 5 t) (Rect.unit ![0, 2048] ![1024, 512] inb_S1024x3072_S1024x512_0_2048))
  (View.ld (iblk m c 5 t) (Rect.unit ![0, 2560] ![1024, 512] inb_S1024x3072_S1024x512_0_2560))

/-- The 512 columns from column `n` on of a weight's block. -/
theorem ld_at (B : FVec Ideal S1024x3072 .bf16) (n : ℕ) (inb : ∀ a, (![0, n] : Fin 2 → ℕ) a + (![1024, 512] : Fin 2 → ℕ) a ≤ S1024x3072.size a)
    (hn : n + 512 ≤ 3072) (k : Fin 1024) (j : Fin 512) :
    View.ld (Val := Elt Ideal) (S := S1024x3072) (e' := .bf16) B (Rect.unit (s := S1024x3072) ![0, n] ![1024, 512] inb) (ix2 k j) = B (ix2 k ⟨n + j, by omega⟩) := by
  have e : (Rect.unit (s := S1024x3072) ![0, n] ![1024, 512] inb).emb (ix2 k j) = (ix2 k ⟨n + j, by omega⟩ : S1024x3072.Idx) := by blk_ext
  exact congrArg B e

theorem gated_at (c : Dev nD) (t : Fin cfg0.N) (r j : Fin 512) :
    gated m c t (ix2 r j) = part (X m c) (Gn m c) (W m c) 4 (tok t r) j * part (X m c) (Gn m c) (W m c) 5 (tok t r) j :=
  (Block.product_at _ _ _ r j).trans (congrArg₂ (· * ·) (part_at m c t 4 _ (fun k j => ld_at _ 2048 _ (by omega) k j) r j)
    (part_at m c t 5 _ (fun k j => ld_at _ 2560 _ (by omega) k j) r j))

/-- The buffer after point `t` holds the tile's gated rows from row 8 on. -/
theorem scratch_at (c : Dev nD) (t : Fin cfg0.N) (n : Fin 520) (hn : 8 ≤ n.val) (j : Fin 512) :
    (outsAt0 m c t.val t.isLt).2.2.2.2 (ix2 n j) = gated m c t (ix2 ⟨n - 8, by omega⟩ j) := by
  by_cases h : t.val % 8 = 0
  · rw [outsAt0_A m c t h (not_not.2 h)]; frame_out
    rw [staged, dif_neg (by omega)]; rfl
  · rw [outsAt0_B m c t h h]; frame_out
    rw [staged, dif_neg (by omega)]; rfl

/-- The buffer's contents once the tile's gated rows are stored below the eight rows `H`. -/
abbrev buffer (c : Dev nD) (t : Fin cfg0.N) (H : FVec Ideal S8x512 .f32) : S520x512.Idx → Elt Ideal .f32 :=
  View.canon [⟨Rect.unit ![8, 0] ![512, 512] inb_S520x512_S512x512_8_0, k0_pay1 (F := Ideal) (gated m c t)⟩,
    ⟨Rect.unit ![0, 0] ![8, 512] inb_S520x512_S8x512_0_0, H⟩]

/-- The eight rows `H` above the tile are the rows that come before it, or zero where a sequence begins. -/
abbrev Above (c : Dev nD) (t : Fin cfg0.N) (H : FVec Ideal S8x512 .f32) : Prop :=
  ∀ (n : Fin 8) (j : Fin 512), 6 ≤ n.val → H (ix2 n j) = if t.val % 8 = 0 then 0 else
    part (X m c) (Gn m c) (W m c) 4 ⟨t * 512 + n - 8, by have : t.val < 32 := t.isLt; omega⟩ j
      * part (X m c) (Gn m c) (W m c) 5 ⟨t * 512 + n - 8, by have : t.val < 32 := t.isLt; omega⟩ j

/-- Row `8 - k + r` of the buffer is what the convolution reads `k` tokens before row `r`. -/
theorem earlier_at (c : Dev nD) (t : Fin cfg0.N) (H : FVec Ideal S8x512 .f32) (hH : Above m c t H) (k : ℕ) (hk : k ≤ 2)
    (r j : Fin 512) (n : Fin 520) (hn : n.val = 8 - k + r) :
    buffer m c t H (ix2 n j) = earlier (X m c) (Gn m c) (W m c) k (tok t r) j := by
  have ht : t.val < 32 := t.isLt
  rw [buffer, staged]
  unfold earlier
  by_cases h : n.val < 8
  · rw [dif_pos h, hH _ _ (by dsimp only; omega)]
    refine if_congr (by dsimp only; omega) rfl ?_
    have e : (⟨t.val * 512 + n.val - 8, by omega⟩ : Fin 16384) = ⟨(tok t r).val - k, by omega⟩ := Fin.ext (by dsimp only; omega)
    rw [e]
  · rw [dif_neg h, gated_at, if_neg (by dsimp only; omega)]
    have e : tok t ⟨n.val - 8, by omega⟩ = ⟨(tok t r).val - k, by omega⟩ := Fin.ext (by dsimp only; omega)
    rw [e]

/-- The body's convolution at row `r`: `x1` and `x2` are the buffer's rows one and two rows up. -/
theorem conv_at (c : Dev nD) (t : Fin cfg0.N) (H : FVec Ideal S8x512 .f32) (hH : Above m c t H) (x1 x2 : FVec Ideal S512x512 .f32) (r j : Fin 512)
    (h1 : x1 (ix2 r j) = buffer m c t H ((Rect.unit (s := S520x512) ![7, 0] ![512, 512] inb_S520x512_S512x512_7_0).emb (ix2 r j : S512x512.Idx)))
    (h2 : x2 (ix2 r j) = buffer m c t H ((Rect.unit (s := S520x512) ![6, 0] ![512, 512] inb_S520x512_S512x512_6_0).emb (ix2 r j : S512x512.Idx))) :
    k0_pay2 (F := Ideal) (k0_pay10 (rows m c t) (View.ld (iblk m c 5 t) (Rect.unit ![0, 1536] ![1024, 512] inb_S1024x3072_S1024x512_0_1536)))
      (gated m c t) x1 x2
      (View.ld (iblk m c 4 t) (Rect.unit ![2, 0] ![1, 512] inb_S3x512_S1x512_2_0))
      (View.ld (iblk m c 4 t) (Rect.unit ![1, 0] ![1, 512] inb_S3x512_S1x512_1_0))
      (View.ld (iblk m c 4 t) (Rect.unit ![0, 0] ![1, 512] inb_S3x512_S1x512_0_0)) (ix2 r j)
      = conv (X m c) (Gn m c) (Cw m c) (W m c) (tok t r) j := by
  have e7 : (Rect.unit (s := S520x512) ![7, 0] ![512, 512] inb_S520x512_S512x512_7_0).emb (ix2 r j : S512x512.Idx) = (ix2 ⟨7 + r, by omega⟩ j : S520x512.Idx) := by
    blk_ext
  have e6 : (Rect.unit (s := S520x512) ![6, 0] ![512, 512] inb_S520x512_S512x512_6_0).emb (ix2 r j : S512x512.Idx) = (ix2 ⟨6 + r, by omega⟩ j : S520x512.Idx) := by
    blk_ext
  have l4 (k : Fin 3) (inb : ∀ a, (![k.val, 0] : Fin 2 → ℕ) a + (![1, 512] : Fin 2 → ℕ) a ≤ S3x512.size a) :
      View.ld (Val := Elt Ideal) (S := S3x512) (e' := .f32) (iblk m c 4 t) (Rect.unit (s := S3x512) ![k.val, 0] ![1, 512] inb) (ix2 0 j) = Cw m c (ix3 0 j k) := by
    have e : (Rect.unit (s := S3x512) ![k.val, 0] ![1, 512] inb).emb (ix2 0 j) = (ix2 k j : S3x512.Idx) := by blk_ext
    exact (congrArg (iblk m c 4 t) e).trans (blk4 m c t k j)
  have h0 : gated m c t (ix2 r j) = earlier (X m c) (Gn m c) (W m c) 0 (tok t r) j := by
    rw [gated_at, earlier, if_neg (Nat.not_lt_zero _)]; rfl
  rw [e7, earlier_at m c t H hH 1 (by omega) r j _ rfl] at h1
  rw [e6, earlier_at m c t H hH 2 (by omega) r j _ rfl] at h2
  rw [Block.tapped_at, h0, h1, h2, part_at m c t 3 _ (fun k j => ld_at _ 1536 _ (by omega) k j) r j]
  exact congr (congr (congrArg (fun a b c => tapped _ _ _ _ a b c) (l4 0 _)) (l4 1 _)) (l4 2 _)

/-- What point `t` leaves of the convolution. -/
theorem point9 (c : Dev nD) (t : Fin cfg0.N) (y : S512x512.Idx) : (outsAt0 m c t.val t.isLt).2.2.2.1 y
    = A9 m c (((cfg0.win 9).blk t).view.emb y) := by
  obtain ⟨r, j, rfl⟩ : ∃ (r j : Fin 512), y = (ix2 r j : S512x512.Idx) := ⟨y 0, y 1, eq_ix2 y⟩
  rw [emb9]
  have ht : t.val < 32 := t.isLt
  by_cases h : t.val % 8 = 0
  · rw [outsAt0_A m c t h (not_not.2 h)]; frame_out
    rw [View.readCov_eq_canon', View.readCov_eq_canon']
    refine conv_at m c t (k0_pay43 (F := Ideal)) (fun n j _ => ?_) _ _ r j rfl rfl
    rw [if_pos h]
    pointwise [k0_pay43]
  · have hb (n : Fin 8) (j : Fin 512) (hn : 6 ≤ n.val) : (outsAt0 m c (t.val - 1) (by omega)).2.2.2.2 (ix2 ⟨512 + n, by omega⟩ j)
        = part (X m c) (Gn m c) (W m c) 4 ⟨t * 512 + n - 8, by omega⟩ j * part (X m c) (Gn m c) (W m c) 5 ⟨t * 512 + n - 8, by omega⟩ j := by
      have e' : tok ⟨t.val - 1, by omega⟩ ⟨512 + n.val - 8, by omega⟩ = ⟨t.val * 512 + n.val - 8, by omega⟩ := Fin.ext (by dsimp only; omega)
      rw [← e', ← gated_at]
      exact scratch_at m c ⟨t.val - 1, by omega⟩ ⟨512 + n, by omega⟩ (by dsimp only; omega) j
    rw [outsAt0_B m c t h h]; frame_out
    rw [read_unread_whole]
    generalize hB : (outsAt0 m c (t.val - 1) _).2.2.2.2 = B
    rw [View.readCov_eq_canon', View.readCov_eq_canon']
    refine conv_at m c t _ (fun n j hn => ?_) _ _ r j rfl rfl
    rw [if_neg h]
    pointwise [k0_pay44]
    exact (congrFun hB _).symm.trans (hb n j hn)

/-- The angles' tables turn a row of the products from column `512 o` on. -/
theorem turned_at (c : Dev nD) (t : Fin cfg0.N) (o : Fin 6) (w : FVec Ideal S1024x512 .bf16)
    (hw : ∀ k j, w (ix2 k j) = (show FVec Ideal S1024x3072 .bf16 from iblk m c 5 t) (ix2 k ⟨o * 512 + j, by omega⟩)) (r j : Fin 512) :
    Block.spun (k0_pay10 (F := Ideal) (rows m c t) w) (k0_pay7 (F := Ideal) (iblk m c 3 t) (iblk m c 1 t))
      (k0_pay8 (F := Ideal) (iblk m c 3 t) (iblk m c 1 t)) (k0_pay9 (F := Ideal) (iblk m c 3 t) (iblk m c 1 t)) r j
      = turned (part (X m c) (Gn m c) (W m c) o (tok t r)) (angle (P m c) (tok t r)) j := by
  rw [Block.spun_eq]
  exact congrArg₂ (fun a b => turned a b j) (funext fun j => part_at m c t o w hw r j) (funext fun i => angle_at m c t r i)

/-- What point `t` leaves of the queries. -/
theorem point6 (c : Dev nD) (t : Fin cfg0.N) (y : S512x512.Idx) : (outsAt0 m c t.val t.isLt).1 y
    = A6 m c (((cfg0.win 6).blk t).view.emb y) := by
  obtain ⟨j, r, rfl⟩ : ∃ (j r : Fin 512), y = (ix2 j r : S512x512.Idx) := ⟨y 0, y 1, eq_ix2 y⟩
  rw [emb6]
  refine Eq.trans ?_ (turned_at m c t 0 _ (fun k j => ld_at _ 0 inb_S1024x3072_S1024x512_0_0 (by omega) k j) r j)
  by_cases h : t.val % 8 = 0
  · rw [outsAt0_A m c t h (not_not.2 h)]; frame_out
    canon_tiles x h
    all_goals
      pointwise [k0_pay14, k0_pay20, k0_pay27, k0_pay36]
      change j.val = _ at h0
      obtain rfl : x 1 = r := Fin.ext h1.symm
      apply Block.spun_at <;> (try dsimp only) <;> omega
  · rw [outsAt0_B m c t h h]; frame_out
    canon_tiles x h
    all_goals
      pointwise [k0_pay14, k0_pay20, k0_pay27, k0_pay36]
      change j.val = _ at h0
      obtain rfl : x 1 = r := Fin.ext h1.symm
      apply Block.spun_at <;> (try dsimp only) <;> omega

/-- What the four pieces of the keys store, by the row's column `j` that a piece's column is. -/
theorem keys_at (z : FVec Ideal S512x512 .f32) (C U D : FVec Ideal S512x128 .f32) (x : S512x128.Idx) (r j : Fin 512) (h0 : r.val = (x 0).val) :
    (∀ (v : FVec Ideal S512x1024 .bf16) (w : Vec Ideal S1024x512 .bf16), z = k0_pay11 (F := Ideal) v w → j.val = (x 1).val
      → k0_pay15 (F := Ideal) v C U D w x = Block.spun z C U D r j)
    ∧ (j.val = 128 + (x 1).val → k0_pay21 (F := Ideal) C U D z x = Block.spun z C U D r j)
    ∧ (j.val = 256 + (x 1).val → k0_pay31 (F := Ideal) (k0_pay29 (F := Ideal) C U z) (k0_pay30 (F := Ideal) D z) x = Block.spun z C U D r j)
    ∧ (j.val = 384 + (x 1).val → k0_pay37 (F := Ideal) C U D z x = Block.spun z C U D r j) := by
  obtain ⟨a, l, rfl⟩ : ∃ (a : Fin 512) (l : Fin 128), x = (ix2 a l : S512x128.Idx) := ⟨x 0, x 1, eq_ix2 x⟩
  obtain rfl : r = a := Fin.ext h0
  refine ⟨fun v w hz (h1 : j.val = l.val) => ?_, fun (h1 : j.val = 128 + l.val) => ?_, fun (h1 : j.val = 256 + l.val) => ?_,
    fun (h1 : j.val = 384 + l.val) => ?_⟩
  · pointwise [k0_pay15]
    rw [← hz]
    apply Block.spun_at <;> (try dsimp only) <;> omega
  all_goals
    pointwise [k0_pay21, k0_pay28, k0_pay29, k0_pay30, k0_pay31, k0_pay37]
    apply Block.spun_at <;> (try dsimp only) <;> omega

/-- What point `t` leaves of the keys. -/
theorem point7 (c : Dev nD) (t : Fin cfg0.N) (y : S512x512.Idx) : (outsAt0 m c t.val t.isLt).2.1 y
    = A7 m c (((cfg0.win 7).blk t).view.emb y) := by
  obtain ⟨r, j, rfl⟩ : ∃ (r j : Fin 512), y = (ix2 r j : S512x512.Idx) := ⟨y 0, y 1, eq_ix2 y⟩
  rw [emb7]
  refine Eq.trans (b := Block.spun (k0_pay11 (F := Ideal) (rows m c t) (View.ld (iblk m c 5 t) (Rect.unit ![0, 512] ![1024, 512] inb_S1024x3072_S1024x512_0_512))) _ _ _ r j)
    ?_ (turned_at m c t 1 _ (fun k j => ld_at _ 512 inb_S1024x3072_S1024x512_0_512 (by omega) k j) r j)
  by_cases h : t.val % 8 = 0
  · rw [outsAt0_A m c t h (not_not.2 h)]; frame_out
    canon_tiles x h
    case piece0 => exact (keys_at _ _ _ _ x r j h0).2.2.2 h1
    case piece1 => exact (keys_at _ _ _ _ x r j h0).2.2.1 h1
    case piece2 => exact (keys_at _ _ _ _ x r j h0).2.1 h1
    case piece3 => exact (keys_at _ _ _ _ x r j h0).1 _ _ rfl h1
  · rw [outsAt0_B m c t h h]; frame_out
    canon_tiles x h
    case piece0 => exact (keys_at _ _ _ _ x r j h0).2.2.2 h1
    case piece1 => exact (keys_at _ _ _ _ x r j h0).2.2.1 h1
    case piece2 => exact (keys_at _ _ _ _ x r j h0).2.1 h1
    case piece3 => exact (keys_at _ _ _ _ x r j h0).1 _ _ rfl h1

/-- The products that hold the values. -/
theorem third_at (c : Dev nD) (t : Fin cfg0.N) (r j : Fin 512) (n : Fin 16384) (j' : Fin 512) (hn : tok t r = n) (hj : j = j') :
    k0_pay12 (F := Ideal) (rows m c t) (View.ld (iblk m c 5 t) (Rect.unit ![0, 1024] ![1024, 512] inb_S1024x3072_S1024x512_0_1024)) (ix2 r j)
      = part (X m c) (Gn m c) (W m c) 2 n j' := by
  subst hn hj
  exact part_at m c t 2 _ (fun k j => ld_at _ 1024 _ (by omega) k j) r j

/-- What point `t` leaves of the values. -/
theorem point8 (c : Dev nD) (t : Fin cfg0.N) (y : S4x2x144x256.Idx) : (outsAt0 m c t.val t.isLt).2.2.1 y
    = A8 m c (((cfg0.win 8).blk t).view.emb y) := by
  obtain ⟨h, u, e, r, rfl⟩ : ∃ (h : Fin 4) (u : Fin 2) (e : Fin 144) (r : Fin 256), y = (ix4 h u e r : S4x2x144x256.Idx) := ⟨y 0, y 1, y 2, y 3, eq_ix4 y⟩
  rw [emb8]
  change _ = value (X m c) (Gn m c) (W m c) h _ e r
  unfold value
  have tl : t.val < 32 := t.isLt
  by_cases ht : t.val % 8 = 0
  · rw [outsAt0_A m c t ht (not_not.2 ht)]; frame_out
    canon_tiles x hx using View.cover_of_tiledBy _ ![1, 1, 16, 256] (by sl_kernel_rfl) _
    all_goals
      change h.val = _ at hx0
      change u.val = _ at hx1
      change e.val = _ at hx2
      change r.val = _ at hx3
    all_goals first
      | (rw [dif_neg (by omega)]
         pointwise [k0_pay13, k0_pay17, k0_pay19, k0_pay24, k0_pay26, k0_pay33, k0_pay35, k0_pay39, k0_pay41])
      | (rw [dif_pos (by omega)]
         pointwise [k0_pay16, k0_pay18, k0_pay22, k0_pay23, k0_pay25, k0_pay32, k0_pay34, k0_pay38, k0_pay40]
         refine third_at m c t _ _ _ _ (Fin.ext ?_) (Fin.ext ?_) <;> dsimp only <;> omega)
  · rw [outsAt0_B m c t ht ht]; frame_out
    canon_tiles x hx using View.cover_of_tiledBy _ ![1, 1, 16, 256] (by sl_kernel_rfl) _
    all_goals
      change h.val = _ at hx0
      change u.val = _ at hx1
      change e.val = _ at hx2
      change r.val = _ at hx3
    all_goals first
      | (rw [dif_neg (by omega)]
         pointwise [k0_pay13, k0_pay17, k0_pay19, k0_pay24, k0_pay26, k0_pay33, k0_pay35, k0_pay39, k0_pay41])
      | (rw [dif_pos (by omega)]
         pointwise [k0_pay16, k0_pay18, k0_pay22, k0_pay23, k0_pay25, k0_pay32, k0_pay34, k0_pay38, k0_pay40]
         refine third_at m c t _ _ _ _ (Fin.ext ?_) (Fin.ext ?_) <;> dsimp only <;> omega)

/-- The result arrays after all points. -/
theorem final6 (c : Dev nD) : (dats m 0 c).arrAt 6 cfg0.N = A6 m c := by
  refine (dats m 0 c).arrAt_eq_of_covers 6 _ (by decide +kernel) fun t _ y => ?_
  blk_simp
  rw [after0_6]
  exact point6 m c t y
theorem final7 (c : Dev nD) : (dats m 0 c).arrAt 7 cfg0.N = A7 m c := by
  refine (dats m 0 c).arrAt_eq_of_covers 7 _ (by decide +kernel) fun t _ y => ?_
  blk_simp
  rw [after0_7]
  exact point7 m c t y
theorem final8 (c : Dev nD) : (dats m 0 c).arrAt 8 cfg0.N = A8 m c := by
  refine (dats m 0 c).arrAt_eq_of_covers 8 _ (by decide +kernel) fun t _ y => ?_
  blk_simp
  rw [after0_8]
  exact point8 m c t y
theorem final9 (c : Dev nD) : (dats m 0 c).arrAt 9 cfg0.N = A9 m c := by
  refine (dats m 0 c).arrAt_eq_of_covers 9 _ (by decide +kernel) fun t _ y => ?_
  blk_simp
  rw [after0_9]
  exact point9 m c t y
end Cert.Kernel4Ideal.Array
end
-- ==== Proof.InprojRef.lean ====
/- The first call's reference, read at a token and an element. -/
module

public import proofs.«01_k».proof.Proof.Gen.Reference4Ideal.Read
public import proofs.«01_k».proof.Proof.InprojSpec

@[expose] public section

set_option maxRecDepth 16384

noncomputable section

namespace Cert.Reference4Ideal.RefValue

open Cert.Reference4Ideal Cert.Reference4Ideal.Gen Idealize.ShloMosaic Idealize.ShloMosaic.TcCoe Idealize.SL.Sem
open Cert.Rows Cert.Inproj Cert.Reference4Ideal.Read

variable (x : FVec Ideal S4x4096x1024 .f32) (p : IVec S4x4096 32) (g : FVec Ideal S2x1024 .f32)
  (cw : FVec Ideal S1x512x3 .f32) (w : FVec Ideal S1x1024x3072 .f32)

/-- The token at row `s` of sequence `b`. -/
abbrev tok (b : Fin 4) (s : Fin 4096) : Fin 16384 := ⟨b * 4096 + s, by omega⟩

theorem tok_row (b : Fin 4) (s : Fin 4096) : (⟨tok b s / 4096, by omega⟩ : Fin 4) = b := Fin.ext (by dsimp only; omega)
theorem tok_col (b : Fin 4) (s : Fin 4096) : (⟨tok b s % 4096, by omega⟩ : Fin 4096) = s := Fin.ext (by dsimp only; omega)

/-- The projected row of the token at row `s` of sequence `b`. -/
theorem projected_at (b : Fin 4) (s : Fin 4096) (j : Fin 3072) :
    val_main_v16 (F := Ideal) x g w (ix3 b s j) = projected x g w (tok b s) j := by
  unfold projected
  rw [tok_row, tok_col]
  pointwise [val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]
  rfl

/-- Its angles, as the queries take them. -/
theorem angle_at (b : Fin 4) (s : Fin 4096) (i : Fin 8) : val_main_v39 (F := Ideal) p (ix3 b s i) = angle p (tok b s) i := by
  unfold angle freq
  rw [tok_row, tok_col]
  pointwise [val_main_v39, val_main_v38, val_main_v37, val_main_v36, val_main_v35, val_main_v34, val_main_v33, val_main_v32,
    val_main_v31, val_main_v30, val_main_v29, val_main_v28, val_main_v27, val_main_v26, val_main_v25, val_main_v24,
    val_main_cst_2, val_main_cst_3, val_main_cst_4, val_main_cst_5]
  rfl

/-- Its angles, as the keys take them. -/
theorem angle_at' (b : Fin 4) (s : Fin 4096) (i : Fin 8) : val_main_v74 (F := Ideal) p (ix3 b s i) = angle p (tok b s) i := by
  rw [← angle_at]
  rfl

/-- The two ways to write an element of a turned head. -/
theorem head_at (z : Fin 3072 → EReal) (a : Fin 8 → EReal) (o : Fin 6) (i : Fin 4) (c : Fin 2) (e : Fin 64) (j : Fin 512) (hj : j.val = i * 128 + c * 64 + e) :
    turned (fun j => z ⟨o * 512 + j, by omega⟩) a j
      = if h : e.val < 8 then z ⟨o * 512 + (i * 128 + c * 64 + e), by omega⟩ * Ideal.cos (a ⟨e, h⟩)
            - z ⟨o * 512 + (i * 128 + c * 64 + (8 + e)), by omega⟩ * Ideal.sin (a ⟨e, h⟩)
        else if h : e.val - 8 < 8 then z ⟨o * 512 + (i * 128 + c * 64 + (8 + (e - 8))), by omega⟩ * Ideal.cos (a ⟨e - 8, h⟩)
            + z ⟨o * 512 + (i * 128 + c * 64 + (e - 8)), by omega⟩ * Ideal.sin (a ⟨e - 8, h⟩)
        else z ⟨o * 512 + (i * 128 + c * 64 + (16 + (e - 8 - 8))), by omega⟩ := by
  have e0 : j.val % 64 = e := by omega
  unfold turned
  simp only [e0]
  by_cases h : e.val < 8
  · have e1 : i.val * 128 + c * 64 + (8 + e) = j + 8 := by omega
    simp only [dif_pos h, e1, ← hj]
  have e1 : i.val * 128 + c * 64 + (8 + (e - 8)) = j := by omega
  have e2 : i.val * 128 + c * 64 + (e - 8) = j - 8 := by omega
  by_cases h' : e.val < 16
  · simp only [dif_neg h, dif_pos h', dif_pos (show e.val - 8 < 8 by omega), e1, e2]
  have e3 : i.val * 128 + c * 64 + (16 + (e - 8 - 8)) = j := by omega
  simp only [dif_neg h, dif_neg h', dif_neg (show ¬ e.val - 8 < 8 by omega), e3]

/-- A turned query, by head pair `a`, half `c` and element `e`. -/
theorem query_at (b : Fin 4) (s : Fin 4096) (a : Fin 4) (c : Fin 2) (e : Fin 64) (n : Fin 16384) (j : Fin 512) (hn : tok b s = n) (hj : j.val = a * 128 + c * 64 + e) :
    val_main_v57 (F := Ideal) x p g w (ix5 b s a c e) = query x p g w n j := by
  subst hn
  refine Eq.trans ?_ (head_at (projected x g w (tok b s)) (angle p (tok b s)) 0 a c e j hj).symm
  simp only [← angle_at, ← projected_at]
  pointwise [val_main_v57, val_main_v56, val_main_v55, val_main_v54, val_main_v53, val_main_v52, val_main_v51, val_main_v50,
    val_main_v49, val_main_v48, val_main_v47, val_main_v46, val_main_v45, val_main_v44, val_main_v43, val_main_v42, val_main_v41,
    val_main_v40, val_main_v23, val_main_v17]

/-- A turned key, likewise. -/
theorem key_at (b : Fin 4) (s : Fin 4096) (a : Fin 4) (c : Fin 2) (e : Fin 64) (n : Fin 16384) (j : Fin 512) (hn : tok b s = n) (hj : j.val = a * 128 + c * 64 + e) :
    val_main_v92 (F := Ideal) x p g w (ix5 b s a c e) = key x p g w n j := by
  subst hn
  refine Eq.trans ?_ (head_at (projected x g w (tok b s)) (angle p (tok b s)) 1 a c e j hj).symm
  simp only [← angle_at', ← projected_at]
  pointwise [val_main_v92, val_main_v91, val_main_v90, val_main_v89, val_main_v88, val_main_v87, val_main_v86, val_main_v85,
    val_main_v84, val_main_v83, val_main_v82, val_main_v81, val_main_v80, val_main_v79, val_main_v78, val_main_v77, val_main_v76,
    val_main_v75, val_main_v58, val_main_v18]

/-- The reference's queries. -/
theorem queries_at (j : Fin 512) (n : Fin 16384) : val_main_v119 (F := Ideal) x p g w (ix2 j n) = query x p g w n j := by
  pointwise [val_main_v119, val_main_v118, val_main_v117]
  refine query_at x p g w _ _ _ _ _ n j (Fin.ext ?_) ?_ <;> dsimp only <;> omega

/-- The reference's keys. -/
theorem keys_at (n : Fin 16384) (j : Fin 512) : val_main_v125 (F := Ideal) x p g w (ix2 n j) = key x p g w n j := by
  pointwise [val_main_v125, val_main_v124]
  refine key_at x p g w _ _ _ _ _ n j (Fin.ext ?_) ?_ <;> dsimp only <;> omega

/-- A column of the projected row, from its column and token. -/
theorem part_at (b : Fin 4) (s : Fin 4096) (j : Fin 3072) (o : Fin 6) (n : Fin 16384) (k : Fin 512) (hn : b.val * 4096 + s = n) (hk : j.val = o * 512 + k) :
    val_main_v16 (F := Ideal) x g w (ix3 b s j) = part x g w o n k := by
  rw [projected_at]
  unfold part
  exact congrArg₂ (projected x g w) (Fin.ext hn) (Fin.ext hk)

/-- The reference's values. -/
theorem values_at (h : Fin 4) (u : Fin 64) (e : Fin 144) (r : Fin 256) : val_main_v126 (F := Ideal) x g w (ix4 h u e r) = value x g w h u e r := by
  unfold value
  pointwise [val_main_v126, val_main_v123, val_main_v122, val_main_v121, val_main_v120, val_main_v19, val_main_cst_10]
  by_cases h' : e.val < 128
  · rw [dif_pos h', dif_pos h']
    exact part_at x g w _ _ _ 2 _ _ (by dsimp only; omega) (by dsimp only; omega)
  · rw [dif_neg h', dif_neg h']

/-- What the convolution pads: zero in front of the products. -/
theorem padded_at (b : Fin 4) (s : Fin 4098) (j : Fin 512) :
    val_main_v95 (F := Ideal) x g w (ix3 b s j) = if h : s.val < 2 then 0 else
      val_main_v16 (F := Ideal) x g w (ix3 b ⟨s - 2, by omega⟩ ⟨2048 + j, by omega⟩) * val_main_v16 (F := Ideal) x g w (ix3 b ⟨s - 2, by omega⟩ ⟨2560 + j, by omega⟩) := by
  pointwise [val_main_v95, val_main_v93, val_main_v21, val_main_v22, val_main_call0_v0, val_main_c]
  by_cases h : s.val < 2
  · rw [dif_neg (by omega), dif_pos h]
    change (((0#32 : BitVec 32).toInt : ℝ) : EReal) = 0
    norm_num
  · rw [dif_pos (by omega), dif_neg h]

/-- So its rows from row `2 - k` on are the products of `k` tokens before. -/
theorem shifted_at (b : Fin 4) (m : Fin 4098) (j : Fin 512) (k : ℕ) (n : Fin 16384) (hk : k ≤ 2) (hn : b.val * 4096 + m + k = n + 2)
    (hm : m.val + k < 4098) (hm' : 2 ≤ m.val + k) : val_main_v95 (F := Ideal) x g w (ix3 b m j) = earlier x g w k n j := by
  rw [padded_at]
  unfold earlier
  by_cases h : m.val < 2
  · rw [dif_pos h, if_pos (by omega)]
  · rw [dif_neg h, if_neg (by omega)]
    exact congrArg₂ (· * ·) (part_at x g w _ _ _ 4 _ _ (by dsimp only; omega) rfl) (part_at x g w _ _ _ 5 _ _ (by dsimp only; omega) rfl)

/-- The reference's convolution. -/
theorem conv_at (n : Fin 16384) (j : Fin 512) : val_main_v128 (F := Ideal) x g cw w (ix2 n j) = conv x g cw w n j := by
  unfold conv tapped
  pointwise [val_main_v128, val_main_v127, val_main_v116, val_main_v115, val_main_v114, val_main_v113, val_main_v112, val_main_v111,
    val_main_v110, val_main_v109, val_main_v108, val_main_v107, val_main_v106, val_main_v105, val_main_v104, val_main_v103,
    val_main_v102, val_main_v101, val_main_v100, val_main_v99, val_main_v98, val_main_v97, val_main_v96, val_main_v94, val_main_v20]
  rw [shifted_at x g w _ _ j 2 n (by omega) (by dsimp only; omega) (by dsimp only; omega) (by dsimp only; omega),
    shifted_at x g w _ _ j 1 n (by omega) (by dsimp only; omega) (by dsimp only; omega) (by dsimp only; omega),
    shifted_at x g w _ _ j 0 n (by omega) (by dsimp only; omega) (by dsimp only; omega) (by dsimp only; omega),
    part_at x g w _ _ _ 3 n j (by dsimp only; omega) rfl]
  refine congrArg _ ?_
  rw [mul_comm _ (cw (ix3 0 j 0)), mul_comm _ (cw (ix3 0 j 1)), mul_comm _ (cw (ix3 0 j 2)), add_comm (cw (ix3 0 j 0) * _), add_comm, ← add_assoc]

end Cert.Reference4Ideal.RefValue
end
-- ==== Proof.InprojClaim.lean ====
/- The claims about the first call and its reference. -/
module

public import proofs.«01_k».proof.Defs
public import proofs.«01_k».proof.Proof.Gen.Kernel4.Frame
public import proofs.«01_k».proof.Proof.InprojArray
public import proofs.«01_k».proof.Proof.InprojRef
public import Idealize.ShloMosaic.Lib.Claim
public import Idealize.ShloMosaic.Lib.Quiescent

@[expose] public section

set_option maxRecDepth 16384

noncomputable section

namespace Cert.Proof.InprojClaims

open Idealize.ShloMosaic Idealize.ShloMosaic.TcCoe Idealize.SL.Sem

/-- The kernel terminates, keeps its arguments and leaves every semaphore at zero. -/
theorem frame_kernel : Cert.quiescent_Kernel4 := fun m ρ _ => Cert.Kernel4.Gen.frame m ρ
/-- So does its idealization. -/
theorem frame_ideal : Cert.quiescent_Kernel4Ideal := fun m ρ _ => Cert.Kernel4Ideal.Gen.frame m ρ
/-- The reference terminates and keeps its arguments; it declares no semaphore. -/
theorem frame_ref : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- The idealization rewrote nothing. -/
theorem preserves : Cert.preserves_Kernel4_Kernel4Ideal := trivial

/-- From arguments that agree, the reference's result arrays are the kernel's. -/
theorem algebraic : Cert.algebraic_Kernel4Ideal_Reference4Ideal := by
  intro m ρ m' ρ' _ hagree
  refine ⟨fun c => Cert.Kernel4Ideal.Array.A6 m c, fun c => Cert.Kernel4Ideal.Array.A7 m c, fun c => Cert.Kernel4Ideal.Array.A8 m c,
    fun c => Cert.Kernel4Ideal.Array.A9 m c, ?_, ?_⟩
  · refine (θ_run Cert.Kernel4Ideal.defs _ _).mono (fun _ h c => ?_) (Cert.Kernel4Ideal.Value.run_blocks (F := Ideal) m ρ)
    obtain ⟨e0, e1, e2, e3, kept⟩ := h c
    exact ⟨e0.trans (Cert.Kernel4Ideal.Array.final6 m c), e1.trans (Cert.Kernel4Ideal.Array.final7 m c),
      e2.trans (Cert.Kernel4Ideal.Array.final8 m c), e3.trans (Cert.Kernel4Ideal.Array.final9 m c), kept⟩
  refine (θ_run Cert.Reference4Ideal.defs _ _).mono (fun _ h c => ?_)
    (Cert.Reference4Ideal.Value.run (F := Ideal) m' ρ')
  obtain ⟨e0, e1, e2, e3, kept⟩ := h c
  obtain ⟨h0, h1, h2, h3, h4⟩ := hagree c
  refine ⟨e0.trans ?_, e1.trans ?_, e2.trans ?_, e3.trans ?_, kept⟩
  · rw [Cert.Reference4Ideal.Read.val_main_v119_eq, h0, h1, h2, h4]
    funext i
    exact (congrArg _ (eq_ix2 i)).trans (Cert.Reference4Ideal.RefValue.queries_at _ _ _ _ (i 0) (i 1))
  · rw [Cert.Reference4Ideal.Read.val_main_v125_eq, h0, h1, h2, h4]
    funext i
    exact (congrArg _ (eq_ix2 i)).trans (Cert.Reference4Ideal.RefValue.keys_at _ _ _ _ (i 0) (i 1))
  · rw [Cert.Reference4Ideal.Read.val_main_v126_eq, h0, h2, h4]
    funext i
    exact (congrArg _ (eq_ix4 i)).trans (Cert.Reference4Ideal.RefValue.values_at _ _ _ (i 0) (i 1) (i 2) (i 3))
  · rw [Cert.Reference4Ideal.Read.val_main_v128_eq, h0, h2, h3, h4]
    funext i
    exact (congrArg _ (eq_ix2 i)).trans (Cert.Reference4Ideal.RefValue.conv_at _ _ _ _ (i 0) (i 1))

end Cert.Proof.InprojClaims
end
-- ==== Proof.AttnSteps.lean ====
/- The attention kernel's steps over its scratch buffers: what each step leaves there, as a recursion over the tiles of keys. -/
module

public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

namespace Cert.Kernel5Ideal.Steps

open Cert.Kernel5Ideal Cert.Kernel5Ideal.Gen Idealize.ShloMosaic Idealize.ShloMosaic.TcCoe Idealize.SL.Sem

/-- A row of running maxima, after a tile's scores `S`. -/
def maxima (S : FVec Ideal S1x512x512 .f32) (M : FVec Ideal S1x1x512 .f32) : FVec Ideal S1x512 .f32 :=
  maximumf (shapeCast S1x512 M (by decide))
    (shapeCast S1x512 (multiReduction .maximumf [0] S512 (shapeCast S512x512 S (by decide)) 0xFF800000#32 (by decide) (.inl rfl) rfl) (by decide))

/-- … as it is stored. -/
def keepMax (S : FVec Ideal S1x512x512 .f32) (M : FVec Ideal S1x1x512 .f32) : FVec Ideal S1x1x512 .f32 :=
  shapeCast S1x1x512 (maxima S M) (by decide)

/-- What the sums so far are scaled by. -/
def ratio (S : FVec Ideal S1x512x512 .f32) (M : FVec Ideal S1x1x512 .f32) : FVec Ideal S1x1x512 .f32 :=
  shapeCast S1x1x512 (exp2 (subf (shapeCast S1x512 M (by decide)) (maxima S M))) (by decide)

/-- The weights of a tile. -/
def weights (S : FVec Ideal S1x512x512 .f32) (M : FVec Ideal S1x1x512 .f32) : FVec Ideal S1x512x512 .bf16 :=
  shapeCast S1x512x512 (truncf .bf16 (exp2 (subf (shapeCast S512x512 S (by decide)) (broadcastTo S512x512 (maxima S M) (by decide)))) (by decide)) (by decide)

/-- The sums after a tile, its keys in two halves. -/
def sums (V₀ V₁ : FVec Ideal S144x256 .bf16) (P₀ P₁ : FVec Ideal S1x256x512 .bf16) (R : FVec Ideal S1x1x512 .f32) (A : FVec Ideal S1x144x512 .f32) : FVec Ideal S1x144x512 .f32 :=
  shapeCast S1x144x512 (addf (mulf (broadcastTo S144x512 (shapeCast S1x512 R (by decide)) (by decide)) (shapeCast S144x512 A (by decide)))
    (addf (matmul dot_S144x256_S256x512_S144x512_1_0_0_1_n_n none V₀ (shapeCast S256x512 P₀ (by decide)) (constant S144x512 .f32 0#32))
      (matmul dot_S144x256_S256x512_S144x512_1_0_0_1_n_n none V₁ (shapeCast S256x512 P₁ (by decide)) (constant S144x512 .f32 0#32)))) (by decide)

/-- A tile's scores from its two halves. -/
def join (a b : FVec Ideal S1x256x512 .f32) : FVec Ideal S1x512x512 .f32 := fun i =>
  if h : (i 1 : ℕ) < 256 then a (ix3 0 ⟨i 1, h⟩ (i 2)) else b (ix3 0 ⟨(i 1 : ℕ) - 256, by have : (i 1 : ℕ) < 512 := (i 1).isLt; omega⟩ (i 2))

/-- Half `u` of a tile's weights. -/
def cut (u : Fin 2) (P : FVec Ideal S1x512x512 .bf16) : FVec Ideal S1x256x512 .bf16 := fun i =>
  P (ix3 0 ⟨256 * (u : ℕ) + (i 1 : ℕ), by have : (i 1 : ℕ) < 256 := (i 1).isLt; omega⟩ (i 2))

/-- Scores of 256 keys. -/
def plain (K : FVec Ideal S256x128 .bf16) (Q : FVec Ideal S1x128x512 .bf16) : FVec Ideal S256x512 .f32 :=
  matmul dot_S256x128_S128x512_S256x512_1_0_0_1_n_n none K (shapeCast S128x512 Q (by decide)) (constant S256x512 .f32 0#32)

/-- … with the keys after the query left out, the first of them key `w` of the tile. -/
def masked (w : BitVec 32) (K : FVec Ideal S256x128 .bf16) (Q : FVec Ideal S1x128x512 .bf16) : FVec Ideal S256x512 .f32 :=
  select (cmpi .sle (addi (iota .tc S256x512 32 [0] (by decide)) (broadcast S256x512 w)) (iota .tc S256x512 32 [1] (by decide)))
    (plain K Q) (broadcast S256x512 (FloatOps.ofBits .f32 0xFF800000#32 : Ideal .f32))

/-- 256 keys from the keys of a sequence. -/
def keys (x : FVec Ideal S4096x128 .bf16) (j : ℕ) : FVec Ideal S256x128 .bf16 := fun i =>
  x (ix2 ⟨(256 * j + (i 0 : ℕ)) % 4096, Nat.mod_lt _ (by norm_num)⟩ (i 1))

/-- 256 keys' values, and a row of ones below them. -/
def values (x : FVec Ideal S1x16x144x256 .bf16) (j : ℕ) : FVec Ideal S144x256 .bf16 := fun i =>
  x (ix4 0 ⟨j % 16, Nat.mod_lt _ (by norm_num)⟩ (i 0) (i 1))

/-- The scores of tile `n`, the tile `last` masked. -/
def tile (x : FVec Ideal S4096x128 .bf16) (Q : FVec Ideal S1x128x512 .bf16) (last n : ℕ) : FVec Ideal S1x512x512 .f32 :=
  if n = last then join (shapeCast S1x256x512 (masked 0#32 (keys x (2 * n)) Q) (by decide)) (shapeCast S1x256x512 (masked 256#32 (keys x (2 * n + 1)) Q) (by decide))
  else join (shapeCast S1x256x512 (plain (keys x (2 * n)) Q) (by decide)) (shapeCast S1x256x512 (plain (keys x (2 * n + 1)) Q) (by decide))

/-- The running maxima before tile `n`. -/
def maxAt (S : ℕ → FVec Ideal S1x512x512 .f32) : ℕ → FVec Ideal S1x1x512 .f32
  | 0 => fun _ => Ideal.ofBits .f32 0xFF800000#32
  | n + 1 => keepMax (S n) (maxAt S n)

/-- The running sums before tile `n`. -/
def sumAt (S : ℕ → FVec Ideal S1x512x512 .f32) (V : ℕ → FVec Ideal S144x256 .bf16) : ℕ → FVec Ideal S1x144x512 .f32
  | 0 => fun _ => Ideal.ofBits .f32 0#32
  | n + 1 => sums (V (2 * n)) (V (2 * n + 1)) (cut 0 (weights (S n) (maxAt S n))) (cut 1 (weights (S n) (maxAt S n))) (ratio (S n) (maxAt S n)) (sumAt S V n)

/-! ## Reading the buffers back -/

section Read

variable {sp : Space} {s : Shape} {e : EltTy}

theorem read_second (v : View sig .tc sp s e) (r q : Rect s) (w : r.shape.Idx → Elt Ideal e) (x : q.shape.Idx → Elt Ideal e) (L : List (View.Piece (Elt Ideal) s e))
    (h : LoadRect.disj r q.toLoadRect = true) : v.readCov (⟨r, w⟩ :: ⟨q, x⟩ :: L) q.toLoadRect = x := by
  rw [View.readCov_skip _ _ _ _ _ h, View.readCov_cons_toLoadRect]

theorem read_inside (v : View sig .tc sp s e) (r : Rect s) (w : r.shape.Idx → Elt Ideal e) (L : List (View.Piece (Elt Ideal) s e)) (B : LoadRect s) (j : B.shape.Idx)
    (k : r.shape.Idx) (h : B.idx j = r.emb k) : v.readCov (⟨r, w⟩ :: L) B j = w k := by
  rw [View.readCov_eq_canon']; show View.canon _ (B.idx j) = _; rw [h, View.canon_cons_emb]

theorem read_same (v : View sig .tc sp s e) (L : List (View.Piece (Elt Ideal) s e)) (B C : LoadRect s) (j : B.shape.Idx) (k : C.shape.Idx)
    (h : B.idx j = C.idx k) : v.readCov L B j = v.readCov L C k := by
  rw [View.readCov_eq_canon', View.readCov_eq_canon']; show View.canon _ (B.idx j) = View.canon _ (C.idx k); rw [h]

theorem idx_emb (o o' z z' : Fin s.rank → ℕ) (i i') (j : (Rect.unit (s := s) o z i).shape.Idx) (k : (Rect.unit (s := s) o' z' i').shape.Idx)
    (h : ∀ a, o a + (j a : ℕ) = o' a + (k a : ℕ)) : (Rect.unit (s := s) o z i).toLoadRect.idx j = (Rect.unit (s := s) o' z' i').emb k :=
  funext fun a => Fin.ext (by show o a + 1 * (j a : ℕ) = o' a + 1 * (k a : ℕ); rw [one_mul, one_mul]; exact h a)

variable {n₀ n₁ n₂ z z' : ℕ}

theorem idx_three (c p q : ℕ) (inb : ∀ a : Fin 3, (![c, p, 0] : Fin 3 → ℕ) a + (![1, z, n₂] : Fin 3 → ℕ) a ≤ (![n₀, n₁, n₂] : Fin 3 → ℕ) a) (inb' : ∀ a : Fin 3, (![c, q, 0] : Fin 3 → ℕ) a + (![1, z', n₂] : Fin 3 → ℕ) a ≤ (![n₀, n₁, n₂] : Fin 3 → ℕ) a) (j : (⟨3, ![1, z', n₂]⟩ : Shape).Idx) (k : Fin z) (h : q + (j (1 : Fin 3) : ℕ) = p + (k : ℕ)) :
    (Rect.unit (s := ⟨3, ![n₀, n₁, n₂]⟩) ![c, q, 0] ![1, z', n₂] inb').toLoadRect.idx j = (Rect.unit (s := ⟨3, ![n₀, n₁, n₂]⟩) ![c, p, 0] ![1, z, n₂] inb).emb (ix3 0 k (j (2 : Fin 3))) := by
  refine idx_emb (s := ⟨3, ![n₀, n₁, n₂]⟩) ![c, q, 0] ![c, p, 0] ![1, z', n₂] ![1, z, n₂] inb' inb j (ix3 0 k (j (2 : Fin 3))) fun (a : Fin 3) => ?_
  match a with
  | 0 => exact congrArg (c + ·) (show (j (0 : Fin 3) : ℕ) = 0 from Nat.lt_one_iff.mp (j (0 : Fin 3)).isLt)
  | 1 => exact h
  | 2 => rfl

/-- A load inside the last store's rectangle, rows of three-dimensional buffers. -/
theorem inside_three (v : View sig .tc sp ⟨3, ![n₀, n₁, n₂]⟩ e) (c p q : ℕ) (inb : ∀ a : Fin 3, (![c, p, 0] : Fin 3 → ℕ) a + (![1, z, n₂] : Fin 3 → ℕ) a ≤ (![n₀, n₁, n₂] : Fin 3 → ℕ) a) (inb' : ∀ a : Fin 3, (![c, q, 0] : Fin 3 → ℕ) a + (![1, z', n₂] : Fin 3 → ℕ) a ≤ (![n₀, n₁, n₂] : Fin 3 → ℕ) a) (w : (⟨3, ![1, z, n₂]⟩ : Shape).Idx → Elt Ideal e) (L : List (View.Piece (Elt Ideal) ⟨3, ![n₀, n₁, n₂]⟩ e))
    (j : (⟨3, ![1, z', n₂]⟩ : Shape).Idx) (k : Fin z) (h : q + (j (1 : Fin 3) : ℕ) = p + (k : ℕ)) :
    v.readCov (⟨Rect.unit (s := ⟨3, ![n₀, n₁, n₂]⟩) ![c, p, 0] ![1, z, n₂] inb, w⟩ :: L) (Rect.unit (s := ⟨3, ![n₀, n₁, n₂]⟩) ![c, q, 0] ![1, z', n₂] inb').toLoadRect j = w (ix3 0 k (j (2 : Fin 3))) :=
  read_inside (s := ⟨3, ![n₀, n₁, n₂]⟩) v (Rect.unit (s := ⟨3, ![n₀, n₁, n₂]⟩) ![c, p, 0] ![1, z, n₂] inb) w L (Rect.unit (s := ⟨3, ![n₀, n₁, n₂]⟩) ![c, q, 0] ![1, z', n₂] inb').toLoadRect j (ix3 0 k (j (2 : Fin 3)))
    (idx_three c p q inb inb' j k h)

/-- Two pieces of rows stored one after the other, read as one. -/
theorem join_three (v : View sig .tc sp ⟨3, ![n₀, n₁, n₂]⟩ e) (c : ℕ) (inb : ∀ a : Fin 3, (![c, 0, 0] : Fin 3 → ℕ) a + (![1, z', n₂] : Fin 3 → ℕ) a ≤ (![n₀, n₁, n₂] : Fin 3 → ℕ) a) (i₀ : ∀ a : Fin 3, (![c, 0, 0] : Fin 3 → ℕ) a + (![1, z, n₂] : Fin 3 → ℕ) a ≤ (![n₀, n₁, n₂] : Fin 3 → ℕ) a) (i₁ : ∀ a : Fin 3, (![c, z, 0] : Fin 3 → ℕ) a + (![1, z, n₂] : Fin 3 → ℕ) a ≤ (![n₀, n₁, n₂] : Fin 3 → ℕ) a) (w₀ w₁ : (⟨3, ![1, z, n₂]⟩ : Shape).Idx → Elt Ideal e) (L : List (View.Piece (Elt Ideal) ⟨3, ![n₀, n₁, n₂]⟩ e))
    (hd : LoadRect.disj (Rect.unit (s := ⟨3, ![n₀, n₁, n₂]⟩) ![c, z, 0] ![1, z, n₂] i₁) (Rect.unit (s := ⟨3, ![n₀, n₁, n₂]⟩) ![c, 0, 0] ![1, z, n₂] i₀).toLoadRect = true)
    (j : (⟨3, ![1, z', n₂]⟩ : Shape).Idx) (hz : z' = z + z) :
    v.readCov (⟨Rect.unit (s := ⟨3, ![n₀, n₁, n₂]⟩) ![c, z, 0] ![1, z, n₂] i₁, w₁⟩ :: ⟨Rect.unit (s := ⟨3, ![n₀, n₁, n₂]⟩) ![c, 0, 0] ![1, z, n₂] i₀, w₀⟩ :: L)
        (Rect.unit (s := ⟨3, ![n₀, n₁, n₂]⟩) ![c, 0, 0] ![1, z', n₂] inb).toLoadRect j
      = if h : (j (1 : Fin 3) : ℕ) < z then w₀ (ix3 0 ⟨j (1 : Fin 3), h⟩ (j (2 : Fin 3)))
        else w₁ (ix3 0 ⟨(j (1 : Fin 3) : ℕ) - z, by have : (j (1 : Fin 3) : ℕ) < z' := (j (1 : Fin 3)).isLt; omega⟩ (j (2 : Fin 3))) := by
  split_ifs with h
  · refine (read_same v _ (Rect.unit (s := ⟨3, ![n₀, n₁, n₂]⟩) ![c, 0, 0] ![1, z', n₂] inb).toLoadRect (Rect.unit (s := ⟨3, ![n₀, n₁, n₂]⟩) ![c, 0, 0] ![1, z, n₂] i₀).toLoadRect j (ix3 0 ⟨j (1 : Fin 3), h⟩ (j (2 : Fin 3))) (idx_three c 0 0 i₀ inb j ⟨j (1 : Fin 3), h⟩ rfl)).trans ?_
    rw [View.readCov_skip _ _ _ _ _ hd, View.readCov_cons_toLoadRect]
  · exact inside_three v c z 0 i₁ inb w₁ _ j ⟨(j (1 : Fin 3) : ℕ) - z, _⟩ (by show 0 + (j (1 : Fin 3) : ℕ) = z + ((j (1 : Fin 3) : ℕ) - z); omega)

end Read

/-- Half 0 of the maxima. -/
abbrev m0 : Rect S2x1x512 := Rect.unit ![0, 0, 0] S1x1x512.size (by decide)
/-- Half 1 of the maxima. -/
abbrev m1 : Rect S2x1x512 := Rect.unit ![1, 0, 0] S1x1x512.size (by decide)
/-- Half 0 of the scores. -/
abbrev s0 : Rect S2x512x512 := Rect.unit ![0, 0, 0] S1x512x512.size (by decide)
/-- Half 1 of the scores. -/
abbrev s1 : Rect S2x512x512 := Rect.unit ![1, 0, 0] S1x512x512.size (by decide)
/-- Half 0 of the sums. -/
abbrev a0 : Rect S2x144x512 := Rect.unit ![0, 0, 0] S1x144x512.size (by decide)
/-- Half 1 of the sums. -/
abbrev a1 : Rect S2x144x512 := Rect.unit ![1, 0, 0] S1x144x512.size (by decide)
/-- Half 0 of the queries. -/
abbrev q0 : Rect S2x128x512 := Rect.unit ![0, 0, 0] S1x128x512.size (by decide)
/-- Half 1 of the queries. -/
abbrev q1 : Rect S2x128x512 := Rect.unit ![1, 0, 0] S1x128x512.size (by decide)
/-- Piece 0 of half 0 of the scores. -/
abbrev p00 : Rect S2x512x512 := Rect.unit ![0, 0, 0] S1x256x512.size (by decide)
/-- Piece 1 of half 0 of the scores. -/
abbrev p01 : Rect S2x512x512 := Rect.unit ![0, 256, 0] S1x256x512.size (by decide)
/-- Piece 0 of half 1 of the scores. -/
abbrev p10 : Rect S2x512x512 := Rect.unit ![1, 0, 0] S1x256x512.size (by decide)
/-- Piece 1 of half 1 of the scores. -/
abbrev p11 : Rect S2x512x512 := Rect.unit ![1, 256, 0] S1x256x512.size (by decide)

/-- Both halves of the queries, as stored. -/
structure AtQ (Q : Fin 2 → FVec Ideal S1x128x512 .bf16) {sp : Space} (v : View sig .tc sp S2x128x512 .bf16) (L : List (View.Piece (Elt Ideal) S2x128x512 .bf16)) : Prop where
  zero : v.readCov L q0.toLoadRect = Q 0
  one : v.readCov L q1.toLoadRect = Q 1

/-- Both halves' scores of tile `n`. -/
structure AtS (S : Fin 2 → ℕ → FVec Ideal S1x512x512 .f32) (n : ℕ) {sp : Space} (v : View sig .tc sp S2x512x512 .f32) (L : List (View.Piece (Elt Ideal) S2x512x512 .f32)) : Prop where
  zero : v.readCov L s0.toLoadRect = S 0 n
  one : v.readCov L s1.toLoadRect = S 1 n

/-- Both halves' running maxima before tile `n`. -/
structure AtM (S : Fin 2 → ℕ → FVec Ideal S1x512x512 .f32) (n : ℕ) {sp : Space} (v : View sig .tc sp S2x1x512 .f32) (L : List (View.Piece (Elt Ideal) S2x1x512 .f32)) : Prop where
  zero : v.readCov L m0.toLoadRect = maxAt (S 0) n
  one : v.readCov L m1.toLoadRect = maxAt (S 1) n

/-- Both halves' scaling at tile `n`. -/
structure AtR (S : Fin 2 → ℕ → FVec Ideal S1x512x512 .f32) (n : ℕ) {sp : Space} (v : View sig .tc sp S2x1x512 .f32) (L : List (View.Piece (Elt Ideal) S2x1x512 .f32)) : Prop where
  zero : v.readCov L m0.toLoadRect = ratio (S 0 n) (maxAt (S 0) n)
  one : v.readCov L m1.toLoadRect = ratio (S 1 n) (maxAt (S 1) n)

/-- Both halves' weights of tile `n`, each read in two pieces. -/
structure AtP (S : Fin 2 → ℕ → FVec Ideal S1x512x512 .f32) (n : ℕ) {sp : Space} (v : View sig .tc sp S2x512x512 .bf16) (L : List (View.Piece (Elt Ideal) S2x512x512 .bf16)) : Prop where
  zero : v.readCov L p00.toLoadRect = cut 0 (weights (S 0 n) (maxAt (S 0) n))
    ∧ v.readCov L p01.toLoadRect = cut 1 (weights (S 0 n) (maxAt (S 0) n))
  one : v.readCov L p10.toLoadRect = cut 0 (weights (S 1 n) (maxAt (S 1) n))
    ∧ v.readCov L p11.toLoadRect = cut 1 (weights (S 1 n) (maxAt (S 1) n))

/-- Both halves' running sums before tile `n`. -/
structure AtA (S : Fin 2 → ℕ → FVec Ideal S1x512x512 .f32) (V : ℕ → FVec Ideal S144x256 .bf16) (n : ℕ) {sp : Space} (v : View sig .tc sp S2x144x512 .f32) (L : List (View.Piece (Elt Ideal) S2x144x512 .f32)) : Prop where
  zero : v.readCov L a0.toLoadRect = sumAt (S 0) V n
  one : v.readCov L a1.toLoadRect = sumAt (S 1) V n

/-! ## The steps -/

section Step

variable {S : Fin 2 → ℕ → FVec Ideal S1x512x512 .f32} {V : ℕ → FVec Ideal S144x256 .bf16} {n : ℕ}
  {vS : View sig .tc .vmem S2x512x512 .f32} {LS : List (View.Piece (Elt Ideal) S2x512x512 .f32)}
  {vM : View sig .tc .vmem S2x1x512 .f32} {LM : List (View.Piece (Elt Ideal) S2x1x512 .f32)}
  {vR : View sig .tc .vmem S2x1x512 .f32} {LR : List (View.Piece (Elt Ideal) S2x1x512 .f32)}
  {vP : View sig .tc .vmem S2x512x512 .bf16} {LP : List (View.Piece (Elt Ideal) S2x512x512 .bf16)}
  {vA : View sig .tc .vmem S2x144x512 .f32} {LA : List (View.Piece (Elt Ideal) S2x144x512 .f32)}

/-- The buffer of maxima filled with −∞. -/
theorem max_zero : AtM S 0 vM [⟨Rect.unit ![0, 0, 0] S2x1x512.size (by decide), k0_pay784 (F := Ideal)⟩] :=
  ⟨(View.readCov_fill _ _ _ _ _ (by decide)).trans (by unfold k0_pay784; funext j; rfl),
   (View.readCov_fill _ _ _ _ _ (by decide)).trans (by unfold k0_pay784; funext j; rfl)⟩

/-- The buffer of sums filled with zero. -/
theorem sum_zero : AtA S V 0 vA [⟨Rect.unit ![0, 0, 0] S2x144x512.size (by decide), k0_pay785 (F := Ideal)⟩] :=
  ⟨(View.readCov_fill _ _ _ _ _ (by decide)).trans (by unfold k0_pay785; funext j; rfl),
   (View.readCov_fill _ _ _ _ _ (by decide)).trans (by unfold k0_pay785; funext j; rfl)⟩

/-- The maximum of half 1 is read after half 0's has been stored. -/
theorem max_second (hm : AtM S n vM LM) (w : FVec Ideal S1x1x512 .f32) :
    vM.readCov (⟨m0, w⟩ :: LM) m1.toLoadRect = maxAt (S 1) n := by
  rw [View.readCov_skip _ _ _ _ _ (by decide), hm.2]

/-- The maxima of both halves stored. -/
theorem max_step (hs : AtS S n vS LS) (hm : AtM S n vM LM) :
    AtM S (n + 1) vM
      (⟨m1,
        keepMax (vS.readCov LS s1.toLoadRect)
          (vM.readCov (⟨m0,
            keepMax (vS.readCov LS s0.toLoadRect) (vM.readCov LM m0.toLoadRect)⟩ :: LM)
            m1.toLoadRect)⟩ ::
        ⟨m0,
            keepMax (vS.readCov LS s0.toLoadRect) (vM.readCov LM m0.toLoadRect)⟩ :: LM) := by
  constructor
  · rw [read_second _ _ _ _ _ _ (by decide), hs.1, hm.1]; rfl
  · rw [View.readCov_cons_toLoadRect, max_second hm, hs.2]; rfl

/-- The scaling of both halves stored. -/
theorem ratio_step (hs : AtS S n vS LS) (hm : AtM S n vM LM) (w : FVec Ideal S1x1x512 .f32) :
    AtR S n vR
      (⟨m1,
        ratio (vS.readCov LS s1.toLoadRect)
          (vM.readCov (⟨m0, w⟩ :: LM) m1.toLoadRect)⟩ ::
        ⟨m0,
            ratio (vS.readCov LS s0.toLoadRect) (vM.readCov LM m0.toLoadRect)⟩ :: LR) := by
  constructor
  · rw [read_second _ _ _ _ _ _ (by decide), hs.1, hm.1]
  · rw [View.readCov_cons_toLoadRect, max_second hm, hs.2]

theorem cut_read (c u p : ℕ) (hp : p = 256 * u) (hu : u < 2) (inb inb') (w : FVec Ideal S1x512x512 .bf16) (L : List (View.Piece (Elt Ideal) S2x512x512 .bf16)) :
    vP.readCov (⟨Rect.unit (s := S2x512x512) ![c, 0, 0] S1x512x512.size inb, w⟩ :: L) (Rect.unit (s := S2x512x512) ![c, p, 0] S1x256x512.size inb').toLoadRect = cut ⟨u, hu⟩ w := by
  subst hp
  funext (j : S1x256x512.Idx)
  exact inside_three vP c 0 (256 * u) inb inb' w L j ⟨256 * u + (j (1 : Fin 3) : ℕ), _⟩ (Nat.zero_add _).symm

/-- The weights of both halves stored. -/
theorem weights_step (hs : AtS S n vS LS) (hm : AtM S n vM LM) (w : FVec Ideal S1x1x512 .f32) :
    AtP S n vP
      (⟨s1,
        weights (vS.readCov LS s1.toLoadRect)
          (vM.readCov (⟨m0, w⟩ :: LM) m1.toLoadRect)⟩ ::
        ⟨s0,
            weights (vS.readCov LS s0.toLoadRect) (vM.readCov LM m0.toLoadRect)⟩ :: LP) := by
  refine ⟨⟨?_, ?_⟩, ?_, ?_⟩
  · rw [View.readCov_skip _ _ _ _ _ (by decide), hs.1, hm.1]; exact cut_read 0 0 0 rfl (by decide) _ _ _ _
  · rw [View.readCov_skip _ _ _ _ _ (by decide), hs.1, hm.1]; exact cut_read 0 1 256 rfl (by decide) _ _ _ _
  · rw [max_second hm, hs.2]; exact cut_read 1 0 0 rfl (by decide) _ _ _ _
  · rw [max_second hm, hs.2]; exact cut_read 1 1 256 rfl (by decide) _ _ _ _

/-- Two pieces of a half's scores, read as one. -/
theorem join_read (c : ℕ) (inb i₀ i₁) (w₀ w₁ : FVec Ideal S1x256x512 .f32) (L : List (View.Piece (Elt Ideal) S2x512x512 .f32))
    (hd : LoadRect.disj (Rect.unit (s := S2x512x512) ![c, 256, 0] S1x256x512.size i₁) (Rect.unit (s := S2x512x512) ![c, 0, 0] S1x256x512.size i₀).toLoadRect = true) :
    vS.readCov (⟨Rect.unit (s := S2x512x512) ![c, 256, 0] S1x256x512.size i₁, w₁⟩ :: ⟨Rect.unit (s := S2x512x512) ![c, 0, 0] S1x256x512.size i₀, w₀⟩ :: L)
      (Rect.unit (s := S2x512x512) ![c, 0, 0] S1x512x512.size inb).toLoadRect = join w₀ w₁ := by
  funext (j : S1x512x512.Idx)
  exact join_three vS c inb i₀ i₁ w₀ w₁ L hd j rfl

/-- Both halves' scores stored, piece by piece. -/
theorem scores_read (w₀₀ w₀₁ w₁₀ w₁₁ : FVec Ideal S1x256x512 .f32) (h₀ : S 0 n = join w₀₀ w₀₁) (h₁ : S 1 n = join w₁₀ w₁₁) :
    AtS S n vS (⟨p11, w₁₁⟩ :: ⟨p10, w₁₀⟩ :: ⟨p01, w₀₁⟩ :: ⟨p00, w₀₀⟩ :: LS) := by
  constructor
  · rw [View.readCov_skip _ _ _ _ _ (by decide), View.readCov_skip _ _ _ _ _ (by decide), h₀]
    exact join_read 0 _ _ _ _ _ _ (by decide)
  · rw [h₁]
    exact join_read 1 _ _ _ _ _ _ (by decide)

variable {vQ : View sig .tc .vmem S2x128x512 .bf16} {LQ : List (View.Piece (Elt Ideal) S2x128x512 .bf16)}
  {arg6 : Memref sig .tc .vmem S4096x128 .bf16} (harg6 : arg6.IsWhole) (x : FVec Ideal S4096x128 .bf16) {Q : Fin 2 → FVec Ideal S1x128x512 .bf16} {last : ℕ}
  {arg7 : Memref sig .tc .vmem S1x16x144x256 .bf16} (harg7 : arg7.IsWhole) (y : FVec Ideal S1x16x144x256 .bf16)

theorem keys_read (o j : ℕ) (inb) (h : o = 256 * j) (hj : j < 16) :
    shapeCast (s := S256x128) S256x128 (View.readAt (Elt Ideal) arg6.view (Rect.unit (s := S4096x128) ![o, 0] S256x128.size inb).toLoadRect (harg6.unread x)) (by decide) = keys x j := by
  subst h
  funext i
  idx_vars i
  pointwise [keys, View.readAt_eq_ld, harg6.read_unread]
  refine congrArg (fun a => x (ix2 a i1)) (Fin.ext ?_)
  have : (i0 : ℕ) < 256 := i0.isLt
  exact (Nat.mod_eq_of_lt (by omega)).symm

theorem values_read (o j : ℕ) (inb) (h : o = j) (hj : j < 16) :
    shapeCast (s := S1x1x144x256) S144x256 (View.readAt (Elt Ideal) arg7.view (Rect.unit (s := S1x16x144x256) ![0, o, 0, 0] S1x1x144x256.size inb).toLoadRect (harg7.unread y)) (by decide) = values y j := by
  subst h
  funext i
  idx_vars i
  pointwise [values, View.readAt_eq_ld, harg7.read_unread]
  exact congrArg (fun a => y (ix4 0 a i0 i1)) (Fin.ext (Nat.mod_eq_of_lt hj).symm)

/-- The scores of a tile whose keys all come before the queries. -/
theorem scores_plain {o0 o1 : ℕ} (i0) (i1) (hn : n < last) (hl : last < 8) (h0 : o0 = 256 * (2 * n)) (h1 : o1 = 256 * (2 * n + 1)) (hq : AtQ Q vQ LQ) :
    AtS (fun c => tile x (Q c) last) n vS (
      ⟨p11, shapeCast S1x256x512 (plain (shapeCast (s := S256x128) S256x128 (View.readAt (Elt Ideal) arg6.view (Rect.unit (s := S4096x128) ![o1, 0] S256x128.size i1).toLoadRect (harg6.unread x)) (by decide)) (vQ.readCov LQ q1.toLoadRect)) (by decide)⟩ ::
      ⟨p10, shapeCast S1x256x512 (plain (shapeCast (s := S256x128) S256x128 (View.readAt (Elt Ideal) arg6.view (Rect.unit (s := S4096x128) ![o0, 0] S256x128.size i0).toLoadRect (harg6.unread x)) (by decide)) (vQ.readCov LQ q1.toLoadRect)) (by decide)⟩ ::
      ⟨p01, shapeCast S1x256x512 (plain (shapeCast (s := S256x128) S256x128 (View.readAt (Elt Ideal) arg6.view (Rect.unit (s := S4096x128) ![o1, 0] S256x128.size i1).toLoadRect (harg6.unread x)) (by decide)) (vQ.readCov LQ q0.toLoadRect)) (by decide)⟩ ::
      ⟨p00, shapeCast S1x256x512 (plain (shapeCast (s := S256x128) S256x128 (View.readAt (Elt Ideal) arg6.view (Rect.unit (s := S4096x128) ![o0, 0] S256x128.size i0).toLoadRect (harg6.unread x)) (by decide)) (vQ.readCov LQ q0.toLoadRect)) (by decide)⟩ :: LS) := by
  rw [keys_read harg6 x o0 (2 * n) i0 h0 (by omega), keys_read harg6 x o1 (2 * n + 1) i1 h1 (by omega), hq.1, hq.2]
  exact scores_read _ _ _ _ (if_neg (by omega)) (if_neg (by omega))

/-- The scores of the tile on the diagonal. -/
theorem scores_diagonal {o0 o1 : ℕ} (i0) (i1) (hl : n < 8) (h0 : o0 = 256 * (2 * n)) (h1 : o1 = 256 * (2 * n + 1)) (hq : AtQ Q vQ LQ) :
    AtS (fun c => tile x (Q c) n) n vS (
      ⟨p11, shapeCast S1x256x512 (masked 256#32 (shapeCast (s := S256x128) S256x128 (View.readAt (Elt Ideal) arg6.view (Rect.unit (s := S4096x128) ![o1, 0] S256x128.size i1).toLoadRect (harg6.unread x)) (by decide)) (vQ.readCov LQ q1.toLoadRect)) (by decide)⟩ ::
      ⟨p10, shapeCast S1x256x512 (masked 0#32 (shapeCast (s := S256x128) S256x128 (View.readAt (Elt Ideal) arg6.view (Rect.unit (s := S4096x128) ![o0, 0] S256x128.size i0).toLoadRect (harg6.unread x)) (by decide)) (vQ.readCov LQ q1.toLoadRect)) (by decide)⟩ ::
      ⟨p01, shapeCast S1x256x512 (masked 256#32 (shapeCast (s := S256x128) S256x128 (View.readAt (Elt Ideal) arg6.view (Rect.unit (s := S4096x128) ![o1, 0] S256x128.size i1).toLoadRect (harg6.unread x)) (by decide)) (vQ.readCov LQ q0.toLoadRect)) (by decide)⟩ ::
      ⟨p00, shapeCast S1x256x512 (masked 0#32 (shapeCast (s := S256x128) S256x128 (View.readAt (Elt Ideal) arg6.view (Rect.unit (s := S4096x128) ![o0, 0] S256x128.size i0).toLoadRect (harg6.unread x)) (by decide)) (vQ.readCov LQ q0.toLoadRect)) (by decide)⟩ :: LS) := by
  rw [keys_read harg6 x o0 (2 * n) i0 h0 (by omega), keys_read harg6 x o1 (2 * n + 1) i1 h1 (by omega), hq.1, hq.2]
  exact scores_read _ _ _ _ (if_pos rfl) (if_pos rfl)

/-- A tile folded into the sums. -/
theorem fold_step {o0 o1 : ℕ} (i0) (i1) (hl : n < 8) (h0 : o0 = 2 * n) (h1 : o1 = 2 * n + 1) (hr : AtR S n vR LR) (hp : AtP S n vP LP) (ha : AtA S (values y) n vA LA) (w : FVec Ideal S1x144x512 .f32)
    (hw : w = sums (shapeCast (s := S1x1x144x256) S144x256 (View.readAt (Elt Ideal) arg7.view (Rect.unit (s := S1x16x144x256) ![0, o0, 0, 0] S1x1x144x256.size i0).toLoadRect (harg7.unread y)) (by decide)) (shapeCast (s := S1x1x144x256) S144x256 (View.readAt (Elt Ideal) arg7.view (Rect.unit (s := S1x16x144x256) ![0, o1, 0, 0] S1x1x144x256.size i1).toLoadRect (harg7.unread y)) (by decide)) (vP.readCov LP p00.toLoadRect) (vP.readCov LP p01.toLoadRect) (vR.readCov LR m0.toLoadRect) (vA.readCov LA a0.toLoadRect)) :
    AtA S (values y) (n + 1) vA
      (⟨a1, sums (shapeCast (s := S1x1x144x256) S144x256 (View.readAt (Elt Ideal) arg7.view (Rect.unit (s := S1x16x144x256) ![0, o0, 0, 0] S1x1x144x256.size i0).toLoadRect (harg7.unread y)) (by decide)) (shapeCast (s := S1x1x144x256) S144x256 (View.readAt (Elt Ideal) arg7.view (Rect.unit (s := S1x16x144x256) ![0, o1, 0, 0] S1x1x144x256.size i1).toLoadRect (harg7.unread y)) (by decide)) (vP.readCov LP p10.toLoadRect) (vP.readCov LP p11.toLoadRect) (vR.readCov LR m1.toLoadRect) (vA.readCov (⟨a0, w⟩ :: LA) a1.toLoadRect)⟩ :: ⟨a0, w⟩ :: LA) := by
  subst hw
  rw [values_read harg7 y o0 (2 * n) i0 h0 (by omega), values_read harg7 y o1 (2 * n + 1) i1 h1 (by omega)]
  constructor
  · rw [read_second _ _ _ _ _ _ (by decide), hp.1.1, hp.1.2, hr.1, ha.1]; rfl
  · rw [View.readCov_cons_toLoadRect, View.readCov_skip _ _ _ _ _ (by decide), hp.2.1, hp.2.2, hr.2, ha.2]; rfl

/-- A load of a whole buffer reads what it holds. -/
theorem whole_read {s : Shape} {e : EltTy} {m : Memref sig .tc .vmem s e} (h : m.IsWhole) (X : s.Idx → Elt Ideal e) (o : Fin s.rank → ℕ) (inb) (ho : o = fun _ => 0) :
    View.readAt (Elt Ideal) m.view (Rect.unit (s := s) o s.size inb).toLoadRect (h.unread X) = X := by
  rw [View.readAt_eq_ld, h.read_unread, View.ld_unit_zero ho]

/-- The two halves of the queries, each with zeros for the other. -/
def halves (q : FVec Ideal S128x512 .bf16) : Fin 2 → FVec Ideal S1x128x512 .bf16 := ![k0_pay782 q, k0_pay783 q]

variable {arg5 : Memref sig .tc .vmem S128x512 .bf16} (harg5 : arg5.IsWhole) (q : FVec Ideal S128x512 .bf16)

/-- The queries' two halves stored. -/
theorem queries (inb) :
    AtQ (halves q) vQ [⟨q1, k0_pay783 (F := Ideal) (View.readAt (Elt Ideal) arg5.view (Rect.unit (s := S128x512) ![0, 0] S128x512.size inb).toLoadRect (harg5.unread q))⟩,
      ⟨q0, k0_pay782 (F := Ideal) (View.readAt (Elt Ideal) arg5.view (Rect.unit (s := S128x512) ![0, 0] S128x512.size inb).toLoadRect (harg5.unread q))⟩] := by
  rw [whole_read harg5 q ![0, 0] inb (by decide)]
  exact ⟨read_second _ _ _ _ _ _ (by decide), View.readCov_cons_toLoadRect _ _ _ _⟩

/-- What the kernel stores, of the four rows of `l`, the scales `g` and the sums of the two halves. -/
def finish (l : FVec Ideal S4x64 .f32) (g : FVec Ideal S128x1 .f32) (A₀ A₁ : FVec Ideal S1x144x512 .f32) : FVec Ideal S512x128 .bf16 :=
  k0_pay795 (F := Ideal)
    (exp (shapeCast S1x1 (multiReduction .add [1] S1
      (mulf (extractStridedSlice S1x64 ![0, 0] (shapeCast S4x64 l (by decide)) (by decide)) (extractStridedSlice S1x64 ![1, 0] (shapeCast S4x64 l (by decide)) (by decide)))
      0x00000000#32 (by decide) (.inl rfl) rfl) (by decide)))
    (extractStridedSlice S1x64 ![2, 0] (shapeCast S4x64 l (by decide)) (by decide)) (extractStridedSlice S1x64 ![3, 0] (shapeCast S4x64 l (by decide)) (by decide)) A₀ A₁ g

/-- What the kernel stores at query tile `last`, of the blocks it reads. -/
def stored (l : FVec Ideal S4x64 .f32) (g : FVec Ideal S128x1 .f32) (q : FVec Ideal S128x512 .bf16) (x : FVec Ideal S4096x128 .bf16) (y : FVec Ideal S1x16x144x256 .bf16) (last : ℕ) : FVec Ideal S512x128 .bf16 :=
  finish l g (sumAt (tile x (halves q 0) last) (values y) (last + 1)) (sumAt (tile x (halves q 1) last) (values y) (last + 1))

variable {arg3 : Memref sig .tc .vmem S4x64 .f32} (harg3 : arg3.IsWhole) (l : FVec Ideal S4x64 .f32) {arg4 : Memref sig .tc .vmem S128x1 .f32} (harg4 : arg4.IsWhole) (g : FVec Ideal S128x1 .f32)

/-- The last step: the block stored, of the sums. -/
theorem finish_step (inb₃) (inb₄) (ha : AtA (fun c => tile x (halves q c) last) (values y) (last + 1) vA LA) (w : FVec Ideal S512x128 .bf16)
    (hw : w = finish (View.readAt (Elt Ideal) arg3.view (Rect.unit (s := S4x64) ![0, 0] S4x64.size inb₃).toLoadRect (harg3.unread l))
      (View.readAt (Elt Ideal) arg4.view (Rect.unit (s := S128x1) ![0, 0] S128x1.size inb₄).toLoadRect (harg4.unread g)) (vA.readCov LA a0.toLoadRect) (vA.readCov LA a1.toLoadRect)) :
    w = stored l g q x y last := by
  rw [hw, whole_read harg3 l ![0, 0] inb₃ (by decide), whole_read harg4 g ![0, 0] inb₄ (by decide), ha.1, ha.2]; rfl

end Step

end Cert.Kernel5Ideal.Steps
end
-- ==== Proof.AttnBlock.lean ====
/- The attention kernel's block at one query and one feature: the steps of `AttnSteps` are the tile-by-tile mean of `AttnMath`. -/
module

public import proofs.«01_k».proof.Proof.AttnSteps
public import proofs.«01_k».proof.Proof.AttnSpec
public import Idealize.ShloMosaic.Lib.Pointwise
public import Idealize.ShloMosaic.Lib.WordCmp

@[expose] public section

set_option maxRecDepth 16384

noncomputable section

namespace Cert.Kernel5Ideal.Steps

open Cert.Kernel5Ideal Cert.Kernel5Ideal.Gen Idealize.ShloMosaic Idealize.ShloMosaic.TcCoe
open Cert.Attn

/-- The start of a maximum. -/
abbrev low : EReal := Ideal.ofBits .f32 0xFF800000#32

theorem low_eq : low = ⊥ := by simp [low, Ideal.ofBits, Ideal.ieee]

theorem maxima_at (S : FVec Ideal S1x512x512 .f32) (M : FVec Ideal S1x1x512 .f32) (b : Fin 512) :
    maxima S M (ix2 0 b) = max (M (ix3 0 0 b)) ((Finset.univ : Finset (Fin 512)).fold max low fun j => S (ix3 0 j b)) := by
  pointwise [maxima]

theorem keepMax_at (S : FVec Ideal S1x512x512 .f32) (M : FVec Ideal S1x1x512 .f32) (b : Fin 512) : keepMax S M (ix3 0 0 b) = maxima S M (ix2 0 b) := by
  pointwise [keepMax]

theorem ratio_at (S : FVec Ideal S1x512x512 .f32) (M : FVec Ideal S1x1x512 .f32) (b : Fin 512) :
    ratio S M (ix3 0 0 b) = Ideal.exp2 (M (ix3 0 0 b) - maxima S M (ix2 0 b)) := by
  pointwise [ratio]
  rfl

theorem weights_at (S : FVec Ideal S1x512x512 .f32) (M : FVec Ideal S1x1x512 .f32) (j b : Fin 512) :
    weights S M (ix3 0 j b) = Ideal.exp2 (S (ix3 0 j b) - maxima S M (ix2 0 b)) := by
  pointwise [weights]
  rfl

theorem sums_at (V₀ V₁ : FVec Ideal S144x256 .bf16) (P₀ P₁ : FVec Ideal S1x256x512 .bf16) (R : FVec Ideal S1x1x512 .f32) (A : FVec Ideal S1x144x512 .f32) (e : Fin 144) (b : Fin 512) :
    sums V₀ V₁ P₀ P₁ R A (ix3 0 e b) = R (ix3 0 0 b) * A (ix3 0 e b) + ((∑ j : Fin 256, V₀ (ix2 e j) * P₀ (ix3 0 j b)) + ∑ j : Fin 256, V₁ (ix2 e j) * P₁ (ix3 0 j b)) := by
  pointwise [sums]

theorem plain_at (K : FVec Ideal S256x128 .bf16) (Q : FVec Ideal S1x128x512 .bf16) (i : Fin 256) (b : Fin 512) :
    plain K Q (ix2 i b) = ∑ d : Fin 128, K (ix2 i d) * Q (ix3 0 d b) := by
  pointwise [plain]

/-- The mask: key `w + i` of the tile is not after query `b` of it. -/
theorem masked_at (w : ℕ) (hw : w ≤ 256) (K : FVec Ideal S256x128 .bf16) (Q : FVec Ideal S1x128x512 .bf16) (i : Fin 256) (b : Fin 512) :
    masked (BitVec.ofNat 32 w) K Q (ix2 i b) = if w + i ≤ (b : ℕ) then plain K Q (ix2 i b) else low := by
  pointwise [masked]
  have hi : (i : ℕ) < 256 := i.isLt
  have hb : (b : ℕ) < 512 := b.isLt
  have e : IntOp.addi (BitVec.ofNat 32 (i : ℕ)) (BitVec.ofNat 32 w) = BitVec.ofNat 32 (w + i) := by
    show BitVec.ofNat 32 (i : ℕ) + BitVec.ofNat 32 w = _
    rw [← BitVec.ofNat_add, Nat.add_comm]
  rw [e]
  unfold Scalar.select
  exact if_congr (WordCmp.cmpi_sle_ofNat_eq_one_iff (by omega) (by omega)) rfl rfl

/-- The scale of the queries. -/
abbrev kappa : ℝ := (Real.log 256)⁻¹

theorem halves_zero (q : FVec Ideal S128x512 .bf16) (d : Fin 128) (b : Fin 512) :
    halves q 0 (ix3 0 d b) = if (d : ℕ) < 64 then q (ix2 d b) * (kappa : EReal) else 0 := by
  show k0_pay782 (F := Ideal) q (ix3 0 d b) = _
  pointwise [k0_pay782, k0_pay780, k0_pay781]
  have hd : (d : ℕ) < 128 := d.isLt
  unfold Scalar.select
  exact if_congr (WordCmp.cmpi_slt_ofNat_eq_one_iff (b := 64) (by omega) (by omega)) rfl rfl

theorem halves_one (q : FVec Ideal S128x512 .bf16) (d : Fin 128) (b : Fin 512) :
    halves q 1 (ix3 0 d b) = if 64 ≤ (d : ℕ) then q (ix2 d b) * (kappa : EReal) else 0 := by
  show k0_pay783 (F := Ideal) q (ix3 0 d b) = _
  pointwise [k0_pay783, k0_pay780, k0_pay781]
  have hd : (d : ℕ) < 128 := d.isLt
  unfold Scalar.select
  exact if_congr (WordCmp.cmpi_sge_ofNat_eq_one_iff (b := 64) (by omega) (by omega)) rfl rfl

/-- A tile's scores at query `b` of query tile `last`. -/
theorem tile_at (x : FVec Ideal S4096x128 .bf16) (Q : FVec Ideal S1x128x512 .bf16) (σ : ℕ → ℝ) (last n : ℕ) (hl : last < 8) (hn : n ≤ last) (b : Fin 512)
    (hσ : ∀ j : Fin 4096, (∑ d : Fin 128, x (ix2 j d) * Q (ix3 0 d b)) = ((σ j : ℝ) : EReal)) (j : Fin 512) :
    tile x Q last n (ix3 0 j b) = tileScore σ (512 * last + b) (512 * n) j := by
  have hj : (j : ℕ) < 512 := j.isLt
  have hb : (b : ℕ) < 512 := b.isLt
  have hk : ∀ (u : ℕ) (i : Fin 256), u < 2 → plain (keys x (2 * n + u)) Q (ix2 i b) = ((σ (512 * n + (256 * u + i)) : ℝ) : EReal) := fun u i hu => by
    have hi : (i : ℕ) < 256 := i.isLt
    have e : (256 * (2 * n + u) + (i : ℕ)) % 4096 = 512 * n + (256 * u + i) := by rw [Nat.mod_eq_of_lt (by omega)]; ring
    rw [plain_at, ← e]
    exact hσ ⟨_, Nat.mod_lt _ (by norm_num)⟩
  have h0 : ∀ (i : Fin 256), plain (keys x (2 * n)) Q (ix2 i b) = ((σ (512 * n + i) : ℝ) : EReal) := fun i => by
    rw [show (i : ℕ) = 256 * 0 + i by omega]; exact hk 0 i (by decide)
  have h1 : ∀ (i : Fin 256), plain (keys x (2 * n + 1)) Q (ix2 i b) = ((σ (512 * n + (256 + i)) : ℝ) : EReal) := fun i => hk 1 i (by decide)
  have hc : ∀ W : FVec Ideal S256x512 .f32, ∀ i : Fin 256, shapeCast S1x256x512 W (by decide) (ix3 0 i b) = W (ix2 i b) := fun W i => by pointwise
  have ht : ∀ A B : FVec Ideal S256x512 .f32, join (shapeCast S1x256x512 A (by decide)) (shapeCast S1x256x512 B (by decide)) (ix3 0 j b)
      = if h : (j : ℕ) < 256 then A (ix2 ⟨j, h⟩ b) else B (ix2 ⟨(j : ℕ) - 256, by omega⟩ b) := fun A B => by
    show (if h : (j : ℕ) < 256 then shapeCast S1x256x512 A (by decide) (ix3 0 ⟨j, h⟩ b) else shapeCast S1x256x512 B (by decide) (ix3 0 ⟨(j : ℕ) - 256, by omega⟩ b)) = _
    simp only [hc]
  have hj' : ¬(j : ℕ) < 256 → 256 + ((j : ℕ) - 256) = j := fun h => by omega
  unfold tile tileScore
  by_cases he : n = last
  · rw [if_pos he, ht]
    split_ifs with h hr hr
    · rw [masked_at 0 (by decide), if_pos (by show 0 + (j : ℕ) ≤ b; omega), h0]
    · rw [masked_at 0 (by decide), if_neg (by show ¬0 + (j : ℕ) ≤ b; omega), low_eq]
    · rw [masked_at 256 (by decide), if_pos (by show 256 + ((j : ℕ) - 256) ≤ b; omega), h1]; simp only [hj' h]
    · rw [masked_at 256 (by decide), if_neg (by show ¬256 + ((j : ℕ) - 256) ≤ b; omega), low_eq]
  · rw [if_neg he, ht, if_pos (show 512 * n + (j : ℕ) ≤ 512 * last + b by omega)]
    split_ifs with h
    · rw [h0]
    · rw [h1]; simp only [hj' h]

/-- The running maximum and sums of a query, the values `v` of one feature. -/
theorem holds_at (x : FVec Ideal S4096x128 .bf16) (Q : FVec Ideal S1x128x512 .bf16) (y : FVec Ideal S1x16x144x256 .bf16) (σ v : ℕ → ℝ) (last : ℕ) (hl : last < 8) (b : Fin 512) (e : Fin 144)
    (hσ : ∀ j : Fin 4096, (∑ d : Fin 128, x (ix2 j d) * Q (ix3 0 d b)) = ((σ j : ℝ) : EReal))
    (hv : ∀ (a : Fin 16) (j : Fin 256), y (ix4 0 a e j) = ((v (256 * a + j) : ℝ) : EReal)) (n : ℕ) (hn : n ≤ last + 1) :
    Holds (maxAt (tile x Q last) n (ix3 0 0 b)) (sumAt (tile x Q last) (values y) n (ix3 0 e b)) (mass (two σ) v (512 * last + b) (512 * n)) := by
  induction n with
  | zero => exact Or.inl ⟨low_eq, by show Ideal.ofBits .f32 0#32 = 0; simp [Ideal.ofBits, Ideal.ieee], mass_zero _ _ _⟩
  | succ n ih =>
    have h := holds_step σ v (512 * last + b) (512 * n) (by omega) _ _ (ih (by omega)) low low_eq
    have hs := tile_at x Q σ last n hl (by omega) b hσ
    have hm : maxima (tile x Q last n) (maxAt (tile x Q last) n) (ix2 0 b) = newMax σ (512 * last + b) (512 * n) low (maxAt (tile x Q last) n (ix3 0 0 b)) := by
      rw [maxima_at]; simp only [hs]; rfl
    have hV : ∀ (u : ℕ) (j : Fin 256), u < 2 → values y (2 * n + u) (ix2 e j) = ((v (512 * n + (256 * u + j)) : ℝ) : EReal) := fun u j hu => by
      have e' : 256 * ((2 * n + u) % 16) + (j : ℕ) = 512 * n + (256 * u + j) := by rw [Nat.mod_eq_of_lt (by omega)]; ring
      rw [← e']; exact hv ⟨(2 * n + u) % 16, Nat.mod_lt _ (by norm_num)⟩ j
    have hW : ∀ (u : Fin 2) (j : Fin 256), cut u (weights (tile x Q last n) (maxAt (tile x Q last) n)) (ix3 0 j b)
        = Ideal.exp2 (tileScore σ (512 * last + b) (512 * n) (256 * u + j) - newMax σ (512 * last + b) (512 * n) low (maxAt (tile x Q last) n (ix3 0 0 b))) := fun u j => by
      rw [← hm]
      refine (weights_at _ _ ⟨256 * (u : ℕ) + (j : ℕ), by omega⟩ b).trans ?_
      rw [hs]
    show Holds (keepMax (tile x Q last n) (maxAt (tile x Q last) n) (ix3 0 0 b)) (sums (values y (2 * n)) (values y (2 * n + 1)) (cut 0 (weights (tile x Q last n) (maxAt (tile x Q last) n))) (cut 1 (weights (tile x Q last n) (maxAt (tile x Q last) n))) (ratio (tile x Q last n) (maxAt (tile x Q last) n)) (sumAt (tile x Q last) (values y) n) (ix3 0 e b)) _
    rw [keepMax_at, sums_at, ratio_at, hm]
    have s0 : (∑ j : Fin 256, values y (2 * n) (ix2 e j) * cut 0 (weights (tile x Q last n) (maxAt (tile x Q last) n)) (ix3 0 j b)) = _ :=
      Finset.sum_congr rfl fun j _ => congrArg₂ (fun u w : EReal => u * w) (hV 0 j (by decide)) (hW 0 j)
    have s1 : (∑ j : Fin 256, values y (2 * n + 1) (ix2 e j) * cut 1 (weights (tile x Q last n) (maxAt (tile x Q last) n)) (ix3 0 j b)) = _ :=
      Finset.sum_congr rfl fun j _ => congrArg₂ (fun u w : EReal => u * w) (hV 1 j (by decide)) (hW 1 j)
    rw [s0, s1]
    exact h

/-- The factor the kernel computes of the four rows. -/
def rowsFactor (l : FVec Ideal S4x64 .f32) : EReal :=
  Ideal.exp (∑ d : Fin 64, l (ix2 0 d) * l (ix2 1 d)) - Ideal.exp (∑ d : Fin 64, l (ix2 2 d) * l (ix2 3 d)) + Ideal.ofBits .f32 0x3E4CCCCD#32

/-- The block stored at query `b` and feature `e`. -/
theorem finish_at (l : FVec Ideal S4x64 .f32) (g : FVec Ideal S128x1 .f32) (A₀ A₁ : FVec Ideal S1x144x512 .f32) (b : Fin 512) (e : Fin 128) :
    finish l g A₀ A₁ (ix2 b e) = scaled (fun e => Ideal.div (A₀ (ix3 0 ⟨e, by omega⟩ b)) (A₀ (ix3 0 128 b)) - rowsFactor l * Ideal.div (A₁ (ix3 0 ⟨e, by omega⟩ b)) (A₁ (ix3 0 128 b)))
      (fun e => g (ix2 e 0)) e := by
  pointwise [finish, k0_pay795, scaled, rowsFactor]

end Cert.Kernel5Ideal.Steps
end
-- ==== Proof.AttnCases.lean ====
/- The attention kernel's result at every point: the steps of `AttnSteps` taken through each of the eight cases of the kernel's run. -/
module

public import proofs.«01_k».proof.Proof.AttnSteps

@[expose] public section

set_option maxRecDepth 16384

noncomputable section

namespace Cert.Kernel5Ideal.Steps

open Cert.Kernel5Ideal Cert.Kernel5Ideal.Gen Idealize.ShloMosaic Idealize.ShloMosaic.TcCoe Idealize.SL.Sem

variable (m : (ℓ : Loc nD τ sig) → Buf (Elt Ideal) ℓ)

/-- The result's block read back after its one store. -/
theorem read_one (inb) (w x : FVec Ideal S512x128 .bf16) (h : w = x) (L : List (View.Piece (Elt Ideal) S512x128 .bf16)) (hL : L = [⟨Rect.unit (s := S512x128) ![0, 0] S512x128.size inb, w⟩]) :
    VO0_5.read (Elt Ideal) (VO0_5.writes (Elt Ideal) VO0_5.junk L) = x := by
  subst hL h
  rw [View.read_writes_junk_eq_canon]
  funext (j : S512x128.Idx)
  have e : j = (Rect.unit (s := S512x128) ![0, 0] S512x128.size inb).emb j := by
    funext (a : Fin 2); refine Fin.ext ?_
    match a with
    | 0 => show (j (0 : Fin 2) : ℕ) = 0 + 1 * (j (0 : Fin 2) : ℕ); omega
    | 1 => show (j (1 : Fin 2) : ℕ) = 0 + 1 * (j (1 : Fin 2) : ℕ); omega
  exact (congrArg _ e).trans (View.canon_cons_emb _ _ _ _)

set_option maxHeartbeats 8000000 in
/-- What the kernel leaves at a point, of the blocks it reads there. -/
theorem outs_at (c : Dev nD) (t : Fin cfg0.N) :
    outsAt0 m c t.val t.isLt = stored (iblk m c 0 t) (iblk m c 1 t) (iblk m c 2 t) (iblk m c 3 t) (iblk m c 4 t) (t.val % 8) := by
  suffices ∀ i, t.val % 8 = i → outsAt0 m c t.val t.isLt = stored (iblk m c 0 t) (iblk m c 1 t) (iblk m c 2 t) (iblk m c 3 t) (iblk m c 4 t) i from this _ rfl
  intro i hi
  obtain h | h | h | h | h | h | h | h : t.val % 8 = 0 ∨ t.val % 8 = 1 ∨ t.val % 8 = 2 ∨ t.val % 8 = 3 ∨ t.val % 8 = 4 ∨ t.val % 8 = 5 ∨ t.val % 8 = 6 ∨ t.val % 8 = 7 := by omega
  all_goals rw [h] at hi; subst hi
  on_goal 1 => rw [outsAt0_A m c t h (by omega) (by omega) (by omega) (by omega) (by omega) (by omega) (by omega)]; unfold out0_A_5
  on_goal 2 => rw [outsAt0_B m c t (by omega) h (by omega) (by omega) (by omega) (by omega) (by omega) (by omega)]; unfold out0_B_5
  on_goal 3 => rw [outsAt0_C m c t (by omega) (by omega) h (by omega) (by omega) (by omega) (by omega) (by omega)]; unfold out0_C_5
  on_goal 4 => rw [outsAt0_D m c t (by omega) (by omega) (by omega) h (by omega) (by omega) (by omega) (by omega)]; unfold out0_D_5
  on_goal 5 => rw [outsAt0_E m c t (by omega) (by omega) (by omega) (by omega) h (by omega) (by omega) (by omega)]; unfold out0_E_5
  on_goal 6 => rw [outsAt0_F m c t (by omega) (by omega) (by omega) (by omega) (by omega) h (by omega) (by omega)]; unfold out0_F_5
  on_goal 7 => rw [outsAt0_G m c t (by omega) (by omega) (by omega) (by omega) (by omega) (by omega) h (by omega)]; unfold out0_G_5
  on_goal 8 => rw [outsAt0_H m c t (by omega) (by omega) (by omega) (by omega) (by omega) (by omega) (by omega) h]; unfold out0_H_5
  all_goals
    refine read_one _ _ _ ?_ _ rfl
    refine finish_step _ _ _ _ _ _ _ _ _ ?_ _ rfl
    repeat' first
      | exact sum_zero
      | exact max_zero
      | exact queries _ _ _
      | refine fold_step _ _ _ _ (by decide) rfl rfl ?_ ?_ ?_ _ rfl
      | refine ratio_step ?_ ?_ _
      | refine weights_step ?_ ?_ _
      | refine max_step ?_ ?_
      | refine scores_plain _ _ _ _ (by decide) (by decide) rfl rfl ?_
      | refine scores_diagonal _ _ _ _ (by decide) rfl rfl ?_

end Cert.Kernel5Ideal.Steps
end
-- ==== Proof.AttnArray.lean ====
/- The attention call's result array: at every token and feature the value the blocks store there. -/
module

public import proofs.«01_k».proof.Proof.Gen.Kernel5Ideal.Value
public import proofs.«01_k».proof.Proof.AttnBlock
public import proofs.«01_k».proof.Proof.AttnCases
public import Idealize.ShloMosaic.Lib.Pipeline.ValueKit
public import Idealize.ShloMosaic.Lib.Claim

@[expose] public section

set_option maxRecDepth 16384

noncomputable section

namespace Cert.Kernel5Ideal.Array

open Cert.Kernel5Ideal Cert.Kernel5Ideal.Gen Cert.Kernel5Ideal.Steps Idealize.ShloMosaic Idealize.ShloMosaic.TcCoe Idealize.SL.Sem
open Cert.Attn

variable (m : (ℓ : Loc nD τ sig) → Buf (Elt Ideal) ℓ)

/-- The block indices of every window at grid point `t`: sequence `t / 32`, head `t / 8 % 4`, query tile `t % 8`. -/
theorem idx : ∀ t : Fin cfg0.N, win0_0.index t = ![0, 0] ∧ win0_1.index t = ![0, 0] ∧ win0_2.index t = ![t.val / 8 % 4, t.val / 32 * 8 + t.val % 8] ∧ win0_3.index t = ![t.val / 32, t.val / 8 % 4] ∧ win0_4.index t = ![t.val / 8 % 4, t.val / 32, 0, 0] ∧ win0_5.index t = ![t.val / 32 * 8 + t.val % 8, t.val / 8 % 4] :=
  (by decide +kernel : ∀ t : Fin grid0.N, _)

abbrev argQ (c : Dev nD) : FVec Ideal S4x4096x4x2x64 .f32 := m ((c : Thread nD τ).loc main_arg0)
abbrev argK (c : Dev nD) : FVec Ideal S4x4096x4x2x64 .f32 := m ((c : Thread nD τ).loc main_arg1)
abbrev argV (c : Dev nD) : FVec Ideal S4x4096x4x128 .f32 := m ((c : Thread nD τ).loc main_arg2)
abbrev argL (c : Dev nD) : FVec Ideal S1x4x64 .f32 := m ((c : Thread nD τ).loc main_arg3)
abbrev argG (c : Dev nD) : FVec Ideal S1x128 .f32 := m ((c : Thread nD τ).loc main_arg4)

/-- The sequence of point `t`. -/
abbrev seq (t : Fin cfg0.N) : Fin 4 := ⟨t.val / 32, by have : t.val < 128 := t.isLt; omega⟩
/-- Its head. -/
abbrev head (t : Fin cfg0.N) : Fin 4 := ⟨t.val / 8 % 4, by omega⟩
/-- Row `b` of its query tile. -/
abbrev row (t : Fin cfg0.N) (b : Fin 512) : Fin 4096 := ⟨512 * (t.val % 8) + b, by omega⟩

/-- The result as a function of device `c`'s arguments. -/
def A (c : Dev nD) : S16384x512.Idx → EReal := fun i =>
  resultAt (argQ m c) (argK m c) (argV m c) (argL m c) (argG m c) ⟨(i 0 : Fin 16384) / 4096, by have : (i 0 : Fin 16384).val < 16384 := (i 0 : Fin 16384).isLt; omega⟩ ⟨(i 1 : Fin 512) / 128, by have : (i 1 : Fin 512).val < 512 := (i 1 : Fin 512).isLt; omega⟩ ⟨(i 0 : Fin 16384) % 4096, by omega⟩ ⟨(i 1 : Fin 512) % 128, by omega⟩

theorem blk0 (c : Dev nD) (t : Fin cfg0.N) (r : Fin 4) (d : Fin 64) : (show FVec Ideal S4x64 .f32 from iblk m c 0 t) (ix2 r d) = argL m c (ix3 0 r d) := by
  blk_point [iblk, V, idx t]
theorem blk1 (c : Dev nD) (t : Fin cfg0.N) (e : Fin 128) : (show FVec Ideal S128x1 .f32 from iblk m c 1 t) (ix2 e 0) = argG m c (ix2 0 e) := by
  blk_point [iblk, V, idx t]
theorem blk2 (c : Dev nD) (t : Fin cfg0.N) (d : Fin 128) (b : Fin 512) : (show FVec Ideal S128x512 .bf16 from iblk m c 2 t) (ix2 d b)
    = argQ m c (ix5 (seq t) (row t b) (head t) ⟨d / 64, by omega⟩ ⟨d % 64, by omega⟩) := by
  blk_point [iblk, V, idx t]
theorem blk3 (c : Dev nD) (t : Fin cfg0.N) (j : Fin 4096) (d : Fin 128) : (show FVec Ideal S4096x128 .bf16 from iblk m c 3 t) (ix2 j d)
    = argK m c (ix5 (seq t) j (head t) ⟨d / 64, by omega⟩ ⟨d % 64, by omega⟩) := by
  blk_point [iblk, V, idx t]
theorem emb4 (t : Fin cfg0.N) (a : Fin 16) (e : Fin 144) (j : Fin 256) : ((View.whole main_v7).slice (win0_4.rect t)).emb (ix4 0 a e j : S1x16x144x256.Idx)
    = (ix4 ⟨t.val / 8 % 4, by omega⟩ ⟨t.val / 32 * 16 + a, by have : t.val < 128 := t.isLt; omega⟩ e j : S4x64x144x256.Idx) := by
  blk_ext [idx t]
theorem blk4 (c : Dev nD) (t : Fin cfg0.N) (a : Fin 16) (e : Fin 128) (j : Fin 256) : (show FVec Ideal S1x16x144x256 .bf16 from iblk m c 4 t) (ix4 0 a ⟨e, by omega⟩ j)
    = argV m c (ix4 (seq t) ⟨256 * a + j, by omega⟩ (head t) e) := by
  have ht : t.val < 128 := t.isLt
  blk_simp [iblk]; rw [emb4]; entry_read; pointwise
  refine congrArg (argV m c) ?_
  congr 1 <;> (refine Fin.ext ?_; simp only []; omega)
theorem blk4_one (c : Dev nD) (t : Fin cfg0.N) (a : Fin 16) (j : Fin 256) : (show FVec Ideal S1x16x144x256 .bf16 from iblk m c 4 t) (ix4 0 a 128 j) = 1 := by
  blk_simp [iblk]; rw [emb4]; entry_read; pointwise
theorem emb5 (t : Fin cfg0.N) (b : Fin 512) (e : Fin 128) : ((cfg0.win 5).blk t).view.emb (ix2 b e : S512x128.Idx)
    = (ix2 ⟨(t.val / 32 * 8 + t.val % 8) * 512 + b, by have : t.val < 128 := t.isLt; omega⟩ ⟨t.val / 8 % 4 * 128 + e, by omega⟩ : S16384x512.Idx) := by
  blk_ext [idx t]

section Reals

variable (c : Dev nD) (hf : Finite (argQ m c) (argK m c) (argV m c) (argL m c)) (t : Fin cfg0.N)
include hf

/-- A product of a query's and a key's entries is the product of two reals. -/
theorem entry_mul (i j : S4x4096x4x2x64.Idx) : argK m c j * (argQ m c i * (kappa : EReal))
    = (((argQ m c i).toReal * (argK m c j).toReal * kappa : ℝ) : EReal) := by
  rw [EReal.coe_mul, EReal.coe_mul, ← hf.q i, ← hf.k j, mul_left_comm, mul_assoc]

/-- The score of row `b` of the tile against key `j`: half `p` of the features is the only part that counts. -/
theorem score_at (p : Fin 2) (Q : FVec Ideal S1x128x512 .bf16) (b : Fin 512)
    (hQ : ∀ d : Fin 128, Q (ix3 0 d b) = if d.val / 64 = p then argQ m c (ix5 (seq t) (row t b) (head t) ⟨d / 64, by omega⟩ ⟨d % 64, by omega⟩) * (kappa : EReal) else 0)
    (j : Fin 4096) : (∑ d : Fin 128, (show FVec Ideal S4096x128 .bf16 from iblk m c 3 t) (ix2 j d) * Q (ix3 0 d b))
      = ((score (argQ m c) (argK m c) (seq t) (head t) p (row t b) j : ℝ) : EReal) := by
  have hj : key j = j := Fin.ext (Nat.mod_eq_of_lt j.isLt)
  have hs : ∀ d : Fin 128, (show FVec Ideal S4096x128 .bf16 from iblk m c 3 t) (ix2 j d) * Q (ix3 0 d b)
      = if d.val / 64 = p then (((argQ m c (ix5 (seq t) (row t b) (head t) ⟨d / 64, by omega⟩ ⟨d % 64, by omega⟩)).toReal * (argK m c (ix5 (seq t) j (head t) ⟨d / 64, by omega⟩ ⟨d % 64, by omega⟩)).toReal * kappa : ℝ) : EReal) else 0 := fun d => by
    rw [blk3, hQ]
    split_ifs
    · exact entry_mul m c hf _ _
    · exact mul_zero _
  rw [Finset.sum_congr rfl fun d _ => hs d, Fin.sum_univ_tiles 2 64 rfl, Finset.sum_eq_single p]
  · rw [score, hj, Finset.sum_mul, coe_sum]
    refine Finset.sum_congr rfl fun d _ => ?_
    have h1 : (p.val * 64 + d.val) / 64 = p := by omega
    have h2 : (p.val * 64 + d.val) % 64 = d := by omega
    simp only [h1, h2, if_true, Fin.eta, kappa]
  · intro p' _ hp
    refine Finset.sum_eq_zero fun d _ => if_neg ?_
    have h1 : (p'.val * 64 + d.val) / 64 = p' := by omega
    exact fun h => hp (Fin.ext (h1.symm.trans h))
  · exact fun h => absurd (Finset.mem_univ _) h

/-- One half's quotient of running sums is the softmax mean of the values. -/
theorem half_at (p : Fin 2) (Q : FVec Ideal S1x128x512 .bf16) (b : Fin 512) (e : Fin 128)
    (hQ : ∀ d : Fin 128, Q (ix3 0 d b) = if d.val / 64 = p then argQ m c (ix5 (seq t) (row t b) (head t) ⟨d / 64, by omega⟩ ⟨d % 64, by omega⟩) * (kappa : EReal) else 0) :
    Ideal.div (sumAt (tile (iblk m c 3 t) Q (t.val % 8)) (values (iblk m c 4 t)) (t.val % 8 + 1) (ix3 0 ⟨e, by omega⟩ b))
        (sumAt (tile (iblk m c 3 t) Q (t.val % 8)) (values (iblk m c 4 t)) (t.val % 8 + 1) (ix3 0 128 b))
      = ((half (argQ m c) (argK m c) (argV m c) (seq t) (head t) p (row t b) e : ℝ) : EReal) := by
  have hl : t.val % 8 < 8 := by omega
  have hσ := score_at m c hf t p Q b hQ
  have ha := holds_at (iblk m c 3 t) Q (iblk m c 4 t) _ (value (argV m c) (seq t) (head t) e) (t.val % 8) hl b ⟨e, by omega⟩ hσ
    (fun a j => by
      rw [value, show key (256 * a + j) = ⟨256 * a + j, by omega⟩ from Fin.ext (Nat.mod_eq_of_lt (by omega)), ← hf.v]
      exact blk4 m c t a e j) _ le_rfl
  have h1 := holds_at (iblk m c 3 t) Q (iblk m c 4 t) _ (fun _ => 1) (t.val % 8) hl b 128 hσ
    (fun a j => (blk4_one m c t a j).trans EReal.coe_one.symm) _ le_rfl
  refine (holds_ratio _ _ _ _ (by omega) _ _ _ ha h1).trans ?_
  have hm : ∀ v : ℕ → ℝ, mass (two (score (argQ m c) (argK m c) (seq t) (head t) p (row t b))) v (512 * (t.val % 8) + b) (512 * (t.val % 8 + 1))
      = mass (two (score (argQ m c) (argK m c) (seq t) (head t) p (row t b))) v (row t b) 4096 := fun v => by
    have h := mass_of_lt (two (score (argQ m c) (argK m c) (seq t) (head t) p (row t b))) v (512 * (t.val % 8) + b) (512 * (t.val % 8 + 1)) (4096 - 512 * (t.val % 8 + 1)) (by omega)
    rw [Nat.add_sub_cancel' (by omega)] at h
    exact h.symm
  rw [hm, hm]; rfl

end Reals

theorem factor_at (c : Dev nD) (t : Fin cfg0.N) : rowsFactor (iblk m c 0 t) = factor (argL m c) := by
  unfold rowsFactor factor
  simp only [blk0]

/-- THE RESULT: on real queries, keys, values and `λ` vectors, the array the call leaves. -/
theorem final (c : Dev nD) (hf : Finite (argQ m c) (argK m c) (argV m c) (argL m c)) : (dats m 0 c).arrAt 5 cfg0.N = A m c := by
  refine (dats m 0 c).arrAt_eq_of_covers 5 _ (by decide +kernel) fun t _ y => ?_
  blk_simp
  rw [after0_5, outs_at]
  idx_vars y
  refine (finish_at _ _ _ _ y0 y1).trans ?_
  rw [emb5]
  have ht : t.val < 128 := t.isLt
  have hA : A m c (ix2 ⟨(t.val / 32 * 8 + t.val % 8) * 512 + y0, by omega⟩ ⟨t.val / 8 % 4 * 128 + y1, by omega⟩)
      = resultAt (argQ m c) (argK m c) (argV m c) (argL m c) (argG m c) (seq t) (head t) (row t y0) y1 := by
    unfold A
    congr 1 <;> (refine Fin.ext ?_; simp only [ix2_0, ix2_1]; omega)
  refine Eq.trans ?_ hA.symm
  unfold resultAt
  refine congrArg₂ (fun x g => scaled x g y1) (funext fun e => ?_) (funext fun e => blk1 m c t e)
  unfold headRow
  rw [half_at m c hf t 0 _ y0 e fun d => ?_, half_at m c hf t 1 _ y0 e fun d => ?_, factor_at]
  · rw [halves_one]; exact if_congr (show 64 ≤ d.val ↔ d.val / 64 = 1 by omega) (congrArg (· * (kappa : EReal)) (blk2 m c t d y0)) rfl
  · rw [halves_zero]; exact if_congr (show d.val < 64 ↔ d.val / 64 = 0 by omega) (congrArg (· * (kappa : EReal)) (blk2 m c t d y0)) rfl

end Cert.Kernel5Ideal.Array
end
-- ==== Proof.AttnRef.lean ====
/- The reference of the attention call, read at a query and a feature. -/
module

public import proofs.«01_k».proof.Proof.Gen.Reference5Ideal.Read
public import proofs.«01_k».proof.Proof.AttnSpec
public import Idealize.ShloMosaic.Lib.WordCmp

@[expose] public section

set_option maxRecDepth 16384

noncomputable section

namespace Cert.Reference5Ideal.RefValue

open Cert.Reference5Ideal Cert.Reference5Ideal.Gen Idealize.ShloMosaic Idealize.ShloMosaic.TcCoe Idealize.SL.Sem
open Cert.Attn Cert.Reference5Ideal.Read

variable (q k : FVec Ideal S4x4096x4x2x64 .f32) (v : FVec Ideal S4x4096x4x128 .f32)
  (lam : FVec Ideal S1x4x64 .f32) (g : FVec Ideal S1x128 .f32)

/-- `λ`. -/
theorem factor_at (i : S_.Idx) : val_main_v16 (F := Ideal) lam i = factor lam := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, factor]

/-- The scaled score of query `r` against key `j`. -/
theorem product_at (b h : Fin 4) (c : Fin 2) (r j : Fin 4096) :
    val_main_v19 (F := Ideal) q k (ix5 b h c r j)
      = ∑ d : Fin 64, q (ix5 b r h c d) * Ideal.ofBits .f32 0x3E000000#32 * k (ix5 b j h c d) := by
  pointwise [val_main_v19, val_main_v18, val_main_v17, val_main_cst_2]

/-- … after the causal mask. -/
theorem masked_at (b h : Fin 4) (c : Fin 2) (r j : Fin 4096) :
    val_main_v26 (F := Ideal) q k (ix5 b h c r j)
      = if (j : ℕ) ≤ r then val_main_v19 (F := Ideal) q k (ix5 b h c r j) else Ideal.ofBits .f32 0xFF800000#32 := by
  pointwise [val_main_v26, val_main_v25, val_main_v24, val_main_v23, val_main_v22, val_main_v21, val_main_v20, val_main_call0_v0, val_main_call0_v1, val_main_call0_v2, val_main_cst_3]
  have hc : IntOp.cmpi .sle (BitVec.ofNat 32 j) (BitVec.ofNat 32 r) = 1 ↔ (j : ℕ) ≤ r :=
    WordCmp.cmpi_sle_ofNat_eq_one_iff (w := 32) (show (j : ℕ) < 2 ^ 31 by omega) (show (r : ℕ) < 2 ^ 31 by omega)
  simp only [Scalar.select, hc]
  rfl

/-- The masked score, from real queries and keys. -/
theorem masked_real (hf : Finite q k v lam) (b h : Fin 4) (c : Fin 2) (r j : Fin 4096) :
    val_main_v26 (F := Ideal) q k (ix5 b h c r j)
      = if (j : ℕ) ≤ r then ((score q k b h c r j * Real.log 2 : ℝ) : EReal) else ⊥ := by
  rw [masked_at, product_at, show Ideal.ofBits .f32 0xFF800000#32 = (⊥ : EReal) from by simp [Ideal.ofBits, Ideal.ieee]]
  split_ifs
  · rw [show (∑ d : Fin 64, q (ix5 b r h c d) * Ideal.ofBits .f32 0x3E000000#32 * k (ix5 b j h c d))
        = ∑ d : Fin 64, (((q (ix5 b r h c d)).toReal * (1 / 8) * (k (ix5 b j h c d)).toReal : ℝ) : EReal) from
        Finset.sum_congr rfl fun d _ => by
          rw [show Ideal.ofBits .f32 0x3E000000#32 = ((1 / 8 : ℝ) : EReal) from by
              simp [Ideal.ofBits, Ideal.ieee, -EReal.coe_mul]; norm_num,
            EReal.coe_mul, EReal.coe_mul, ← hf.q, ← hf.k], ← coe_sum, score_log]
    rw [show key (j : ℕ) = j from Fin.ext (Nat.mod_eq_of_lt j.isLt)]
    congr 1; rw [Finset.sum_mul]; exact Finset.sum_congr rfl fun d _ => by ring
  · rfl

/-- The row's maximum. -/
theorem max_at (b h : Fin 4) (c : Fin 2) (r : Fin 4096) :
    val_main_v29 (F := Ideal) q k (ix4 b h c r)
      = (Finset.univ : Finset (Fin 4096)).fold max (⊥ : EReal) fun j : Fin 4096 => val_main_v26 (F := Ideal) q k (ix5 b h c r j) := by
  have hb : Ideal.ofBits .f32 0xFF800000#32 = (⊥ : EReal) := by simp [Ideal.ofBits, Ideal.ieee]
  have h29 : val_main_v29 (F := Ideal) q k (ix4 b h c r) = max (⊥ : EReal) (val_main_v27 (F := Ideal) q k (ix4 b h c r)) := by
    rw [val_main_v29_apply, val_main_v28_apply, val_main_cst_5_apply, ← hb]; rfl
  rw [h29, max_eq_right bot_le, val_main_v27]
  generalize val_main_v26 (F := Ideal) q k = y
  refine (Host.reduce_eq_fold_single (f := fun a b : EReal => max a b) y _ reducesTo_S4x4x2x4096x4096_S4x4x2x4096_d4 (by decide) h_S_ _).trans ?_
  refine (congrArg (fun z => Finset.fold max z _ (Finset.univ : Finset (Fin 4096))) hb).trans ?_
  refine congrArg (fun f => Finset.fold max (⊥ : EReal) f (Finset.univ : Finset (Fin 4096))) (funext fun j => ?_)
  exact congrArg y (funext fun a => Fin.ext (by match a with | ⟨0, _⟩ => rfl | ⟨1, _⟩ => rfl | ⟨2, _⟩ => rfl | ⟨3, _⟩ => rfl | ⟨4, _⟩ => rfl))

/-- The softmax. -/
theorem softmax_at (b h : Fin 4) (c : Fin 2) (r j : Fin 4096) :
    val_main_v37 (F := Ideal) q k (ix5 b h c r j)
      = Ideal.div (Ideal.exp (val_main_v26 (F := Ideal) q k (ix5 b h c r j) - val_main_v29 (F := Ideal) q k (ix4 b h c r)))
          (∑ j' : Fin 4096, Ideal.exp (val_main_v26 (F := Ideal) q k (ix5 b h c r j') - val_main_v29 (F := Ideal) q k (ix4 b h c r))) := by
  pointwise [val_main_v37, val_main_v36, val_main_v35, val_main_v34, val_main_v33, val_main_v32, val_main_v31, val_main_v30, val_main_cst_6]

theorem idx_0 (b h : Fin 4) (r j : Fin 4096) : idx_main_v38 (idx_main_v39 (ix4 b h r j)) = ix5 b h 0 r j :=
  funext fun a => Fin.ext (by
    match a with
    | ⟨0, _⟩ => show ((((b : ℕ) * 4 + h) * 4096 + r) * 4096 + j) / 67108864 = b; omega
    | ⟨1, _⟩ => show ((((b : ℕ) * 4 + h) * 4096 + r) * 4096 + j) / 16777216 % 4 = h; omega
    | ⟨2, _⟩ => rfl
    | ⟨3, _⟩ => show ((((b : ℕ) * 4 + h) * 4096 + r) * 4096 + j) / 4096 % 4096 = r; omega
    | ⟨4, _⟩ => show ((((b : ℕ) * 4 + h) * 4096 + r) * 4096 + j) % 4096 = j; omega)

theorem idx_1 (b h : Fin 4) (r j : Fin 4096) : idx_main_v40 (idx_main_v41 (ix4 b h r j)) = ix5 b h 1 r j :=
  funext fun a => Fin.ext (by
    match a with
    | ⟨0, _⟩ => show ((((b : ℕ) * 4 + h) * 4096 + r) * 4096 + j) / 67108864 = b; omega
    | ⟨1, _⟩ => show ((((b : ℕ) * 4 + h) * 4096 + r) * 4096 + j) / 16777216 % 4 = h; omega
    | ⟨2, _⟩ => rfl
    | ⟨3, _⟩ => show ((((b : ℕ) * 4 + h) * 4096 + r) * 4096 + j) / 4096 % 4096 = r; omega
    | ⟨4, _⟩ => show ((((b : ℕ) * 4 + h) * 4096 + r) * 4096 + j) % 4096 = j; omega)

/-- One half less `λ` times the other. -/
theorem difference_at (b h : Fin 4) (r j : Fin 4096) :
    val_main_v44 (F := Ideal) q k lam (ix4 b h r j)
      = val_main_v37 (F := Ideal) q k (ix5 b h 0 r j) - factor lam * val_main_v37 (F := Ideal) q k (ix5 b h 1 r j) := by
  rw [val_main_v44_apply, val_main_v43_apply, val_main_v39_apply, val_main_v38_apply, val_main_v41_apply, val_main_v40_apply, val_main_v42_apply, factor_at]
  rw [idx_0, idx_1]; rfl

/-- The two softmaxes against the values. -/
theorem weighed_at (b h : Fin 4) (r : Fin 4096) (e : Fin 128) :
    val_main_v46 (F := Ideal) q k v lam (ix4 b r h e)
      = ∑ j : Fin 4096, v (ix4 b j h e) * (val_main_v37 (F := Ideal) q k (ix5 b h 0 r j) - factor lam * val_main_v37 (F := Ideal) q k (ix5 b h 1 r j)) := by
  rw [val_main_v46_apply, val_main_v45_apply]
  refine Finset.sum_congr rfl fun j _ => ?_
  rw [← difference_at]
  exact congrArg₂ (fun s t : EReal => s * t)
    (congrArg v (funext fun a => Fin.ext (by match a with | ⟨0, _⟩ => rfl | ⟨1, _⟩ => rfl | ⟨2, _⟩ => rfl | ⟨3, _⟩ => rfl)))
    (congrArg (val_main_v44 (F := Ideal) q k lam) (funext fun a => Fin.ext (by match a with | ⟨0, _⟩ => rfl | ⟨1, _⟩ => rfl | ⟨2, _⟩ => rfl | ⟨3, _⟩ => rfl)))

/-- The reference's result at row `n`, column `e`, over its heads' rows. -/
theorem scaled_at (n : Fin 16384) (e : Fin 512) :
    val_main_v64 (F := Ideal) q k v lam g (ix2 n e)
      = scaled (fun d => val_main_v46 (F := Ideal) q k v lam (ix4 ⟨n / 4096, by omega⟩ ⟨n % 4096, by omega⟩ ⟨e / 128, by omega⟩ d))
          (fun d => g (ix2 0 d)) ⟨e % 128, by omega⟩ := by
  pointwise [val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_cst_7, val_main_cst_8, val_main_cst_9, val_main_cst_10]
  rfl

/-- The softmax of a half, from real queries and keys. -/
theorem softmax_real (hf : Finite q k v lam) (b h : Fin 4) (c : Fin 2) (r j : Fin 4096) :
    val_main_v37 (F := Ideal) q k (ix5 b h c r j)
      = (((if (j : ℕ) ≤ r then two (score q k b h c r) j else 0) / mass (two (score q k b h c r)) (fun _ => 1) r 4096 : ℝ) : EReal) := by
  rw [softmax_at, max_at]
  exact softmax_row (by norm_num) (score q k b h c r) r (fun j => val_main_v26 (F := Ideal) q k (ix5 b h c r j))
    (fun j => masked_real q k v lam hf b h c r j) ⊥ rfl j

/-- The reference at query `r`, from real arguments. -/
theorem result_at (hf : Finite q k v lam) (n : Fin 16384) (e : Fin 512) :
    val_main_v64 (F := Ideal) q k v lam g (ix2 n e)
      = resultAt q k v lam g ⟨n / 4096, by omega⟩ ⟨e / 128, by omega⟩ ⟨n % 4096, by omega⟩ ⟨e % 128, by omega⟩ := by
  rw [scaled_at]
  refine congrArg (fun x => scaled x _ _) (funext fun d => ?_)
  rw [weighed_at]
  generalize (⟨n / 4096, _⟩ : Fin 4) = b
  generalize (⟨n % 4096, _⟩ : Fin 4096) = r
  generalize (⟨e / 128, _⟩ : Fin 4) = h
  have hv : ∀ j : Fin 4096, v (ix4 b j h d) = ((value v b h d j : ℝ) : EReal) := fun j => by
    rw [value, show key (j : ℕ) = j from Fin.ext (Nat.mod_eq_of_lt j.isLt), ← hf.v]
  rw [headRow, factor_real lam hf.lam, ← EReal.coe_mul, ← EReal.coe_sub]
  simp only [hv, mul_comm ((value v b h d _ : ℝ) : EReal)]
  rw [diff_row (two (score q k b h 0 r)) (two (score q k b h 1 r)) (value v b h d) r (factor lam).toReal
    (fun j => val_main_v37 (F := Ideal) q k (ix5 b h 0 r j)) (fun j => val_main_v37 (F := Ideal) q k (ix5 b h 1 r j))
    (fun j => softmax_real q k v lam hf b h 0 r j) (fun j => softmax_real q k v lam hf b h 1 r j)]
  simp only [half, mean, mass_of_lt _ _ r 4096 (r + 1) r.isLt]

end Cert.Reference5Ideal.RefValue
end
-- ==== Proof.AttnClaim.lean ====
/- The claims about the attention call and its reference. -/
module

public import proofs.«01_k».proof.Defs
public import proofs.«01_k».proof.Proof.Gen.Kernel5.Frame
public import proofs.«01_k».proof.Proof.Gen.Pre_finite_attention
public import proofs.«01_k».proof.Proof.AttnArray
public import proofs.«01_k».proof.Proof.AttnRef
public import Idealize.ShloMosaic.Lib.Claim
public import Idealize.ShloMosaic.Lib.Quiescent

@[expose] public section

set_option maxRecDepth 16384

noncomputable section

namespace Cert.Proof.AttnClaims

open Idealize.ShloMosaic Idealize.ShloMosaic.TcCoe Idealize.SL.Sem

/-- The kernel terminates, keeps its arguments and leaves every semaphore at zero. -/
theorem frame_kernel : Cert.quiescent_Kernel5 := fun m ρ _ => Cert.Kernel5.Gen.frame m ρ
/-- So does its idealization. -/
theorem frame_ideal : Cert.quiescent_Kernel5Ideal := fun m ρ _ => Cert.Kernel5Ideal.Gen.frame m ρ
/-- The reference terminates and keeps its arguments; it declares no semaphore. -/
theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- On the arrays the result is claimed for, the idealization terminates the same way. -/
theorem frame_ideal_pre : Cert.quiescent_Kernel5Ideal_pre_finite_attention := fun m ρ _ => Cert.Kernel5Ideal.Gen.frame m ρ
/-- And so does the reference. -/
theorem frame_ref_pre : Cert.quiescent_Reference5Ideal_pre_finite_attention := fun m ρ _ => frame_ref m ρ trivial

/-- The scale of the scores is the real number it stands for. -/
theorem preserves : Cert.preserves_Kernel5_Kernel5Ideal :=
  IdealRules.named_const.statement Cert.Kernel5Ideal.κ "q_scale" .f32 0x3E38AA3B#32 (((Real.log 256)⁻¹ : ℝ) : EReal) rfl

/-- The bound of the precondition is `+∞`. -/
theorem inf_eq : Ideal.ofBits .f32 0x7F800000#32 = ⊤ := by simp [Ideal.ofBits, Ideal.ieee]

/-- The precondition says that the queries, keys, values and `λ` vectors are real. -/
theorem finite_of_pre (m : (ℓ : Loc Cert.Kernel5Ideal.nD Cert.Kernel5Ideal.τ Cert.Kernel5Ideal.sig) → Buf (Elt Ideal) ℓ) (h : Cert.Pre_Kernel5Ideal_finite_attention m) (c : Dev Cert.Kernel5Ideal.nD) :
    Cert.Attn.Finite (Cert.Kernel5Ideal.Array.argQ m c) (Cert.Kernel5Ideal.Array.argK m c) (Cert.Kernel5Ideal.Array.argV m c) (Cert.Kernel5Ideal.Array.argL m c) := by
  obtain ⟨hq, hk, hv, hl⟩ := h c
  unfold Cert.Pre_finite_attention.fn at hq hk hv hl
  refine ⟨fun i => Cert.Attn.real_of_abs _ ?_, fun i => Cert.Attn.real_of_abs _ ?_, fun i => Cert.Attn.real_of_abs _ ?_, fun i => Cert.Attn.real_of_abs _ ?_⟩
  · rw [← inf_eq]; exact congrFun hq i
  · rw [← inf_eq]; exact congrFun hk i
  · rw [← inf_eq]; exact congrFun hv i
  · rw [← inf_eq]; exact congrFun hl i

/-- From arguments that agree, the reference's result array is the kernel's. -/
theorem algebraic : Cert.algebraic_Kernel5Ideal_Reference5Ideal_pre_finite_attention := by
  intro m ρ m' ρ' hpre hagree
  refine ⟨fun c => Cert.Kernel5Ideal.Array.A m c, ?_, ?_⟩
  · exact (θ_run Cert.Kernel5Ideal.defs _ _).mono (fun _ h c => ⟨(h c).1.trans (Cert.Kernel5Ideal.Array.final m c (finite_of_pre m hpre c)), (h c).2⟩)
      (Cert.Kernel5Ideal.Value.run_blocks (F := Ideal) m ρ)
  refine (θ_run Cert.Reference5Ideal.defs _ _).mono (fun _ h c => ⟨(h c).1.trans ?_, (h c).2⟩)
    (Cert.Reference5Ideal.Value.run (F := Ideal) m' ρ')
  rw [Cert.Reference5Ideal.Read.val_main_v64_eq]
  obtain ⟨h0, h1, h2, h3, h4⟩ := hagree c
  rw [h0, h1, h2, h3, h4]
  funext i
  exact (congrArg _ (eq_ix2 i)).trans (Cert.Reference5Ideal.RefValue.result_at _ _ _ _ _ (finite_of_pre m hpre c) (i 0) (i 1))

end Cert.Proof.AttnClaims
end
-- ==== Proof.lean ====
/- The claim: each call terminates with its arguments kept, and computes what its reference computes. -/
module

public import proofs.«01_k».proof.Proof.MixClaim
public import proofs.«01_k».proof.Proof.PostClaim
public import proofs.«01_k».proof.Proof.CombineClaim
public import proofs.«01_k».proof.Proof.InprojClaim
public import proofs.«01_k».proof.Proof.AttnClaim

@[expose] public section

/-- Every claim stated, for every call. -/
theorem Cert.Proof.claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Pre_finite_router.Gen.facts,
    Cert.Pre_finite_attention.Gen.facts,
    Cert.Proof.MixClaims.frame_kernel,
    Cert.Proof.MixClaims.frame_ideal,
    Cert.Proof.MixClaims.frame_ideal_pre,
    Cert.Proof.MixClaims.frame_ref,
    Cert.Proof.MixClaims.frame_ref_pre,
    Cert.Proof.PostClaims.frame_kernel,
    Cert.Proof.PostClaims.frame_ideal,
    Cert.Proof.PostClaims.frame_ref,
    Cert.Proof.CombineClaims.frame_kernel,
    Cert.Proof.CombineClaims.frame_ideal,
    Cert.Proof.CombineClaims.frame_ref,
    Cert.Proof.InprojClaims.frame_kernel,
    Cert.Proof.InprojClaims.frame_ideal,
    Cert.Proof.InprojClaims.frame_ref,
    Cert.Proof.AttnClaims.frame_kernel,
    Cert.Proof.AttnClaims.frame_ideal,
    Cert.Proof.AttnClaims.frame_ideal_pre,
    Cert.Proof.AttnClaims.frame_ref,
    Cert.Proof.AttnClaims.frame_ref_pre,
    Cert.Proof.MixClaims.preserves,
    Cert.Proof.MixClaims.algebraic,
    Cert.Proof.PostClaims.preserves,
    Cert.Proof.PostClaims.algebraic,
    Cert.Proof.CombineClaims.preserves,
    Cert.Proof.CombineClaims.algebraic,
    Cert.Proof.InprojClaims.preserves,
    Cert.Proof.InprojClaims.algebraic,
    Cert.Proof.AttnClaims.preserves,
    Cert.Proof.AttnClaims.algebraic⟩
